-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite [hPre_finite : Cert.Pre_finite.Facts] (m : (ℓ : Loc Cert.AttnIdeal.nD Cert.AttnIdeal.τ Cert.AttnIdeal.sig) → Buf (Elt Ideal) ℓ) : Prop :=
  ∀ c : Dev Cert.AttnIdeal.nD,
    (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.1 = (fun _ => 1#1)
    ∧ (Cert.Pre_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5))).2.2.2 = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_finite [hPre_finite : Cert.Pre_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.1 = (fun _ => 1#1)
    ∧ (Cert.Pre_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5))).2.2.2 = (fun _ => 1#1)

def Pre_Ffn0 (m : (ℓ : Loc Cert.Ffn0.nD Cert.Ffn0.τ Cert.Ffn0.sig) → Buf (Elt Bits) ℓ) : Prop :=
  True

def Pre_Ffn0Ideal (m : (ℓ : Loc Cert.Ffn0Ideal.nD Cert.Ffn0Ideal.τ Cert.Ffn0Ideal.sig) → Buf (Elt Ideal) ℓ) : Prop :=
  True

def Pre_Ffn0RefIdeal (m : (ℓ : Loc Cert.Ffn0RefIdeal.nD Cert.Ffn0RefIdeal.τ Cert.Ffn0RefIdeal.sig) → Buf (Elt Ideal) ℓ) : Prop :=
  True

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_Ffn3 (m : (ℓ : Loc Cert.Ffn3.nD Cert.Ffn3.τ Cert.Ffn3.sig) → Buf (Elt Bits) ℓ) : Prop :=
  True

def Pre_Ffn3Ideal (m : (ℓ : Loc Cert.Ffn3Ideal.nD Cert.Ffn3Ideal.τ Cert.Ffn3Ideal.sig) → Buf (Elt Ideal) ℓ) : Prop :=
  True

def Pre_Ffn3RefIdeal (m : (ℓ : Loc Cert.Ffn3RefIdeal.nD Cert.Ffn3RefIdeal.τ Cert.Ffn3RefIdeal.sig) → Buf (Elt Ideal) ℓ) : Prop :=
  True

def Pre_FfnCtx (m : (ℓ : Loc Cert.FfnCtx.nD Cert.FfnCtx.τ Cert.FfnCtx.sig) → Buf (Elt Bits) ℓ) : Prop :=
  True

def Pre_FfnCtxIdeal (m : (ℓ : Loc Cert.FfnCtxIdeal.nD Cert.FfnCtxIdeal.τ Cert.FfnCtxIdeal.sig) → Buf (Elt Ideal) ℓ) : Prop :=
  True

def Pre_FfnCtxRefIdeal (m : (ℓ : Loc Cert.FfnCtxRefIdeal.nD Cert.FfnCtxRefIdeal.τ Cert.FfnCtxRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnIdeal_pre_finite [hAttnIdeal : Cert.AttnIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_AttnRefIdeal_pre_finite [hAttnRefIdeal : Cert.AttnRefIdeal.Facts] [hPre_finite : Cert.Pre_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5))
      ∧ r.2.sem = fun _ => 0)

def quiescent_Ffn0 [hFfn0 : Cert.Ffn0.Facts] : Prop :=
  ∀ (m : (ℓ : Loc Cert.Ffn0.nD Cert.Ffn0.τ Cert.Ffn0.sig) → Buf (Elt Bits) ℓ) (g : Dev Cert.Ffn0.nD → PrngReg), Pre_Ffn0 m →
    θ_run (Cert.Ffn0.defs (F := Bits)) (onTc (τ := Cert.Ffn0.τ) (Cert.Ffn0.main (F := Bits))) ⟨m, fun _ => 0, g⟩ (fun r => (∀ c : Dev Cert.Ffn0.nD,
      r.2.mem ((c.tc : Thread Cert.Ffn0.nD Cert.Ffn0.τ).loc Cert.Ffn0.main_arg0) = m ((c.tc : Thread Cert.Ffn0.nD Cert.Ffn0.τ).loc Cert.Ffn0.main_arg0)
      ∧ r.2.mem ((c.tc : Thread Cert.Ffn0.nD Cert.Ffn0.τ).loc Cert.Ffn0.main_arg1) = m ((c.tc : Thread Cert.Ffn0.nD Cert.Ffn0.τ).loc Cert.Ffn0.main_arg1)
      ∧ r.2.mem ((c.tc : Thread Cert.Ffn0.nD Cert.Ffn0.τ).loc Cert.Ffn0.main_arg2) = m ((c.tc : Thread Cert.Ffn0.nD Cert.Ffn0.τ).loc Cert.Ffn0.main_arg2)
      ∧ r.2.mem ((c.tc : Thread Cert.Ffn0.nD Cert.Ffn0.τ).loc Cert.Ffn0.main_arg3) = m ((c.tc : Thread Cert.Ffn0.nD Cert.Ffn0.τ).loc Cert.Ffn0.main_arg3)
      ∧ r.2.mem ((c.tc : Thread Cert.Ffn0.nD Cert.Ffn0.τ).loc Cert.Ffn0.main_arg4) = m ((c.tc : Thread Cert.Ffn0.nD Cert.Ffn0.τ).loc Cert.Ffn0.main_arg4)
      ∧ r.2.mem ((c.tc : Thread Cert.Ffn0.nD Cert.Ffn0.τ).loc Cert.Ffn0.main_arg5) = m ((c.tc : Thread Cert.Ffn0.nD Cert.Ffn0.τ).loc Cert.Ffn0.main_arg5))
      ∧ r.2.sem = fun _ => 0)

def quiescent_Ffn0Ideal [hFfn0Ideal : Cert.Ffn0Ideal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg), Pre_Ffn0Ideal m →
    θ_run (Cert.Ffn0Ideal.defs (F := Ideal)) (onTc (τ := Cert.Ffn0Ideal.τ) (Cert.Ffn0Ideal.main (F := Ideal))) ⟨m, fun _ => 0, g⟩ (fun r => (∀ c : Dev Cert.Ffn0Ideal.nD,
      r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
      ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
      ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
      ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
      ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
      ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5))
      ∧ r.2.sem = fun _ => 0)

def quiescent_Ffn0RefIdeal [hFfn0RefIdeal : Cert.Ffn0RefIdeal.Facts] : Prop :=
  ∀ (m : (ℓ : Loc Cert.Ffn0RefIdeal.nD Cert.Ffn0RefIdeal.τ Cert.Ffn0RefIdeal.sig) → Buf (Elt Ideal) ℓ) (g : Dev Cert.Ffn0RefIdeal.nD → PrngReg), Pre_Ffn0RefIdeal m →
    θ_run (Cert.Ffn0RefIdeal.defs (F := Ideal)) (onTc (τ := Cert.Ffn0RefIdeal.τ) (Cert.Ffn0RefIdeal.main (F := Ideal))) ⟨m, fun _ => 0, g⟩ (fun r => (∀ c : Dev Cert.Ffn0RefIdeal.nD,
      r.2.mem ((c.tc : Thread Cert.Ffn0RefIdeal.nD Cert.Ffn0RefIdeal.τ).loc Cert.Ffn0RefIdeal.main_arg0) = m ((c.tc : Thread Cert.Ffn0RefIdeal.nD Cert.Ffn0RefIdeal.τ).loc Cert.Ffn0RefIdeal.main_arg0)
      ∧ r.2.mem ((c.tc : Thread Cert.Ffn0RefIdeal.nD Cert.Ffn0RefIdeal.τ).loc Cert.Ffn0RefIdeal.main_arg1) = m ((c.tc : Thread Cert.Ffn0RefIdeal.nD Cert.Ffn0RefIdeal.τ).loc Cert.Ffn0RefIdeal.main_arg1)
      ∧ r.2.mem ((c.tc : Thread Cert.Ffn0RefIdeal.nD Cert.Ffn0RefIdeal.τ).loc Cert.Ffn0RefIdeal.main_arg2) = m ((c.tc : Thread Cert.Ffn0RefIdeal.nD Cert.Ffn0RefIdeal.τ).loc Cert.Ffn0RefIdeal.main_arg2)
      ∧ r.2.mem ((c.tc : Thread Cert.Ffn0RefIdeal.nD Cert.Ffn0RefIdeal.τ).loc Cert.Ffn0RefIdeal.main_arg3) = m ((c.tc : Thread Cert.Ffn0RefIdeal.nD Cert.Ffn0RefIdeal.τ).loc Cert.Ffn0RefIdeal.main_arg3)
      ∧ r.2.mem ((c.tc : Thread Cert.Ffn0RefIdeal.nD Cert.Ffn0RefIdeal.τ).loc Cert.Ffn0RefIdeal.main_arg4) = m ((c.tc : Thread Cert.Ffn0RefIdeal.nD Cert.Ffn0RefIdeal.τ).loc Cert.Ffn0RefIdeal.main_arg4)
      ∧ r.2.mem ((c.tc : Thread Cert.Ffn0RefIdeal.nD Cert.Ffn0RefIdeal.τ).loc Cert.Ffn0RefIdeal.main_arg5) = m ((c.tc : Thread Cert.Ffn0RefIdeal.nD Cert.Ffn0RefIdeal.τ).loc Cert.Ffn0RefIdeal.main_arg5))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1)
      ∧ r.2.mem ((c.tc : Thread Cert.Ffn1.nD Cert.Ffn1.τ).loc Cert.Ffn1.main_arg2) = m ((c.tc : Thread Cert.Ffn1.nD Cert.Ffn1.τ).loc Cert.Ffn1.main_arg2)
      ∧ r.2.mem ((c.tc : Thread Cert.Ffn1.nD Cert.Ffn1.τ).loc Cert.Ffn1.main_arg3) = m ((c.tc : Thread Cert.Ffn1.nD Cert.Ffn1.τ).loc Cert.Ffn1.main_arg3)
      ∧ r.2.mem ((c.tc : Thread Cert.Ffn1.nD Cert.Ffn1.τ).loc Cert.Ffn1.main_arg4) = m ((c.tc : Thread Cert.Ffn1.nD Cert.Ffn1.τ).loc Cert.Ffn1.main_arg4)
      ∧ r.2.mem ((c.tc : Thread Cert.Ffn1.nD Cert.Ffn1.τ).loc Cert.Ffn1.main_arg5) = m ((c.tc : Thread Cert.Ffn1.nD Cert.Ffn1.τ).loc Cert.Ffn1.main_arg5)
      ∧ r.2.mem ((c.tc : Thread Cert.Ffn1.nD Cert.Ffn1.τ).loc Cert.Ffn1.main_arg6) = m ((c.tc : Thread Cert.Ffn1.nD Cert.Ffn1.τ).loc Cert.Ffn1.main_arg6)
      ∧ r.2.mem ((c.tc : Thread Cert.Ffn1.nD Cert.Ffn1.τ).loc Cert.Ffn1.main_arg7) = m ((c.tc : Thread Cert.Ffn1.nD Cert.Ffn1.τ).loc Cert.Ffn1.main_arg7)
      ∧ r.2.mem ((c.tc : Thread Cert.Ffn1.nD Cert.Ffn1.τ).loc Cert.Ffn1.main_arg8) = m ((c.tc : Thread Cert.Ffn1.nD Cert.Ffn1.τ).loc Cert.Ffn1.main_arg8))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
      ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
      ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
      ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
      ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
      ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
      ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
      ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1)
      ∧ r.2.mem ((c.tc : Thread Cert.Ffn1RefIdeal.nD Cert.Ffn1RefIdeal.τ).loc Cert.Ffn1RefIdeal.main_arg2) = m ((c.tc : Thread Cert.Ffn1RefIdeal.nD Cert.Ffn1RefIdeal.τ).loc Cert.Ffn1RefIdeal.main_arg2)
      ∧ r.2.mem ((c.tc : Thread Cert.Ffn1RefIdeal.nD Cert.Ffn1RefIdeal.τ).loc Cert.Ffn1RefIdeal.main_arg3) = m ((c.tc : Thread Cert.Ffn1RefIdeal.nD Cert.Ffn1RefIdeal.τ).loc Cert.Ffn1RefIdeal.main_arg3)
      ∧ r.2.mem ((c.tc : Thread Cert.Ffn1RefIdeal.nD Cert.Ffn1RefIdeal.τ).loc Cert.Ffn1RefIdeal.main_arg4) = m ((c.tc : Thread Cert.Ffn1RefIdeal.nD Cert.Ffn1RefIdeal.τ).loc Cert.Ffn1RefIdeal.main_arg4)
      ∧ r.2.mem ((c.tc : Thread Cert.Ffn1RefIdeal.nD Cert.Ffn1RefIdeal.τ).loc Cert.Ffn1RefIdeal.main_arg5) = m ((c.tc : Thread Cert.Ffn1RefIdeal.nD Cert.Ffn1RefIdeal.τ).loc Cert.Ffn1RefIdeal.main_arg5)
      ∧ r.2.mem ((c.tc : Thread Cert.Ffn1RefIdeal.nD Cert.Ffn1RefIdeal.τ).loc Cert.Ffn1RefIdeal.main_arg6) = m ((c.tc : Thread Cert.Ffn1RefIdeal.nD Cert.Ffn1RefIdeal.τ).loc Cert.Ffn1RefIdeal.main_arg6)
      ∧ r.2.mem ((c.tc : Thread Cert.Ffn1RefIdeal.nD Cert.Ffn1RefIdeal.τ).loc Cert.Ffn1RefIdeal.main_arg7) = m ((c.tc : Thread Cert.Ffn1RefIdeal.nD Cert.Ffn1RefIdeal.τ).loc Cert.Ffn1RefIdeal.main_arg7)
      ∧ r.2.mem ((c.tc : Thread Cert.Ffn1RefIdeal.nD Cert.Ffn1RefIdeal.τ).loc Cert.Ffn1RefIdeal.main_arg8) = m ((c.tc : Thread Cert.Ffn1RefIdeal.nD Cert.Ffn1RefIdeal.τ).loc Cert.Ffn1RefIdeal.main_arg8))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2)
      ∧ r.2.mem ((c.tc : Thread Cert.Ffn2.nD Cert.Ffn2.τ).loc Cert.Ffn2.main_arg3) = m ((c.tc : Thread Cert.Ffn2.nD Cert.Ffn2.τ).loc Cert.Ffn2.main_arg3)
      ∧ r.2.mem ((c.tc : Thread Cert.Ffn2.nD Cert.Ffn2.τ).loc Cert.Ffn2.main_arg4) = m ((c.tc : Thread Cert.Ffn2.nD Cert.Ffn2.τ).loc Cert.Ffn2.main_arg4)
      ∧ r.2.mem ((c.tc : Thread Cert.Ffn2.nD Cert.Ffn2.τ).loc Cert.Ffn2.main_arg5) = m ((c.tc : Thread Cert.Ffn2.nD Cert.Ffn2.τ).loc Cert.Ffn2.main_arg5))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
      ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
      ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
      ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5))
      ∧ r.2.sem = fun _ => 0)

def quiescent_Ffn3 [hFfn3 : Cert.Ffn3.Facts] : Prop :=
  ∀ (m : (ℓ : Loc Cert.Ffn3.nD Cert.Ffn3.τ Cert.Ffn3.sig) → Buf (Elt Bits) ℓ) (g : Dev Cert.Ffn3.nD → PrngReg), Pre_Ffn3 m →
    θ_run (Cert.Ffn3.defs (F := Bits)) (onTc (τ := Cert.Ffn3.τ) (Cert.Ffn3.main (F := Bits))) ⟨m, fun _ => 0, g⟩ (fun r => (∀ c : Dev Cert.Ffn3.nD,
      r.2.mem ((c.tc : Thread Cert.Ffn3.nD Cert.Ffn3.τ).loc Cert.Ffn3.main_arg0) = m ((c.tc : Thread Cert.Ffn3.nD Cert.Ffn3.τ).loc Cert.Ffn3.main_arg0)
      ∧ r.2.mem ((c.tc : Thread Cert.Ffn3.nD Cert.Ffn3.τ).loc Cert.Ffn3.main_arg1) = m ((c.tc : Thread Cert.Ffn3.nD Cert.Ffn3.τ).loc Cert.Ffn3.main_arg1)
      ∧ r.2.mem ((c.tc : Thread Cert.Ffn3.nD Cert.Ffn3.τ).loc Cert.Ffn3.main_arg2) = m ((c.tc : Thread Cert.Ffn3.nD Cert.Ffn3.τ).loc Cert.Ffn3.main_arg2)
      ∧ r.2.mem ((c.tc : Thread Cert.Ffn3.nD Cert.Ffn3.τ).loc Cert.Ffn3.main_arg3) = m ((c.tc : Thread Cert.Ffn3.nD Cert.Ffn3.τ).loc Cert.Ffn3.main_arg3)
      ∧ r.2.mem ((c.tc : Thread Cert.Ffn3.nD Cert.Ffn3.τ).loc Cert.Ffn3.main_arg4) = m ((c.tc : Thread Cert.Ffn3.nD Cert.Ffn3.τ).loc Cert.Ffn3.main_arg4)
      ∧ r.2.mem ((c.tc : Thread Cert.Ffn3.nD Cert.Ffn3.τ).loc Cert.Ffn3.main_arg5) = m ((c.tc : Thread Cert.Ffn3.nD Cert.Ffn3.τ).loc Cert.Ffn3.main_arg5)
      ∧ r.2.mem ((c.tc : Thread Cert.Ffn3.nD Cert.Ffn3.τ).loc Cert.Ffn3.main_arg6) = m ((c.tc : Thread Cert.Ffn3.nD Cert.Ffn3.τ).loc Cert.Ffn3.main_arg6)
      ∧ r.2.mem ((c.tc : Thread Cert.Ffn3.nD Cert.Ffn3.τ).loc Cert.Ffn3.main_arg7) = m ((c.tc : Thread Cert.Ffn3.nD Cert.Ffn3.τ).loc Cert.Ffn3.main_arg7))
      ∧ r.2.sem = fun _ => 0)

def quiescent_Ffn3Ideal [hFfn3Ideal : Cert.Ffn3Ideal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg), Pre_Ffn3Ideal m →
    θ_run (Cert.Ffn3Ideal.defs (F := Ideal)) (onTc (τ := Cert.Ffn3Ideal.τ) (Cert.Ffn3Ideal.main (F := Ideal))) ⟨m, fun _ => 0, g⟩ (fun r => (∀ c : Dev Cert.Ffn3Ideal.nD,
      r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
      ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1)
      ∧ r.2.mem ((c.tc : Thread Cert.Ffn3Ideal.nD Cert.Ffn3Ideal.τ).loc Cert.Ffn3Ideal.main_arg2) = m ((c.tc : Thread Cert.Ffn3Ideal.nD Cert.Ffn3Ideal.τ).loc Cert.Ffn3Ideal.main_arg2)
      ∧ r.2.mem ((c.tc : Thread Cert.Ffn3Ideal.nD Cert.Ffn3Ideal.τ).loc Cert.Ffn3Ideal.main_arg3) = m ((c.tc : Thread Cert.Ffn3Ideal.nD Cert.Ffn3Ideal.τ).loc Cert.Ffn3Ideal.main_arg3)
      ∧ r.2.mem ((c.tc : Thread Cert.Ffn3Ideal.nD Cert.Ffn3Ideal.τ).loc Cert.Ffn3Ideal.main_arg4) = m ((c.tc : Thread Cert.Ffn3Ideal.nD Cert.Ffn3Ideal.τ).loc Cert.Ffn3Ideal.main_arg4)
      ∧ r.2.mem ((c.tc : Thread Cert.Ffn3Ideal.nD Cert.Ffn3Ideal.τ).loc Cert.Ffn3Ideal.main_arg5) = m ((c.tc : Thread Cert.Ffn3Ideal.nD Cert.Ffn3Ideal.τ).loc Cert.Ffn3Ideal.main_arg5)
      ∧ r.2.mem ((c.tc : Thread Cert.Ffn3Ideal.nD Cert.Ffn3Ideal.τ).loc Cert.Ffn3Ideal.main_arg6) = m ((c.tc : Thread Cert.Ffn3Ideal.nD Cert.Ffn3Ideal.τ).loc Cert.Ffn3Ideal.main_arg6)
      ∧ r.2.mem ((c.tc : Thread Cert.Ffn3Ideal.nD Cert.Ffn3Ideal.τ).loc Cert.Ffn3Ideal.main_arg7) = m ((c.tc : Thread Cert.Ffn3Ideal.nD Cert.Ffn3Ideal.τ).loc Cert.Ffn3Ideal.main_arg7))
      ∧ r.2.sem = fun _ => 0)

def quiescent_Ffn3RefIdeal [hFfn3RefIdeal : Cert.Ffn3RefIdeal.Facts] : Prop :=
  ∀ (m : (ℓ : Loc Cert.Ffn3RefIdeal.nD Cert.Ffn3RefIdeal.τ Cert.Ffn3RefIdeal.sig) → Buf (Elt Ideal) ℓ) (g : Dev Cert.Ffn3RefIdeal.nD → PrngReg), Pre_Ffn3RefIdeal m →
    θ_run (Cert.Ffn3RefIdeal.defs (F := Ideal)) (onTc (τ := Cert.Ffn3RefIdeal.τ) (Cert.Ffn3RefIdeal.main (F := Ideal))) ⟨m, fun _ => 0, g⟩ (fun r => (∀ c : Dev Cert.Ffn3RefIdeal.nD,
      r.2.mem ((c.tc : Thread Cert.Ffn3RefIdeal.nD Cert.Ffn3RefIdeal.τ).loc Cert.Ffn3RefIdeal.main_arg0) = m ((c.tc : Thread Cert.Ffn3RefIdeal.nD Cert.Ffn3RefIdeal.τ).loc Cert.Ffn3RefIdeal.main_arg0)
      ∧ r.2.mem ((c.tc : Thread Cert.Ffn3RefIdeal.nD Cert.Ffn3RefIdeal.τ).loc Cert.Ffn3RefIdeal.main_arg1) = m ((c.tc : Thread Cert.Ffn3RefIdeal.nD Cert.Ffn3RefIdeal.τ).loc Cert.Ffn3RefIdeal.main_arg1)
      ∧ r.2.mem ((c.tc : Thread Cert.Ffn3RefIdeal.nD Cert.Ffn3RefIdeal.τ).loc Cert.Ffn3RefIdeal.main_arg2) = m ((c.tc : Thread Cert.Ffn3RefIdeal.nD Cert.Ffn3RefIdeal.τ).loc Cert.Ffn3RefIdeal.main_arg2)
      ∧ r.2.mem ((c.tc : Thread Cert.Ffn3RefIdeal.nD Cert.Ffn3RefIdeal.τ).loc Cert.Ffn3RefIdeal.main_arg3) = m ((c.tc : Thread Cert.Ffn3RefIdeal.nD Cert.Ffn3RefIdeal.τ).loc Cert.Ffn3RefIdeal.main_arg3)
      ∧ r.2.mem ((c.tc : Thread Cert.Ffn3RefIdeal.nD Cert.Ffn3RefIdeal.τ).loc Cert.Ffn3RefIdeal.main_arg4) = m ((c.tc : Thread Cert.Ffn3RefIdeal.nD Cert.Ffn3RefIdeal.τ).loc Cert.Ffn3RefIdeal.main_arg4)
      ∧ r.2.mem ((c.tc : Thread Cert.Ffn3RefIdeal.nD Cert.Ffn3RefIdeal.τ).loc Cert.Ffn3RefIdeal.main_arg5) = m ((c.tc : Thread Cert.Ffn3RefIdeal.nD Cert.Ffn3RefIdeal.τ).loc Cert.Ffn3RefIdeal.main_arg5)
      ∧ r.2.mem ((c.tc : Thread Cert.Ffn3RefIdeal.nD Cert.Ffn3RefIdeal.τ).loc Cert.Ffn3RefIdeal.main_arg6) = m ((c.tc : Thread Cert.Ffn3RefIdeal.nD Cert.Ffn3RefIdeal.τ).loc Cert.Ffn3RefIdeal.main_arg6)
      ∧ r.2.mem ((c.tc : Thread Cert.Ffn3RefIdeal.nD Cert.Ffn3RefIdeal.τ).loc Cert.Ffn3RefIdeal.main_arg7) = m ((c.tc : Thread Cert.Ffn3RefIdeal.nD Cert.Ffn3RefIdeal.τ).loc Cert.Ffn3RefIdeal.main_arg7))
      ∧ r.2.sem = fun _ => 0)

def quiescent_FfnCtx [hFfnCtx : Cert.FfnCtx.Facts] : Prop :=
  ∀ (m : (ℓ : Loc Cert.FfnCtx.nD Cert.FfnCtx.τ Cert.FfnCtx.sig) → Buf (Elt Bits) ℓ) (g : Dev Cert.FfnCtx.nD → PrngReg), Pre_FfnCtx m →
    θ_run (Cert.FfnCtx.defs (F := Bits)) (onTc (τ := Cert.FfnCtx.τ) (Cert.FfnCtx.main (F := Bits))) ⟨m, fun _ => 0, g⟩ (fun r => (∀ c : Dev Cert.FfnCtx.nD,
      r.2.mem ((c.tc : Thread Cert.FfnCtx.nD Cert.FfnCtx.τ).loc Cert.FfnCtx.main_arg0) = m ((c.tc : Thread Cert.FfnCtx.nD Cert.FfnCtx.τ).loc Cert.FfnCtx.main_arg0)
      ∧ r.2.mem ((c.tc : Thread Cert.FfnCtx.nD Cert.FfnCtx.τ).loc Cert.FfnCtx.main_arg1) = m ((c.tc : Thread Cert.FfnCtx.nD Cert.FfnCtx.τ).loc Cert.FfnCtx.main_arg1)
      ∧ r.2.mem ((c.tc : Thread Cert.FfnCtx.nD Cert.FfnCtx.τ).loc Cert.FfnCtx.main_arg2) = m ((c.tc : Thread Cert.FfnCtx.nD Cert.FfnCtx.τ).loc Cert.FfnCtx.main_arg2)
      ∧ r.2.mem ((c.tc : Thread Cert.FfnCtx.nD Cert.FfnCtx.τ).loc Cert.FfnCtx.main_arg3) = m ((c.tc : Thread Cert.FfnCtx.nD Cert.FfnCtx.τ).loc Cert.FfnCtx.main_arg3)
      ∧ r.2.mem ((c.tc : Thread Cert.FfnCtx.nD Cert.FfnCtx.τ).loc Cert.FfnCtx.main_arg4) = m ((c.tc : Thread Cert.FfnCtx.nD Cert.FfnCtx.τ).loc Cert.FfnCtx.main_arg4)
      ∧ r.2.mem ((c.tc : Thread Cert.FfnCtx.nD Cert.FfnCtx.τ).loc Cert.FfnCtx.main_arg5) = m ((c.tc : Thread Cert.FfnCtx.nD Cert.FfnCtx.τ).loc Cert.FfnCtx.main_arg5))
      ∧ r.2.sem = fun _ => 0)

def quiescent_FfnCtxIdeal [hFfnCtxIdeal : Cert.FfnCtxIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg), Pre_FfnCtxIdeal m →
    θ_run (Cert.FfnCtxIdeal.defs (F := Ideal)) (onTc (τ := Cert.FfnCtxIdeal.τ) (Cert.FfnCtxIdeal.main (F := Ideal))) ⟨m, fun _ => 0, g⟩ (fun r => (∀ c : Dev Cert.FfnCtxIdeal.nD,
      r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
      ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
      ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
      ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
      ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
      ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5))
      ∧ r.2.sem = fun _ => 0)

def quiescent_FfnCtxRefIdeal [hFfnCtxRefIdeal : Cert.FfnCtxRefIdeal.Facts] : Prop :=
  ∀ (m : (ℓ : Loc Cert.FfnCtxRefIdeal.nD Cert.FfnCtxRefIdeal.τ Cert.FfnCtxRefIdeal.sig) → Buf (Elt Ideal) ℓ) (g : Dev Cert.FfnCtxRefIdeal.nD → PrngReg), Pre_FfnCtxRefIdeal m →
    θ_run (Cert.FfnCtxRefIdeal.defs (F := Ideal)) (onTc (τ := Cert.FfnCtxRefIdeal.τ) (Cert.FfnCtxRefIdeal.main (F := Ideal))) ⟨m, fun _ => 0, g⟩ (fun r => (∀ c : Dev Cert.FfnCtxRefIdeal.nD,
      r.2.mem ((c.tc : Thread Cert.FfnCtxRefIdeal.nD Cert.FfnCtxRefIdeal.τ).loc Cert.FfnCtxRefIdeal.main_arg0) = m ((c.tc : Thread Cert.FfnCtxRefIdeal.nD Cert.FfnCtxRefIdeal.τ).loc Cert.FfnCtxRefIdeal.main_arg0)
      ∧ r.2.mem ((c.tc : Thread Cert.FfnCtxRefIdeal.nD Cert.FfnCtxRefIdeal.τ).loc Cert.FfnCtxRefIdeal.main_arg1) = m ((c.tc : Thread Cert.FfnCtxRefIdeal.nD Cert.FfnCtxRefIdeal.τ).loc Cert.FfnCtxRefIdeal.main_arg1)
      ∧ r.2.mem ((c.tc : Thread Cert.FfnCtxRefIdeal.nD Cert.FfnCtxRefIdeal.τ).loc Cert.FfnCtxRefIdeal.main_arg2) = m ((c.tc : Thread Cert.FfnCtxRefIdeal.nD Cert.FfnCtxRefIdeal.τ).loc Cert.FfnCtxRefIdeal.main_arg2)
      ∧ r.2.mem ((c.tc : Thread Cert.FfnCtxRefIdeal.nD Cert.FfnCtxRefIdeal.τ).loc Cert.FfnCtxRefIdeal.main_arg3) = m ((c.tc : Thread Cert.FfnCtxRefIdeal.nD Cert.FfnCtxRefIdeal.τ).loc Cert.FfnCtxRefIdeal.main_arg3)
      ∧ r.2.mem ((c.tc : Thread Cert.FfnCtxRefIdeal.nD Cert.FfnCtxRefIdeal.τ).loc Cert.FfnCtxRefIdeal.main_arg4) = m ((c.tc : Thread Cert.FfnCtxRefIdeal.nD Cert.FfnCtxRefIdeal.τ).loc Cert.FfnCtxRefIdeal.main_arg4)
      ∧ r.2.mem ((c.tc : Thread Cert.FfnCtxRefIdeal.nD Cert.FfnCtxRefIdeal.τ).loc Cert.FfnCtxRefIdeal.main_arg5) = m ((c.tc : Thread Cert.FfnCtxRefIdeal.nD Cert.FfnCtxRefIdeal.τ).loc Cert.FfnCtxRefIdeal.main_arg5))
      ∧ r.2.sem = fun _ => 0)

def preserves_Attn_AttnIdeal : Prop :=
  IdealRules.named_const.Statement Cert.AttnIdeal.κ "mask" .f32 0xF149F2CA#32 ⊥

def algebraic_AttnIdeal_AttnRefIdeal_pre_finite [hAttnIdeal : Cert.AttnIdeal.Facts] [hAttnRefIdeal : Cert.AttnRefIdeal.Facts] [hPre_finite : Cert.Pre_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)) →
    ∃ (v0 : (c : Dev Cert.AttnIdeal.nD) → Buf (Elt Ideal) ((c.tc : Thread Cert.AttnIdeal.nD Cert.AttnIdeal.τ).loc Cert.AttnIdeal.main_v16)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v16) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v72) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5))

def preserves_Ffn0_Ffn0Ideal : Prop :=
  True

def algebraic_Ffn0Ideal_Ffn0RefIdeal [hFfn0Ideal : Cert.Ffn0Ideal.Facts] [hFfn0RefIdeal : Cert.Ffn0RefIdeal.Facts] : Prop :=
  ∀ (m : (ℓ : Loc Cert.Ffn0Ideal.nD Cert.Ffn0Ideal.τ Cert.Ffn0Ideal.sig) → Buf (Elt Ideal) ℓ) (g : Dev Cert.Ffn0Ideal.nD → PrngReg)
    (m' : (ℓ : Loc Cert.Ffn0RefIdeal.nD Cert.Ffn0RefIdeal.τ Cert.Ffn0RefIdeal.sig) → Buf (Elt Ideal) ℓ) (g' : Dev Cert.Ffn0RefIdeal.nD → PrngReg), Pre_Ffn0Ideal m →
    (∀ c : Dev Cert.Ffn0Ideal.nD,
      m' ((c.tc : Thread Cert.Ffn0RefIdeal.nD Cert.Ffn0RefIdeal.τ).loc Cert.Ffn0RefIdeal.main_arg0) = m ((c.tc : Thread Cert.Ffn0Ideal.nD Cert.Ffn0Ideal.τ).loc Cert.Ffn0Ideal.main_arg0)
      ∧ m' ((c.tc : Thread Cert.Ffn0RefIdeal.nD Cert.Ffn0RefIdeal.τ).loc Cert.Ffn0RefIdeal.main_arg1) = m ((c.tc : Thread Cert.Ffn0Ideal.nD Cert.Ffn0Ideal.τ).loc Cert.Ffn0Ideal.main_arg1)
      ∧ m' ((c.tc : Thread Cert.Ffn0RefIdeal.nD Cert.Ffn0RefIdeal.τ).loc Cert.Ffn0RefIdeal.main_arg2) = m ((c.tc : Thread Cert.Ffn0Ideal.nD Cert.Ffn0Ideal.τ).loc Cert.Ffn0Ideal.main_arg2)
      ∧ m' ((c.tc : Thread Cert.Ffn0RefIdeal.nD Cert.Ffn0RefIdeal.τ).loc Cert.Ffn0RefIdeal.main_arg3) = m ((c.tc : Thread Cert.Ffn0Ideal.nD Cert.Ffn0Ideal.τ).loc Cert.Ffn0Ideal.main_arg3)
      ∧ m' ((c.tc : Thread Cert.Ffn0RefIdeal.nD Cert.Ffn0RefIdeal.τ).loc Cert.Ffn0RefIdeal.main_arg4) = m ((c.tc : Thread Cert.Ffn0Ideal.nD Cert.Ffn0Ideal.τ).loc Cert.Ffn0Ideal.main_arg4)
      ∧ m' ((c.tc : Thread Cert.Ffn0RefIdeal.nD Cert.Ffn0RefIdeal.τ).loc Cert.Ffn0RefIdeal.main_arg5) = m ((c.tc : Thread Cert.Ffn0Ideal.nD Cert.Ffn0Ideal.τ).loc Cert.Ffn0Ideal.main_arg5)) →
    ∃ (v0 : (c : Dev Cert.Ffn0Ideal.nD) → Buf (Elt Ideal) ((c.tc : Thread Cert.Ffn0Ideal.nD Cert.Ffn0Ideal.τ).loc Cert.Ffn0Ideal.main_v0)),
      θ_run (Cert.Ffn0Ideal.defs (F := Ideal)) (onTc (τ := Cert.Ffn0Ideal.τ) (Cert.Ffn0Ideal.main (F := Ideal))) ⟨m, fun _ => 0, g⟩ (fun r => ∀ c : Dev Cert.Ffn0Ideal.nD,
          r.2.mem ((c.tc : Thread Cert.Ffn0Ideal.nD Cert.Ffn0Ideal.τ).loc Cert.Ffn0Ideal.main_v0) = v0 c
          ∧ r.2.mem ((c.tc : Thread Cert.Ffn0Ideal.nD Cert.Ffn0Ideal.τ).loc Cert.Ffn0Ideal.main_arg0) = m ((c.tc : Thread Cert.Ffn0Ideal.nD Cert.Ffn0Ideal.τ).loc Cert.Ffn0Ideal.main_arg0)
          ∧ r.2.mem ((c.tc : Thread Cert.Ffn0Ideal.nD Cert.Ffn0Ideal.τ).loc Cert.Ffn0Ideal.main_arg1) = m ((c.tc : Thread Cert.Ffn0Ideal.nD Cert.Ffn0Ideal.τ).loc Cert.Ffn0Ideal.main_arg1)
          ∧ r.2.mem ((c.tc : Thread Cert.Ffn0Ideal.nD Cert.Ffn0Ideal.τ).loc Cert.Ffn0Ideal.main_arg2) = m ((c.tc : Thread Cert.Ffn0Ideal.nD Cert.Ffn0Ideal.τ).loc Cert.Ffn0Ideal.main_arg2)
          ∧ r.2.mem ((c.tc : Thread Cert.Ffn0Ideal.nD Cert.Ffn0Ideal.τ).loc Cert.Ffn0Ideal.main_arg3) = m ((c.tc : Thread Cert.Ffn0Ideal.nD Cert.Ffn0Ideal.τ).loc Cert.Ffn0Ideal.main_arg3)
          ∧ r.2.mem ((c.tc : Thread Cert.Ffn0Ideal.nD Cert.Ffn0Ideal.τ).loc Cert.Ffn0Ideal.main_arg4) = m ((c.tc : Thread Cert.Ffn0Ideal.nD Cert.Ffn0Ideal.τ).loc Cert.Ffn0Ideal.main_arg4)
          ∧ r.2.mem ((c.tc : Thread Cert.Ffn0Ideal.nD Cert.Ffn0Ideal.τ).loc Cert.Ffn0Ideal.main_arg5) = m ((c.tc : Thread Cert.Ffn0Ideal.nD Cert.Ffn0Ideal.τ).loc Cert.Ffn0Ideal.main_arg5))
      ∧ θ_run (Cert.Ffn0RefIdeal.defs (F := Ideal)) (onTc (τ := Cert.Ffn0RefIdeal.τ) (Cert.Ffn0RefIdeal.main (F := Ideal))) ⟨m', fun _ => 0, g'⟩ (fun r => ∀ c : Dev Cert.Ffn0RefIdeal.nD,
          r.2.mem ((c.tc : Thread Cert.Ffn0RefIdeal.nD Cert.Ffn0RefIdeal.τ).loc Cert.Ffn0RefIdeal.main_v45) = v0 c
          ∧ r.2.mem ((c.tc : Thread Cert.Ffn0RefIdeal.nD Cert.Ffn0RefIdeal.τ).loc Cert.Ffn0RefIdeal.main_arg0) = m' ((c.tc : Thread Cert.Ffn0RefIdeal.nD Cert.Ffn0RefIdeal.τ).loc Cert.Ffn0RefIdeal.main_arg0)
          ∧ r.2.mem ((c.tc : Thread Cert.Ffn0RefIdeal.nD Cert.Ffn0RefIdeal.τ).loc Cert.Ffn0RefIdeal.main_arg1) = m' ((c.tc : Thread Cert.Ffn0RefIdeal.nD Cert.Ffn0RefIdeal.τ).loc Cert.Ffn0RefIdeal.main_arg1)
          ∧ r.2.mem ((c.tc : Thread Cert.Ffn0RefIdeal.nD Cert.Ffn0RefIdeal.τ).loc Cert.Ffn0RefIdeal.main_arg2) = m' ((c.tc : Thread Cert.Ffn0RefIdeal.nD Cert.Ffn0RefIdeal.τ).loc Cert.Ffn0RefIdeal.main_arg2)
          ∧ r.2.mem ((c.tc : Thread Cert.Ffn0RefIdeal.nD Cert.Ffn0RefIdeal.τ).loc Cert.Ffn0RefIdeal.main_arg3) = m' ((c.tc : Thread Cert.Ffn0RefIdeal.nD Cert.Ffn0RefIdeal.τ).loc Cert.Ffn0RefIdeal.main_arg3)
          ∧ r.2.mem ((c.tc : Thread Cert.Ffn0RefIdeal.nD Cert.Ffn0RefIdeal.τ).loc Cert.Ffn0RefIdeal.main_arg4) = m' ((c.tc : Thread Cert.Ffn0RefIdeal.nD Cert.Ffn0RefIdeal.τ).loc Cert.Ffn0RefIdeal.main_arg4)
          ∧ r.2.mem ((c.tc : Thread Cert.Ffn0RefIdeal.nD Cert.Ffn0RefIdeal.τ).loc Cert.Ffn0RefIdeal.main_arg5) = m' ((c.tc : Thread Cert.Ffn0RefIdeal.nD Cert.Ffn0RefIdeal.τ).loc Cert.Ffn0RefIdeal.main_arg5))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)
      ∧ m' ((c.tc : Thread Cert.Ffn1RefIdeal.nD Cert.Ffn1RefIdeal.τ).loc Cert.Ffn1RefIdeal.main_arg2) = m ((c.tc : Thread Cert.Ffn1Ideal.nD Cert.Ffn1Ideal.τ).loc Cert.Ffn1Ideal.main_arg2)
      ∧ m' ((c.tc : Thread Cert.Ffn1RefIdeal.nD Cert.Ffn1RefIdeal.τ).loc Cert.Ffn1RefIdeal.main_arg3) = m ((c.tc : Thread Cert.Ffn1Ideal.nD Cert.Ffn1Ideal.τ).loc Cert.Ffn1Ideal.main_arg3)
      ∧ m' ((c.tc : Thread Cert.Ffn1RefIdeal.nD Cert.Ffn1RefIdeal.τ).loc Cert.Ffn1RefIdeal.main_arg4) = m ((c.tc : Thread Cert.Ffn1Ideal.nD Cert.Ffn1Ideal.τ).loc Cert.Ffn1Ideal.main_arg4)
      ∧ m' ((c.tc : Thread Cert.Ffn1RefIdeal.nD Cert.Ffn1RefIdeal.τ).loc Cert.Ffn1RefIdeal.main_arg5) = m ((c.tc : Thread Cert.Ffn1Ideal.nD Cert.Ffn1Ideal.τ).loc Cert.Ffn1Ideal.main_arg5)
      ∧ m' ((c.tc : Thread Cert.Ffn1RefIdeal.nD Cert.Ffn1RefIdeal.τ).loc Cert.Ffn1RefIdeal.main_arg6) = m ((c.tc : Thread Cert.Ffn1Ideal.nD Cert.Ffn1Ideal.τ).loc Cert.Ffn1Ideal.main_arg6)
      ∧ m' ((c.tc : Thread Cert.Ffn1RefIdeal.nD Cert.Ffn1RefIdeal.τ).loc Cert.Ffn1RefIdeal.main_arg7) = m ((c.tc : Thread Cert.Ffn1Ideal.nD Cert.Ffn1Ideal.τ).loc Cert.Ffn1Ideal.main_arg7)
      ∧ m' ((c.tc : Thread Cert.Ffn1RefIdeal.nD Cert.Ffn1RefIdeal.τ).loc Cert.Ffn1RefIdeal.main_arg8) = m ((c.tc : Thread Cert.Ffn1Ideal.nD Cert.Ffn1Ideal.τ).loc Cert.Ffn1Ideal.main_arg8)) →
    ∃ (v0 : (c : Dev Cert.Ffn1Ideal.nD) → Buf (Elt Ideal) ((c.tc : Thread Cert.Ffn1Ideal.nD Cert.Ffn1Ideal.τ).loc Cert.Ffn1Ideal.main_v0)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v0) = v0 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1)
          ∧ r.2.mem ((c.tc : Thread Cert.Ffn1Ideal.nD Cert.Ffn1Ideal.τ).loc Cert.Ffn1Ideal.main_arg2) = m ((c.tc : Thread Cert.Ffn1Ideal.nD Cert.Ffn1Ideal.τ).loc Cert.Ffn1Ideal.main_arg2)
          ∧ r.2.mem ((c.tc : Thread Cert.Ffn1Ideal.nD Cert.Ffn1Ideal.τ).loc Cert.Ffn1Ideal.main_arg3) = m ((c.tc : Thread Cert.Ffn1Ideal.nD Cert.Ffn1Ideal.τ).loc Cert.Ffn1Ideal.main_arg3)
          ∧ r.2.mem ((c.tc : Thread Cert.Ffn1Ideal.nD Cert.Ffn1Ideal.τ).loc Cert.Ffn1Ideal.main_arg4) = m ((c.tc : Thread Cert.Ffn1Ideal.nD Cert.Ffn1Ideal.τ).loc Cert.Ffn1Ideal.main_arg4)
          ∧ r.2.mem ((c.tc : Thread Cert.Ffn1Ideal.nD Cert.Ffn1Ideal.τ).loc Cert.Ffn1Ideal.main_arg5) = m ((c.tc : Thread Cert.Ffn1Ideal.nD Cert.Ffn1Ideal.τ).loc Cert.Ffn1Ideal.main_arg5)
          ∧ r.2.mem ((c.tc : Thread Cert.Ffn1Ideal.nD Cert.Ffn1Ideal.τ).loc Cert.Ffn1Ideal.main_arg6) = m ((c.tc : Thread Cert.Ffn1Ideal.nD Cert.Ffn1Ideal.τ).loc Cert.Ffn1Ideal.main_arg6)
          ∧ r.2.mem ((c.tc : Thread Cert.Ffn1Ideal.nD Cert.Ffn1Ideal.τ).loc Cert.Ffn1Ideal.main_arg7) = m ((c.tc : Thread Cert.Ffn1Ideal.nD Cert.Ffn1Ideal.τ).loc Cert.Ffn1Ideal.main_arg7)
          ∧ r.2.mem ((c.tc : Thread Cert.Ffn1Ideal.nD Cert.Ffn1Ideal.τ).loc Cert.Ffn1Ideal.main_arg8) = m ((c.tc : Thread Cert.Ffn1Ideal.nD Cert.Ffn1Ideal.τ).loc Cert.Ffn1Ideal.main_arg8))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v56) = v0 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1)
          ∧ r.2.mem ((c.tc : Thread Cert.Ffn1RefIdeal.nD Cert.Ffn1RefIdeal.τ).loc Cert.Ffn1RefIdeal.main_arg2) = m' ((c.tc : Thread Cert.Ffn1RefIdeal.nD Cert.Ffn1RefIdeal.τ).loc Cert.Ffn1RefIdeal.main_arg2)
          ∧ r.2.mem ((c.tc : Thread Cert.Ffn1RefIdeal.nD Cert.Ffn1RefIdeal.τ).loc Cert.Ffn1RefIdeal.main_arg3) = m' ((c.tc : Thread Cert.Ffn1RefIdeal.nD Cert.Ffn1RefIdeal.τ).loc Cert.Ffn1RefIdeal.main_arg3)
          ∧ r.2.mem ((c.tc : Thread Cert.Ffn1RefIdeal.nD Cert.Ffn1RefIdeal.τ).loc Cert.Ffn1RefIdeal.main_arg4) = m' ((c.tc : Thread Cert.Ffn1RefIdeal.nD Cert.Ffn1RefIdeal.τ).loc Cert.Ffn1RefIdeal.main_arg4)
          ∧ r.2.mem ((c.tc : Thread Cert.Ffn1RefIdeal.nD Cert.Ffn1RefIdeal.τ).loc Cert.Ffn1RefIdeal.main_arg5) = m' ((c.tc : Thread Cert.Ffn1RefIdeal.nD Cert.Ffn1RefIdeal.τ).loc Cert.Ffn1RefIdeal.main_arg5)
          ∧ r.2.mem ((c.tc : Thread Cert.Ffn1RefIdeal.nD Cert.Ffn1RefIdeal.τ).loc Cert.Ffn1RefIdeal.main_arg6) = m' ((c.tc : Thread Cert.Ffn1RefIdeal.nD Cert.Ffn1RefIdeal.τ).loc Cert.Ffn1RefIdeal.main_arg6)
          ∧ r.2.mem ((c.tc : Thread Cert.Ffn1RefIdeal.nD Cert.Ffn1RefIdeal.τ).loc Cert.Ffn1RefIdeal.main_arg7) = m' ((c.tc : Thread Cert.Ffn1RefIdeal.nD Cert.Ffn1RefIdeal.τ).loc Cert.Ffn1RefIdeal.main_arg7)
          ∧ r.2.mem ((c.tc : Thread Cert.Ffn1RefIdeal.nD Cert.Ffn1RefIdeal.τ).loc Cert.Ffn1RefIdeal.main_arg8) = m' ((c.tc : Thread Cert.Ffn1RefIdeal.nD Cert.Ffn1RefIdeal.τ).loc Cert.Ffn1RefIdeal.main_arg8))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)
      ∧ m' ((c.tc : Thread Cert.Ffn2RefIdeal.nD Cert.Ffn2RefIdeal.τ).loc Cert.Ffn2RefIdeal.main_arg3) = m ((c.tc : Thread Cert.Ffn2Ideal.nD Cert.Ffn2Ideal.τ).loc Cert.Ffn2Ideal.main_arg3)
      ∧ m' ((c.tc : Thread Cert.Ffn2RefIdeal.nD Cert.Ffn2RefIdeal.τ).loc Cert.Ffn2RefIdeal.main_arg4) = m ((c.tc : Thread Cert.Ffn2Ideal.nD Cert.Ffn2Ideal.τ).loc Cert.Ffn2Ideal.main_arg4)
      ∧ m' ((c.tc : Thread Cert.Ffn2RefIdeal.nD Cert.Ffn2RefIdeal.τ).loc Cert.Ffn2RefIdeal.main_arg5) = m ((c.tc : Thread Cert.Ffn2Ideal.nD Cert.Ffn2Ideal.τ).loc Cert.Ffn2Ideal.main_arg5)) →
    ∃ (v0 : (c : Dev Cert.Ffn2Ideal.nD) → Buf (Elt Ideal) ((c.tc : Thread Cert.Ffn2Ideal.nD Cert.Ffn2Ideal.τ).loc Cert.Ffn2Ideal.main_v0_0)) (v1 : (c : Dev Cert.Ffn2Ideal.nD) → Buf (Elt Ideal) ((c.tc : Thread Cert.Ffn2Ideal.nD Cert.Ffn2Ideal.τ).loc Cert.Ffn2Ideal.main_v0_1)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v0_0) = v0 c
          ∧ r.2.mem ((c.tc : Thread Cert.Ffn2Ideal.nD Cert.Ffn2Ideal.τ).loc Cert.Ffn2Ideal.main_v0_1) = v1 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2)
          ∧ r.2.mem ((c.tc : Thread Cert.Ffn2Ideal.nD Cert.Ffn2Ideal.τ).loc Cert.Ffn2Ideal.main_arg3) = m ((c.tc : Thread Cert.Ffn2Ideal.nD Cert.Ffn2Ideal.τ).loc Cert.Ffn2Ideal.main_arg3)
          ∧ r.2.mem ((c.tc : Thread Cert.Ffn2Ideal.nD Cert.Ffn2Ideal.τ).loc Cert.Ffn2Ideal.main_arg4) = m ((c.tc : Thread Cert.Ffn2Ideal.nD Cert.Ffn2Ideal.τ).loc Cert.Ffn2Ideal.main_arg4)
          ∧ r.2.mem ((c.tc : Thread Cert.Ffn2Ideal.nD Cert.Ffn2Ideal.τ).loc Cert.Ffn2Ideal.main_arg5) = m ((c.tc : Thread Cert.Ffn2Ideal.nD Cert.Ffn2Ideal.τ).loc Cert.Ffn2Ideal.main_arg5))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v45) = v0 c
          ∧ r.2.mem ((c.tc : Thread Cert.Ffn2RefIdeal.nD Cert.Ffn2RefIdeal.τ).loc Cert.Ffn2RefIdeal.main_v54) = v1 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5))

def preserves_Ffn3_Ffn3Ideal : Prop :=
  True

def algebraic_Ffn3Ideal_Ffn3RefIdeal [hFfn3Ideal : Cert.Ffn3Ideal.Facts] [hFfn3RefIdeal : Cert.Ffn3RefIdeal.Facts] : Prop :=
  ∀ (m : (ℓ : Loc Cert.Ffn3Ideal.nD Cert.Ffn3Ideal.τ Cert.Ffn3Ideal.sig) → Buf (Elt Ideal) ℓ) (g : Dev Cert.Ffn3Ideal.nD → PrngReg)
    (m' : (ℓ : Loc Cert.Ffn3RefIdeal.nD Cert.Ffn3RefIdeal.τ Cert.Ffn3RefIdeal.sig) → Buf (Elt Ideal) ℓ) (g' : Dev Cert.Ffn3RefIdeal.nD → PrngReg), Pre_Ffn3Ideal m →
    (∀ c : Dev Cert.Ffn3Ideal.nD,
      m' ((c.tc : Thread Cert.Ffn3RefIdeal.nD Cert.Ffn3RefIdeal.τ).loc Cert.Ffn3RefIdeal.main_arg0) = m ((c.tc : Thread Cert.Ffn3Ideal.nD Cert.Ffn3Ideal.τ).loc Cert.Ffn3Ideal.main_arg0)
      ∧ m' ((c.tc : Thread Cert.Ffn3RefIdeal.nD Cert.Ffn3RefIdeal.τ).loc Cert.Ffn3RefIdeal.main_arg1) = m ((c.tc : Thread Cert.Ffn3Ideal.nD Cert.Ffn3Ideal.τ).loc Cert.Ffn3Ideal.main_arg1)
      ∧ m' ((c.tc : Thread Cert.Ffn3RefIdeal.nD Cert.Ffn3RefIdeal.τ).loc Cert.Ffn3RefIdeal.main_arg2) = m ((c.tc : Thread Cert.Ffn3Ideal.nD Cert.Ffn3Ideal.τ).loc Cert.Ffn3Ideal.main_arg2)
      ∧ m' ((c.tc : Thread Cert.Ffn3RefIdeal.nD Cert.Ffn3RefIdeal.τ).loc Cert.Ffn3RefIdeal.main_arg3) = m ((c.tc : Thread Cert.Ffn3Ideal.nD Cert.Ffn3Ideal.τ).loc Cert.Ffn3Ideal.main_arg3)
      ∧ m' ((c.tc : Thread Cert.Ffn3RefIdeal.nD Cert.Ffn3RefIdeal.τ).loc Cert.Ffn3RefIdeal.main_arg4) = m ((c.tc : Thread Cert.Ffn3Ideal.nD Cert.Ffn3Ideal.τ).loc Cert.Ffn3Ideal.main_arg4)
      ∧ m' ((c.tc : Thread Cert.Ffn3RefIdeal.nD Cert.Ffn3RefIdeal.τ).loc Cert.Ffn3RefIdeal.main_arg5) = m ((c.tc : Thread Cert.Ffn3Ideal.nD Cert.Ffn3Ideal.τ).loc Cert.Ffn3Ideal.main_arg5)
      ∧ m' ((c.tc : Thread Cert.Ffn3RefIdeal.nD Cert.Ffn3RefIdeal.τ).loc Cert.Ffn3RefIdeal.main_arg6) = m ((c.tc : Thread Cert.Ffn3Ideal.nD Cert.Ffn3Ideal.τ).loc Cert.Ffn3Ideal.main_arg6)
      ∧ m' ((c.tc : Thread Cert.Ffn3RefIdeal.nD Cert.Ffn3RefIdeal.τ).loc Cert.Ffn3RefIdeal.main_arg7) = m ((c.tc : Thread Cert.Ffn3Ideal.nD Cert.Ffn3Ideal.τ).loc Cert.Ffn3Ideal.main_arg7)) →
    ∃ (v0 : (c : Dev Cert.Ffn3Ideal.nD) → Buf (Elt Ideal) ((c.tc : Thread Cert.Ffn3Ideal.nD Cert.Ffn3Ideal.τ).loc Cert.Ffn3Ideal.main_v0)),
      θ_run (Cert.Ffn3Ideal.defs (F := Ideal)) (onTc (τ := Cert.Ffn3Ideal.τ) (Cert.Ffn3Ideal.main (F := Ideal))) ⟨m, fun _ => 0, g⟩ (fun r => ∀ c : Dev Cert.Ffn3Ideal.nD,
          r.2.mem ((c.tc : Thread Cert.Ffn3Ideal.nD Cert.Ffn3Ideal.τ).loc Cert.Ffn3Ideal.main_v0) = v0 c
          ∧ r.2.mem ((c.tc : Thread Cert.Ffn3Ideal.nD Cert.Ffn3Ideal.τ).loc Cert.Ffn3Ideal.main_arg0) = m ((c.tc : Thread Cert.Ffn3Ideal.nD Cert.Ffn3Ideal.τ).loc Cert.Ffn3Ideal.main_arg0)
          ∧ r.2.mem ((c.tc : Thread Cert.Ffn3Ideal.nD Cert.Ffn3Ideal.τ).loc Cert.Ffn3Ideal.main_arg1) = m ((c.tc : Thread Cert.Ffn3Ideal.nD Cert.Ffn3Ideal.τ).loc Cert.Ffn3Ideal.main_arg1)
          ∧ r.2.mem ((c.tc : Thread Cert.Ffn3Ideal.nD Cert.Ffn3Ideal.τ).loc Cert.Ffn3Ideal.main_arg2) = m ((c.tc : Thread Cert.Ffn3Ideal.nD Cert.Ffn3Ideal.τ).loc Cert.Ffn3Ideal.main_arg2)
          ∧ r.2.mem ((c.tc : Thread Cert.Ffn3Ideal.nD Cert.Ffn3Ideal.τ).loc Cert.Ffn3Ideal.main_arg3) = m ((c.tc : Thread Cert.Ffn3Ideal.nD Cert.Ffn3Ideal.τ).loc Cert.Ffn3Ideal.main_arg3)
          ∧ r.2.mem ((c.tc : Thread Cert.Ffn3Ideal.nD Cert.Ffn3Ideal.τ).loc Cert.Ffn3Ideal.main_arg4) = m ((c.tc : Thread Cert.Ffn3Ideal.nD Cert.Ffn3Ideal.τ).loc Cert.Ffn3Ideal.main_arg4)
          ∧ r.2.mem ((c.tc : Thread Cert.Ffn3Ideal.nD Cert.Ffn3Ideal.τ).loc Cert.Ffn3Ideal.main_arg5) = m ((c.tc : Thread Cert.Ffn3Ideal.nD Cert.Ffn3Ideal.τ).loc Cert.Ffn3Ideal.main_arg5)
          ∧ r.2.mem ((c.tc : Thread Cert.Ffn3Ideal.nD Cert.Ffn3Ideal.τ).loc Cert.Ffn3Ideal.main_arg6) = m ((c.tc : Thread Cert.Ffn3Ideal.nD Cert.Ffn3Ideal.τ).loc Cert.Ffn3Ideal.main_arg6)
          ∧ r.2.mem ((c.tc : Thread Cert.Ffn3Ideal.nD Cert.Ffn3Ideal.τ).loc Cert.Ffn3Ideal.main_arg7) = m ((c.tc : Thread Cert.Ffn3Ideal.nD Cert.Ffn3Ideal.τ).loc Cert.Ffn3Ideal.main_arg7))
      ∧ θ_run (Cert.Ffn3RefIdeal.defs (F := Ideal)) (onTc (τ := Cert.Ffn3RefIdeal.τ) (Cert.Ffn3RefIdeal.main (F := Ideal))) ⟨m', fun _ => 0, g'⟩ (fun r => ∀ c : Dev Cert.Ffn3RefIdeal.nD,
          r.2.mem ((c.tc : Thread Cert.Ffn3RefIdeal.nD Cert.Ffn3RefIdeal.τ).loc Cert.Ffn3RefIdeal.main_v54) = v0 c
          ∧ r.2.mem ((c.tc : Thread Cert.Ffn3RefIdeal.nD Cert.Ffn3RefIdeal.τ).loc Cert.Ffn3RefIdeal.main_arg0) = m' ((c.tc : Thread Cert.Ffn3RefIdeal.nD Cert.Ffn3RefIdeal.τ).loc Cert.Ffn3RefIdeal.main_arg0)
          ∧ r.2.mem ((c.tc : Thread Cert.Ffn3RefIdeal.nD Cert.Ffn3RefIdeal.τ).loc Cert.Ffn3RefIdeal.main_arg1) = m' ((c.tc : Thread Cert.Ffn3RefIdeal.nD Cert.Ffn3RefIdeal.τ).loc Cert.Ffn3RefIdeal.main_arg1)
          ∧ r.2.mem ((c.tc : Thread Cert.Ffn3RefIdeal.nD Cert.Ffn3RefIdeal.τ).loc Cert.Ffn3RefIdeal.main_arg2) = m' ((c.tc : Thread Cert.Ffn3RefIdeal.nD Cert.Ffn3RefIdeal.τ).loc Cert.Ffn3RefIdeal.main_arg2)
          ∧ r.2.mem ((c.tc : Thread Cert.Ffn3RefIdeal.nD Cert.Ffn3RefIdeal.τ).loc Cert.Ffn3RefIdeal.main_arg3) = m' ((c.tc : Thread Cert.Ffn3RefIdeal.nD Cert.Ffn3RefIdeal.τ).loc Cert.Ffn3RefIdeal.main_arg3)
          ∧ r.2.mem ((c.tc : Thread Cert.Ffn3RefIdeal.nD Cert.Ffn3RefIdeal.τ).loc Cert.Ffn3RefIdeal.main_arg4) = m' ((c.tc : Thread Cert.Ffn3RefIdeal.nD Cert.Ffn3RefIdeal.τ).loc Cert.Ffn3RefIdeal.main_arg4)
          ∧ r.2.mem ((c.tc : Thread Cert.Ffn3RefIdeal.nD Cert.Ffn3RefIdeal.τ).loc Cert.Ffn3RefIdeal.main_arg5) = m' ((c.tc : Thread Cert.Ffn3RefIdeal.nD Cert.Ffn3RefIdeal.τ).loc Cert.Ffn3RefIdeal.main_arg5)
          ∧ r.2.mem ((c.tc : Thread Cert.Ffn3RefIdeal.nD Cert.Ffn3RefIdeal.τ).loc Cert.Ffn3RefIdeal.main_arg6) = m' ((c.tc : Thread Cert.Ffn3RefIdeal.nD Cert.Ffn3RefIdeal.τ).loc Cert.Ffn3RefIdeal.main_arg6)
          ∧ r.2.mem ((c.tc : Thread Cert.Ffn3RefIdeal.nD Cert.Ffn3RefIdeal.τ).loc Cert.Ffn3RefIdeal.main_arg7) = m' ((c.tc : Thread Cert.Ffn3RefIdeal.nD Cert.Ffn3RefIdeal.τ).loc Cert.Ffn3RefIdeal.main_arg7))

def preserves_FfnCtx_FfnCtxIdeal : Prop :=
  True

def algebraic_FfnCtxIdeal_FfnCtxRefIdeal [hFfnCtxIdeal : Cert.FfnCtxIdeal.Facts] [hFfnCtxRefIdeal : Cert.FfnCtxRefIdeal.Facts] : Prop :=
  ∀ (m : (ℓ : Loc Cert.FfnCtxIdeal.nD Cert.FfnCtxIdeal.τ Cert.FfnCtxIdeal.sig) → Buf (Elt Ideal) ℓ) (g : Dev Cert.FfnCtxIdeal.nD → PrngReg)
    (m' : (ℓ : Loc Cert.FfnCtxRefIdeal.nD Cert.FfnCtxRefIdeal.τ Cert.FfnCtxRefIdeal.sig) → Buf (Elt Ideal) ℓ) (g' : Dev Cert.FfnCtxRefIdeal.nD → PrngReg), Pre_FfnCtxIdeal m →
    (∀ c : Dev Cert.FfnCtxIdeal.nD,
      m' ((c.tc : Thread Cert.FfnCtxRefIdeal.nD Cert.FfnCtxRefIdeal.τ).loc Cert.FfnCtxRefIdeal.main_arg0) = m ((c.tc : Thread Cert.FfnCtxIdeal.nD Cert.FfnCtxIdeal.τ).loc Cert.FfnCtxIdeal.main_arg0)
      ∧ m' ((c.tc : Thread Cert.FfnCtxRefIdeal.nD Cert.FfnCtxRefIdeal.τ).loc Cert.FfnCtxRefIdeal.main_arg1) = m ((c.tc : Thread Cert.FfnCtxIdeal.nD Cert.FfnCtxIdeal.τ).loc Cert.FfnCtxIdeal.main_arg1)
      ∧ m' ((c.tc : Thread Cert.FfnCtxRefIdeal.nD Cert.FfnCtxRefIdeal.τ).loc Cert.FfnCtxRefIdeal.main_arg2) = m ((c.tc : Thread Cert.FfnCtxIdeal.nD Cert.FfnCtxIdeal.τ).loc Cert.FfnCtxIdeal.main_arg2)
      ∧ m' ((c.tc : Thread Cert.FfnCtxRefIdeal.nD Cert.FfnCtxRefIdeal.τ).loc Cert.FfnCtxRefIdeal.main_arg3) = m ((c.tc : Thread Cert.FfnCtxIdeal.nD Cert.FfnCtxIdeal.τ).loc Cert.FfnCtxIdeal.main_arg3)
      ∧ m' ((c.tc : Thread Cert.FfnCtxRefIdeal.nD Cert.FfnCtxRefIdeal.τ).loc Cert.FfnCtxRefIdeal.main_arg4) = m ((c.tc : Thread Cert.FfnCtxIdeal.nD Cert.FfnCtxIdeal.τ).loc Cert.FfnCtxIdeal.main_arg4)
      ∧ m' ((c.tc : Thread Cert.FfnCtxRefIdeal.nD Cert.FfnCtxRefIdeal.τ).loc Cert.FfnCtxRefIdeal.main_arg5) = m ((c.tc : Thread Cert.FfnCtxIdeal.nD Cert.FfnCtxIdeal.τ).loc Cert.FfnCtxIdeal.main_arg5)) →
    ∃ (v0 : (c : Dev Cert.FfnCtxIdeal.nD) → Buf (Elt Ideal) ((c.tc : Thread Cert.FfnCtxIdeal.nD Cert.FfnCtxIdeal.τ).loc Cert.FfnCtxIdeal.main_v0)),
      θ_run (Cert.FfnCtxIdeal.defs (F := Ideal)) (onTc (τ := Cert.FfnCtxIdeal.τ) (Cert.FfnCtxIdeal.main (F := Ideal))) ⟨m, fun _ => 0, g⟩ (fun r => ∀ c : Dev Cert.FfnCtxIdeal.nD,
          r.2.mem ((c.tc : Thread Cert.FfnCtxIdeal.nD Cert.FfnCtxIdeal.τ).loc Cert.FfnCtxIdeal.main_v0) = v0 c
          ∧ r.2.mem ((c.tc : Thread Cert.FfnCtxIdeal.nD Cert.FfnCtxIdeal.τ).loc Cert.FfnCtxIdeal.main_arg0) = m ((c.tc : Thread Cert.FfnCtxIdeal.nD Cert.FfnCtxIdeal.τ).loc Cert.FfnCtxIdeal.main_arg0)
          ∧ r.2.mem ((c.tc : Thread Cert.FfnCtxIdeal.nD Cert.FfnCtxIdeal.τ).loc Cert.FfnCtxIdeal.main_arg1) = m ((c.tc : Thread Cert.FfnCtxIdeal.nD Cert.FfnCtxIdeal.τ).loc Cert.FfnCtxIdeal.main_arg1)
          ∧ r.2.mem ((c.tc : Thread Cert.FfnCtxIdeal.nD Cert.FfnCtxIdeal.τ).loc Cert.FfnCtxIdeal.main_arg2) = m ((c.tc : Thread Cert.FfnCtxIdeal.nD Cert.FfnCtxIdeal.τ).loc Cert.FfnCtxIdeal.main_arg2)
          ∧ r.2.mem ((c.tc : Thread Cert.FfnCtxIdeal.nD Cert.FfnCtxIdeal.τ).loc Cert.FfnCtxIdeal.main_arg3) = m ((c.tc : Thread Cert.FfnCtxIdeal.nD Cert.FfnCtxIdeal.τ).loc Cert.FfnCtxIdeal.main_arg3)
          ∧ r.2.mem ((c.tc : Thread Cert.FfnCtxIdeal.nD Cert.FfnCtxIdeal.τ).loc Cert.FfnCtxIdeal.main_arg4) = m ((c.tc : Thread Cert.FfnCtxIdeal.nD Cert.FfnCtxIdeal.τ).loc Cert.FfnCtxIdeal.main_arg4)
          ∧ r.2.mem ((c.tc : Thread Cert.FfnCtxIdeal.nD Cert.FfnCtxIdeal.τ).loc Cert.FfnCtxIdeal.main_arg5) = m ((c.tc : Thread Cert.FfnCtxIdeal.nD Cert.FfnCtxIdeal.τ).loc Cert.FfnCtxIdeal.main_arg5))
      ∧ θ_run (Cert.FfnCtxRefIdeal.defs (F := Ideal)) (onTc (τ := Cert.FfnCtxRefIdeal.τ) (Cert.FfnCtxRefIdeal.main (F := Ideal))) ⟨m', fun _ => 0, g'⟩ (fun r => ∀ c : Dev Cert.FfnCtxRefIdeal.nD,
          r.2.mem ((c.tc : Thread Cert.FfnCtxRefIdeal.nD Cert.FfnCtxRefIdeal.τ).loc Cert.FfnCtxRefIdeal.main_v45) = v0 c
          ∧ r.2.mem ((c.tc : Thread Cert.FfnCtxRefIdeal.nD Cert.FfnCtxRefIdeal.τ).loc Cert.FfnCtxRefIdeal.main_arg0) = m' ((c.tc : Thread Cert.FfnCtxRefIdeal.nD Cert.FfnCtxRefIdeal.τ).loc Cert.FfnCtxRefIdeal.main_arg0)
          ∧ r.2.mem ((c.tc : Thread Cert.FfnCtxRefIdeal.nD Cert.FfnCtxRefIdeal.τ).loc Cert.FfnCtxRefIdeal.main_arg1) = m' ((c.tc : Thread Cert.FfnCtxRefIdeal.nD Cert.FfnCtxRefIdeal.τ).loc Cert.FfnCtxRefIdeal.main_arg1)
          ∧ r.2.mem ((c.tc : Thread Cert.FfnCtxRefIdeal.nD Cert.FfnCtxRefIdeal.τ).loc Cert.FfnCtxRefIdeal.main_arg2) = m' ((c.tc : Thread Cert.FfnCtxRefIdeal.nD Cert.FfnCtxRefIdeal.τ).loc Cert.FfnCtxRefIdeal.main_arg2)
          ∧ r.2.mem ((c.tc : Thread Cert.FfnCtxRefIdeal.nD Cert.FfnCtxRefIdeal.τ).loc Cert.FfnCtxRefIdeal.main_arg3) = m' ((c.tc : Thread Cert.FfnCtxRefIdeal.nD Cert.FfnCtxRefIdeal.τ).loc Cert.FfnCtxRefIdeal.main_arg3)
          ∧ r.2.mem ((c.tc : Thread Cert.FfnCtxRefIdeal.nD Cert.FfnCtxRefIdeal.τ).loc Cert.FfnCtxRefIdeal.main_arg4) = m' ((c.tc : Thread Cert.FfnCtxRefIdeal.nD Cert.FfnCtxRefIdeal.τ).loc Cert.FfnCtxRefIdeal.main_arg4)
          ∧ r.2.mem ((c.tc : Thread Cert.FfnCtxRefIdeal.nD Cert.FfnCtxRefIdeal.τ).loc Cert.FfnCtxRefIdeal.main_arg5) = m' ((c.tc : Thread Cert.FfnCtxRefIdeal.nD Cert.FfnCtxRefIdeal.τ).loc Cert.FfnCtxRefIdeal.main_arg5))

def Claim : Prop :=
  ∃ (hAttn : Cert.Attn.Facts) (hAttnIdeal : Cert.AttnIdeal.Facts) (hAttnRefIdeal : Cert.AttnRefIdeal.Facts) (hFfn0 : Cert.Ffn0.Facts) (hFfn0Ideal : Cert.Ffn0Ideal.Facts) (hFfn0RefIdeal : Cert.Ffn0RefIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hFfn3 : Cert.Ffn3.Facts) (hFfn3Ideal : Cert.Ffn3Ideal.Facts) (hFfn3RefIdeal : Cert.Ffn3RefIdeal.Facts) (hFfnCtx : Cert.FfnCtx.Facts) (hFfnCtxIdeal : Cert.FfnCtxIdeal.Facts) (hFfnCtxRefIdeal : Cert.FfnCtxRefIdeal.Facts) (hPre_finite : Cert.Pre_finite.Facts),
    quiescent_Attn (hAttn := hAttn)
    ∧ quiescent_AttnIdeal (hAttnIdeal := hAttnIdeal)
    ∧ quiescent_AttnIdeal_pre_finite (hAttnIdeal := hAttnIdeal) (hPre_finite := hPre_finite)
    ∧ quiescent_AttnRefIdeal (hAttnRefIdeal := hAttnRefIdeal)
    ∧ quiescent_AttnRefIdeal_pre_finite (hAttnRefIdeal := hAttnRefIdeal) (hPre_finite := hPre_finite)
    ∧ quiescent_Ffn0 (hFfn0 := hFfn0)
    ∧ quiescent_Ffn0Ideal (hFfn0Ideal := hFfn0Ideal)
    ∧ quiescent_Ffn0RefIdeal (hFfn0RefIdeal := hFfn0RefIdeal)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_Ffn3 (hFfn3 := hFfn3)
    ∧ quiescent_Ffn3Ideal (hFfn3Ideal := hFfn3Ideal)
    ∧ quiescent_Ffn3RefIdeal (hFfn3RefIdeal := hFfn3RefIdeal)
    ∧ quiescent_FfnCtx (hFfnCtx := hFfnCtx)
    ∧ quiescent_FfnCtxIdeal (hFfnCtxIdeal := hFfnCtxIdeal)
    ∧ quiescent_FfnCtxRefIdeal (hFfnCtxRefIdeal := hFfnCtxRefIdeal)
    ∧ preserves_Attn_AttnIdeal
    ∧ algebraic_AttnIdeal_AttnRefIdeal_pre_finite (hAttnIdeal := hAttnIdeal) (hAttnRefIdeal := hAttnRefIdeal) (hPre_finite := hPre_finite)
    ∧ preserves_Ffn0_Ffn0Ideal
    ∧ algebraic_Ffn0Ideal_Ffn0RefIdeal (hFfn0Ideal := hFfn0Ideal) (hFfn0RefIdeal := hFfn0RefIdeal)
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_Ffn3_Ffn3Ideal
    ∧ algebraic_Ffn3Ideal_Ffn3RefIdeal (hFfn3Ideal := hFfn3Ideal) (hFfn3RefIdeal := hFfn3RefIdeal)
    ∧ preserves_FfnCtx_FfnCtxIdeal
    ∧ algebraic_FfnCtxIdeal_FfnCtxRefIdeal (hFfnCtxIdeal := hFfnCtxIdeal) (hFfnCtxRefIdeal := hFfnCtxRefIdeal)
-- ==== Pre_finite.lean ====
abbrev S8x4096x8x64 : Shape := ⟨4, ![8, 4096, 8, 64]⟩
abbrev S8x4096x2x64 : Shape := ⟨4, ![8, 4096, 2, 64]⟩
abbrev S8x256x2x64 : Shape := ⟨4, ![8, 256, 2, 64]⟩
abbrev S8 : Shape := ⟨1, ![8]⟩
abbrev S_ : Shape := ⟨0, ![]⟩

class Facts : Prop where
  bcast_S_S8x4096x8x64 : S_.BroadcastsInDim S8x4096x8x64 (![] : Fin 0 → Fin S8x4096x8x64.rank)
  bcast_S_S8x4096x2x64 : S_.BroadcastsInDim S8x4096x2x64 (![] : Fin 0 → Fin S8x4096x2x64.rank)
  bcast_S_S8x256x2x64 : S_.BroadcastsInDim S8x256x2x64 (![] : Fin 0 → Fin S8x256x2x64.rank)
  bcast_S_S8 : S_.BroadcastsInDim S8 (![] : Fin 0 → Fin S8.rank)

variable [Facts]

def fn {F : FTy → Type} [FloatOps F] (main_arg0 : FVec F S8x4096x8x64 .f32) (main_arg1 : FVec F S8x4096x2x64 .f32) (main_arg2 : FVec F S8x4096x2x64 .f32) (main_arg3 : FVec F S8x256x2x64 .f32) (main_arg4 : FVec F S8x256x2x64 .f32) (main_arg5 : FVec F S8 .f32) : IVec S8x4096x8x64 1 × IVec S8x4096x2x64 1 × IVec S8x256x2x64 1 × IVec S8 1 :=
  let main_v0 : FVec F S8x4096x8x64 .f32 := Host.absf main_arg0
  let main_cst : FVec F S_ .f32 := constant S_ .f32 0x7F800000#32
  let main_v1 : FVec F S8x4096x8x64 .f32 := broadcastInDim S8x4096x8x64 ![] bcast_S_S8x4096x8x64 main_cst
  let main_v2 : IVec S8x4096x8x64 1 := cmpf .olt main_v0 main_v1
  let main_v3 : FVec F S8x4096x2x64 .f32 := Host.absf main_arg1
  let main_cst_0 : FVec F S_ .f32 := constant S_ .f32 0x7F800000#32
  let main_v4 : FVec F S8x4096x2x64 .f32 := broadcastInDim S8x4096x2x64 ![] bcast_S_S8x4096x2x64 main_cst_0
  let main_v5 : IVec S8x4096x2x64 1 := cmpf .olt main_v3 main_v4
  let main_v6 : FVec F S8x256x2x64 .f32 := Host.absf main_arg3
  let main_cst_1 : FVec F S_ .f32 := constant S_ .f32 0x7F800000#32
  let main_v7 : FVec F S8x256x2x64 .f32 := broadcastInDim S8x256x2x64 ![] bcast_S_S8x256x2x64 main_cst_1
  let main_v8 : IVec S8x256x2x64 1 := cmpf .olt main_v6 main_v7
  let main_cst_2 : FVec F S_ .f32 := constant S_ .f32 0x7F800000#32
  let main_v9 : FVec F S8 .f32 := broadcastInDim S8 ![] bcast_S_S8 main_cst_2
  let main_v10 : IVec S8 1 := cmpf .olt main_arg5 main_v9
  (main_v2, main_v5, main_v8, main_v10)
-- ==== Attn.lean ====
abbrev S8x4096x8x64 : Shape := ⟨4, ![8, 4096, 8, 64]⟩
abbrev S8x4096x2x64 : Shape := ⟨4, ![8, 4096, 2, 64]⟩
abbrev S8x256x2x64 : Shape := ⟨4, ![8, 256, 2, 64]⟩
abbrev S8 : Shape := ⟨1, ![8]⟩
abbrev S_ : Shape := ⟨0, ![]⟩
abbrev S8x4096x512 : Shape := ⟨3, ![8, 4096, 512]⟩
abbrev S8x4096x2x128 : Shape := ⟨4, ![8, 4096, 2, 128]⟩
abbrev S8x4096x256 : Shape := ⟨3, ![8, 4096, 256]⟩
abbrev S8x256x2x128 : Shape := ⟨4, ![8, 256, 2, 128]⟩
abbrev S8x256x256 : Shape := ⟨3, ![8, 256, 256]⟩
abbrev S1x1024x512 : Shape := ⟨3, ![1, 1024, 512]⟩
abbrev S1x4096x256 : Shape := ⟨3, ![1, 4096, 256]⟩
abbrev S1x256x256 : Shape := ⟨3, ![1, 256, 256]⟩
abbrev S1x128x512 : Shape := ⟨3, ![1, 128, 512]⟩
abbrev S128x512 : Shape := ⟨2, ![128, 512]⟩
abbrev S128x128 : Shape := ⟨2, ![128, 128]⟩
abbrev S1x128x128 : Shape := ⟨3, ![1, 128, 128]⟩
abbrev S1x256x128 : Shape := ⟨3, ![1, 256, 128]⟩
abbrev S256x128 : Shape := ⟨2, ![256, 128]⟩
abbrev S640x128 : Shape := ⟨2, ![640, 128]⟩
abbrev S512x128 : Shape := ⟨2, ![512, 128]⟩
abbrev S512x640 : Shape := ⟨2, ![512, 640]⟩
abbrev S128x640 : Shape := ⟨2, ![128, 640]⟩
abbrev S1 : Shape := ⟨1, ![1]⟩
abbrev S128 : Shape := ⟨1, ![128]⟩
abbrev S128x1 : Shape := ⟨2, ![128, 1]⟩
abbrev S256x640 : Shape := ⟨2, ![256, 640]⟩

abbrev nBuf : Space → Nat
  | .hbm => 24
  | .vmem => 12
  | .smem => 1
  | _ => 0

abbrev bufTy : (tb : Table) → Fin (tcTables nBuf tb) → BufTy
  | .hbm, ⟨0, _⟩ => ⟨S8x4096x8x64, .f32⟩
  | .hbm, ⟨1, _⟩ => ⟨S8x4096x2x64, .f32⟩
  | .hbm, ⟨2, _⟩ => ⟨S8x4096x2x64, .f32⟩
  | .hbm, ⟨3, _⟩ => ⟨S8x256x2x64, .f32⟩
  | .hbm, ⟨4, _⟩ => ⟨S8x256x2x64, .f32⟩
  | .hbm, ⟨5, _⟩ => ⟨S8, .f32⟩
  | .hbm, ⟨6, _⟩ => ⟨S_, .f32⟩
  | .hbm, ⟨7, _⟩ => ⟨S8x4096x8x64, .f32⟩
  | .hbm, ⟨8, _⟩ => ⟨S8x4096x8x64, .f32⟩
  | .hbm, ⟨9, _⟩ => ⟨S8x4096x8x64, .bf16⟩
  | .hbm, ⟨10, _⟩ => ⟨S8x4096x512, .bf16⟩
  | .hbm, ⟨11, _⟩ => ⟨S8x4096x2x128, .f32⟩
  | .hbm, ⟨12, _⟩ => ⟨S8x4096x256, .f32⟩
  | .hbm, ⟨13, _⟩ => ⟨S8x4096x256, .bf16⟩
  | .hbm, ⟨14, _⟩ => ⟨S8x4096x2x128, .f32⟩
  | .hbm, ⟨15, _⟩ => ⟨S8x4096x256, .f32⟩
  | .hbm, ⟨16, _⟩ => ⟨S8x4096x256, .bf16⟩
  | .hbm, ⟨17, _⟩ => ⟨S8x256x2x128, .f32⟩
  | .hbm, ⟨18, _⟩ => ⟨S8x256x256, .f32⟩
  | .hbm, ⟨19, _⟩ => ⟨S8x256x256, .bf16⟩
  | .hbm, ⟨20, _⟩ => ⟨S8x256x2x128, .f32⟩
  | .hbm, ⟨21, _⟩ => ⟨S8x256x256, .f32⟩
  | .hbm, ⟨22, _⟩ => ⟨S8x256x256, .bf16⟩
  | .hbm, ⟨23, _⟩ => ⟨S8x4096x512, .bf16⟩
  | .local _ .vmem, ⟨0, _⟩ => ⟨S1x1024x512, .bf16⟩
  | .local _ .vmem, ⟨1, _⟩ => ⟨S1x1024x512, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x4096x256, .bf16⟩
  | .local _ .vmem, ⟨5, _⟩ => ⟨S1x4096x256, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x1024x512, .bf16⟩
  | .local _ .vmem, ⟨11, _⟩ => ⟨S1x1024x512, .bf16⟩
  | .local _ .smem, ⟨0, _⟩ => ⟨S8, .f32⟩
  | _, _ => ⟨S8x4096x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 4], ![false, false]⟩

def k0_mult1 (i : grid0.Coords) : BitVec 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c1_i32 : BitVec 32 := 1#32
  let v17 : BitVec 32 := Scalar.subi v1 c1_i32
  let c0_i32_5 : BitVec 32 := 0#32
  let v18 : BitVec 32 := Scalar.maxsi v17 c0_i32_5
  let c128_i32 : BitVec 32 := 128#32
  let v22 : BitVec 32 := Scalar.muli v18 c128_i32
  v22
def k0_off1 (i : grid0.Coords) (c0_i32 : BitVec 32) : Fin 3 → Nat :=
  let c0_8 : Index := 0#32
  let arg1 : BitVec 32 := BitVec.ofNat 32 (i 1).val
  let c8_i32 : BitVec 32 := 8#32
  let v0 : BitVec 32 := Scalar.muli arg1 c8_i32
  let v1 : BitVec 32 := Scalar.addi v0 c0_i32
  let c1_i32 : BitVec 32 := 1#32
  let v17 : BitVec 32 := Scalar.subi v1 c1_i32
  let c0_i32_5 : BitVec 32 := 0#32
  let v18 : BitVec 32 := Scalar.maxsi v17 c0_i32_5
  let c128_i32 : BitVec 32 := 128#32
  let v22 : BitVec 32 := Scalar.muli v18 c128_i32
  let v23 : BitVec 32 := v22
  let v24 : Index := Scalar.indexCast v23
  let c0_9 : Index := 0#32
  ![0, v24.toNat, 0]
def k0_mult2 (i : grid0.Coords) : BitVec 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c128_i32_10 : BitVec 32 := 128#32
  let v27 : BitVec 32 := Scalar.muli v1 c128_i32_10
  v27
def k0_off2 (i : grid0.Coords) (c0_i32 : BitVec 32) : Fin 3 → Nat :=
  let c0_11 : Index := 0#32
  let arg1 : BitVec 32 := BitVec.ofNat 32 (i 1).val
  let c8_i32 : BitVec 32 := 8#32
  let v0 : BitVec 32 := Scalar.muli arg1 c8_i32
  let v1 : BitVec 32 := Scalar.addi v0 c0_i32
  let c128_i32_10 : BitVec 32 := 128#32
  let v27 : BitVec 32 := Scalar.muli v1 c128_i32_10
  let v28 : BitVec 32 := v27
  let v29 : Index := Scalar.indexCast v28
  let c0_12 : Index := 0#32
  ![0, v29.toNat, 0]
def k0_mult3 (i : grid0.Coords) : BitVec 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c1_i32_6 : BitVec 32 := 1#32
  let v19 : BitVec 32 := Scalar.addi v1 c1_i32_6
  let c31_i32_7 : BitVec 32 := 31#32
  let v20 : BitVec 32 := Scalar.minsi v19 c31_i32_7
  let c128_i32_13 : BitVec 32 := 128#32
  let v32 : BitVec 32 := Scalar.muli v20 c128_i32_13
  v32
def k0_off3 (i : grid0.Coords) (c0_i32 : BitVec 32) : Fin 3 → Nat :=
  let c0_14 : Index := 0#32
  let arg1 : BitVec 32 := BitVec.ofNat 32 (i 1).val
  let c8_i32 : BitVec 32 := 8#32
  let v0 : BitVec 32 := Scalar.muli arg1 c8_i32
  let v1 : BitVec 32 := Scalar.addi v0 c0_i32
  let c1_i32_6 : BitVec 32 := 1#32
  let v19 : BitVec 32 := Scalar.addi v1 c1_i32_6
  let c31_i32_7 : BitVec 32 := 31#32
  let v20 : BitVec 32 := Scalar.minsi v19 c31_i32_7
  let c128_i32_13 : BitVec 32 := 128#32
  let v32 : BitVec 32 := Scalar.muli v20 c128_i32_13
  let v33 : BitVec 32 := v32
  let v34 : Index := Scalar.indexCast v33
  let c0_15 : Index := 0#32
  ![0, v34.toNat, 0]
def k0_mult4 (i : grid0.Coords) : BitVec 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c1_i32 : BitVec 32 := 1#32
  let v17 : BitVec 32 := Scalar.subi v1 c1_i32
  let c0_i32_5 : BitVec 32 := 0#32
  let v18 : BitVec 32 := Scalar.maxsi v17 c0_i32_5
  let c128_i32_19 : BitVec 32 := 128#32
  let v40 : BitVec 32 := Scalar.muli v18 c128_i32_19
  v40
def k0_mult5 (i : grid0.Coords) : BitVec 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c128_i32_22 : BitVec 32 := 128#32
  let v45 : BitVec 32 := Scalar.muli v1 c128_i32_22
  v45
def k0_mult6 (i : grid0.Coords) : BitVec 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c1_i32_6 : BitVec 32 := 1#32
  let v19 : BitVec 32 := Scalar.addi v1 c1_i32_6
  let c31_i32_7 : BitVec 32 := 31#32
  let v20 : BitVec 32 := Scalar.minsi v19 c31_i32_7
  let c128_i32_25 : BitVec 32 := 128#32
  let v50 : BitVec 32 := Scalar.muli v20 c128_i32_25
  v50
def k0_mult7 (i : grid0.Coords) : BitVec 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c1_i32 : BitVec 32 := 1#32
  let v17 : BitVec 32 := Scalar.subi v1 c1_i32
  let c0_i32_5 : BitVec 32 := 0#32
  let v18 : BitVec 32 := Scalar.maxsi v17 c0_i32_5
  let c128_i32_54 : BitVec 32 := 128#32
  let v247 : BitVec 32 := Scalar.muli v18 c128_i32_54
  v247
def k0_off4 (i : grid0.Coords) (c0_i32 : BitVec 32) : Fin 3 → Nat :=
  let c0_55 : Index := 0#32
  let arg1 : BitVec 32 := BitVec.ofNat 32 (i 1).val
  let c8_i32 : BitVec 32 := 8#32
  let v0 : BitVec 32 := Scalar.muli arg1 c8_i32
  let v1 : BitVec 32 := Scalar.addi v0 c0_i32
  let c1_i32 : BitVec 32 := 1#32
  let v17 : BitVec 32 := Scalar.subi v1 c1_i32
  let c0_i32_5 : BitVec 32 := 0#32
  let v18 : BitVec 32 := Scalar.maxsi v17 c0_i32_5
  let c128_i32_54 : BitVec 32 := 128#32
  let v247 : BitVec 32 := Scalar.muli v18 c128_i32_54
  let v248 : BitVec 32 := v247
  let v249 : Index := Scalar.indexCast v248
  let c128 : Index := 128#32
  ![0, v249.toNat, 128]
def k0_mult8 (i : grid0.Coords) : BitVec 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c128_i32_56 : BitVec 32 := 128#32
  let v252 : BitVec 32 := Scalar.muli v1 c128_i32_56
  v252
def k0_off5 (i : grid0.Coords) (c0_i32 : BitVec 32) : Fin 3 → Nat :=
  let c0_57 : Index := 0#32
  let arg1 : BitVec 32 := BitVec.ofNat 32 (i 1).val
  let c8_i32 : BitVec 32 := 8#32
  let v0 : BitVec 32 := Scalar.muli arg1 c8_i32
  let v1 : BitVec 32 := Scalar.addi v0 c0_i32
  let c128_i32_56 : BitVec 32 := 128#32
  let v252 : BitVec 32 := Scalar.muli v1 c128_i32_56
  let v253 : BitVec 32 := v252
  let v254 : Index := Scalar.indexCast v253
  let c128_58 : Index := 128#32
  ![0, v254.toNat, 128]
def k0_mult9 (i : grid0.Coords) : BitVec 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c1_i32_6 : BitVec 32 := 1#32
  let v19 : BitVec 32 := Scalar.addi v1 c1_i32_6
  let c31_i32_7 : BitVec 32 := 31#32
  let v20 : BitVec 32 := Scalar.minsi v19 c31_i32_7
  let c128_i32_59 : BitVec 32 := 128#32
  let v257 : BitVec 32 := Scalar.muli v20 c128_i32_59
  v257
def k0_off6 (i : grid0.Coords) (c0_i32 : BitVec 32) : Fin 3 → Nat :=
  let c0_60 : Index := 0#32
  let arg1 : BitVec 32 := BitVec.ofNat 32 (i 1).val
  let c8_i32 : BitVec 32 := 8#32
  let v0 : BitVec 32 := Scalar.muli arg1 c8_i32
  let v1 : BitVec 32 := Scalar.addi v0 c0_i32
  let c1_i32_6 : BitVec 32 := 1#32
  let v19 : BitVec 32 := Scalar.addi v1 c1_i32_6
  let c31_i32_7 : BitVec 32 := 31#32
  let v20 : BitVec 32 := Scalar.minsi v19 c31_i32_7
  let c128_i32_59 : BitVec 32 := 128#32
  let v257 : BitVec 32 := Scalar.muli v20 c128_i32_59
  let v258 : BitVec 32 := v257
  let v259 : Index := Scalar.indexCast v258
  let c128_61 : Index := 128#32
  ![0, v259.toNat, 128]
def k0_mult10 (i : grid0.Coords) : BitVec 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c1_i32 : BitVec 32 := 1#32
  let v17 : BitVec 32 := Scalar.subi v1 c1_i32
  let c0_i32_5 : BitVec 32 := 0#32
  let v18 : BitVec 32 := Scalar.maxsi v17 c0_i32_5
  let c128_i32_65 : BitVec 32 := 128#32
  let v265 : BitVec 32 := Scalar.muli v18 c128_i32_65
  v265
def k0_mult11 (i : grid0.Coords) : BitVec 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c128_i32_68 : BitVec 32 := 128#32
  let v270 : BitVec 32 := Scalar.muli v1 c128_i32_68
  v270
def k0_mult12 (i : grid0.Coords) : BitVec 32 :=
  let arg1 : BitVec 32 := BitVec.ofNat 32 (i 1).val
  let c8_i32 : BitVec 32 := 8#32
  let v0 : BitVec 32 := Scalar.muli arg1 c8_i32
  let c0_i32 : BitVec 32 := 0#32
  let v1 : BitVec 32 := Scalar.addi v0 c0_i32
  let c1_i32_6 : BitVec 32 := 1#32
  let v19 : BitVec 32 := Scalar.addi v1 c1_i32_6
  let c31_i32_7 : BitVec 32 := 31#32
  let v20 : BitVec 32 := Scalar.minsi v19 c31_i32_7
  let c128_i32_71 : BitVec 32 := 128#32
  let v275 : BitVec 32 := Scalar.muli v20 c128_i32_71
  v275
def k0_mult13 (i : grid0.Coords) : BitVec 32 :=
  let arg1 : BitVec 32 := BitVec.ofNat 32 (i 1).val
  let c8_i32_102 : BitVec 32 := 8#32
  let v477 : BitVec 32 := Scalar.muli arg1 c8_i32_102
  let c1_i32_103 : BitVec 32 := 1#32
  let v478 : BitVec 32 := Scalar.addi v477 c1_i32_103
  let c1_i32_114 : BitVec 32 := 1#32
  let v494 : BitVec 32 := Scalar.subi v478 c1_i32_114
  let c0_i32_115 : BitVec 32 := 0#32
  let v495 : BitVec 32 := Scalar.maxsi v494 c0_i32_115
  let c128_i32_119 : BitVec 32 := 128#32
  let v499 : BitVec 32 := Scalar.muli v495 c128_i32_119
  v499
def k0_mult14 (i : grid0.Coords) : BitVec 32 :=
  let arg1 : BitVec 32 := BitVec.ofNat 32 (i 1).val
  let c8_i32_102 : BitVec 32 := 8#32
  let v477 : BitVec 32 := Scalar.muli arg1 c8_i32_102
  let c1_i32_103 : BitVec 32 := 1#32
  let v478 : BitVec 32 := Scalar.addi v477 c1_i32_103
  let c128_i32_122 : BitVec 32 := 128#32
  let v504 : BitVec 32 := Scalar.muli v478 c128_i32_122
  v504
def k0_mult15 (i : grid0.Coords) : BitVec 32 :=
  let arg1 : BitVec 32 := BitVec.ofNat 32 (i 1).val
  let c8_i32_102 : BitVec 32 := 8#32
  let v477 : BitVec 32 := Scalar.muli arg1 c8_i32_102
  let c1_i32_103 : BitVec 32 := 1#32
  let v478 : BitVec 32 := Scalar.addi v477 c1_i32_103
  let c1_i32_116 : BitVec 32 := 1#32
  let v496 : BitVec 32 := Scalar.addi v478 c1_i32_116
  let c31_i32_117 : BitVec 32 := 31#32
  let v497 : BitVec 32 := Scalar.minsi v496 c31_i32_117
  let c128_i32_125 : BitVec 32 := 128#32
  let v509 : BitVec 32 := Scalar.muli v497 c128_i32_125
  v509
def k0_mult16 (i : grid0.Coords) : BitVec 32 :=
  let arg1 : BitVec 32 := BitVec.ofNat 32 (i 1).val
  let c8_i32_102 : BitVec 32 := 8#32
  let v477 : BitVec 32 := Scalar.muli arg1 c8_i32_102
  let c1_i32_103 : BitVec 32 := 1#32
  let v478 : BitVec 32 := Scalar.addi v477 c1_i32_103
  let c1_i32_114 : BitVec 32 := 1#32
  let v494 : BitVec 32 := Scalar.subi v478 c1_i32_114
  let c0_i32_115 : BitVec 32 := 0#32
  let v495 : BitVec 32 := Scalar.maxsi v494 c0_i32_115
  let c128_i32_131 : BitVec 32 := 128#32
  let v517 : BitVec 32 := Scalar.muli v495 c128_i32_131
  v517
def k0_mult17 (i : grid0.Coords) : BitVec 32 :=
  let arg1 : BitVec 32 := BitVec.ofNat 32 (i 1).val
  let c8_i32_102 : BitVec 32 := 8#32
  let v477 : BitVec 32 := Scalar.muli arg1 c8_i32_102
  let c1_i32_103 : BitVec 32 := 1#32
  let v478 : BitVec 32 := Scalar.addi v477 c1_i32_103
  let c128_i32_134 : BitVec 32 := 128#32
  let v522 : BitVec 32 := Scalar.muli v478 c128_i32_134
  v522
def k0_mult18 (i : grid0.Coords) : BitVec 32 :=
  let arg1 : BitVec 32 := BitVec.ofNat 32 (i 1).val
  let c8_i32_102 : BitVec 32 := 8#32
  let v477 : BitVec 32 := Scalar.muli arg1 c8_i32_102
  let c1_i32_103 : BitVec 32 := 1#32
  let v478 : BitVec 32 := Scalar.addi v477 c1_i32_103
  let c1_i32_116 : BitVec 32 := 1#32
  let v496 : BitVec 32 := Scalar.addi v478 c1_i32_116
  let c31_i32_117 : BitVec 32 := 31#32
  let v497 : BitVec 32 := Scalar.minsi v496 c31_i32_117
  let c128_i32_137 : BitVec 32 := 128#32
  let v527 : BitVec 32 := Scalar.muli v497 c128_i32_137
  v527
def k0_mult19 (i : grid0.Coords) : BitVec 32 :=
  let arg1 : BitVec 32 := BitVec.ofNat 32 (i 1).val
  let c8_i32_102 : BitVec 32 := 8#32
  let v477 : BitVec 32 := Scalar.muli arg1 c8_i32_102
  let c1_i32_103 : BitVec 32 := 1#32
  let v478 : BitVec 32 := Scalar.addi v477 c1_i32_103
  let c1_i32_114 : BitVec 32 := 1#32
  let v494 : BitVec 32 := Scalar.subi v478 c1_i32_114
  let c0_i32_115 : BitVec 32 := 0#32
  let v495 : BitVec 32 := Scalar.maxsi v494 c0_i32_115
  let c128_i32_169 : BitVec 32 := 128#32
  let v724 : BitVec 32 := Scalar.muli v495 c128_i32_169
  v724
def k0_mult20 (i : grid0.Coords) : BitVec 32 :=
  let arg1 : BitVec 32 := BitVec.ofNat 32 (i 1).val
  let c8_i32_102 : BitVec 32 := 8#32
  let v477 : BitVec 32 := Scalar.muli arg1 c8_i32_102
  let c1_i32_103 : BitVec 32 := 1#32
  let v478 : BitVec 32 := Scalar.addi v477 c1_i32_103
  let c128_i32_172 : BitVec 32 := 128#32
  let v729 : BitVec 32 := Scalar.muli v478 c128_i32_172
  v729
def k0_mult21 (i : grid0.Coords) : BitVec 32 :=
  let arg1 : BitVec 32 := BitVec.ofNat 32 (i 1).val
  let c8_i32_102 : BitVec 32 := 8#32
  let v477 : BitVec 32 := Scalar.muli arg1 c8_i32_102
  let c1_i32_103 : BitVec 32 := 1#32
  let v478 : BitVec 32 := Scalar.addi v477 c1_i32_103
  let c1_i32_116 : BitVec 32 := 1#32
  let v496 : BitVec 32 := Scalar.addi v478 c1_i32_116
  let c31_i32_117 : BitVec 32 := 31#32
  let v497 : BitVec 32 := Scalar.minsi v496 c31_i32_117
  let c128_i32_175 : BitVec 32 := 128#32
  let v734 : BitVec 32 := Scalar.muli v497 c128_i32_175
  v734
def k0_mult22 (i : grid0.Coords) : BitVec 32 :=
  let arg1 : BitVec 32 := BitVec.ofNat 32 (i 1).val
  let c8_i32_102 : BitVec 32 := 8#32
  let v477 : BitVec 32 := Scalar.muli arg1 c8_i32_102
  let c1_i32_103 : BitVec 32 := 1#32
  let v478 : BitVec 32 := Scalar.addi v477 c1_i32_103
  let c1_i32_114 : BitVec 32 := 1#32
  let v494 : BitVec 32 := Scalar.subi v478 c1_i32_114
  let c0_i32_115 : BitVec 32 := 0#32
  let v495 : BitVec 32 := Scalar.maxsi v494 c0_i32_115
  let c128_i32_181 : BitVec 32 := 128#32
  let v742 : BitVec 32 := Scalar.muli v495 c128_i32_181
  v742
def k0_mult23 (i : grid0.Coords) : BitVec 32 :=
  let arg1 : BitVec 32 := BitVec.ofNat 32 (i 1).val
  let c8_i32_102 : BitVec 32 := 8#32
  let v477 : BitVec 32 := Scalar.muli arg1 c8_i32_102
  let c1_i32_103 : BitVec 32 := 1#32
  let v478 : BitVec 32 := Scalar.addi v477 c1_i32_103
  let c128_i32_184 : BitVec 32 := 128#32
  let v747 : BitVec 32 := Scalar.muli v478 c128_i32_184
  v747
def k0_mult24 (i : grid0.Coords) : BitVec 32 :=
  let arg1 : BitVec 32 := BitVec.ofNat 32 (i 1).val
  let c8_i32_102 : BitVec 32 := 8#32
  let v477 : BitVec 32 := Scalar.muli arg1 c8_i32_102
  let c1_i32_103 : BitVec 32 := 1#32
  let v478 : BitVec 32 := Scalar.addi v477 c1_i32_103
  let c1_i32_116 : BitVec 32 := 1#32
  let v496 : BitVec 32 := Scalar.addi v478 c1_i32_116
  let c31_i32_117 : BitVec 32 := 31#32
  let v497 : BitVec 32 := Scalar.minsi v496 c31_i32_117
  let c128_i32_187 : BitVec 32 := 128#32
  let v752 : BitVec 32 := Scalar.muli v497 c128_i32_187
  v752
def k0_mult25 (i : grid0.Coords) : BitVec 32 :=
  let arg1 : BitVec 32 := BitVec.ofNat 32 (i 1).val
  let c8_i32_222 : BitVec 32 := 8#32
  let v954 : BitVec 32 := Scalar.muli arg1 c8_i32_222
  let c2_i32 : BitVec 32 := 2#32
  let v955 : BitVec 32 := Scalar.addi v954 c2_i32
  let c1_i32_232 : BitVec 32 := 1#32
  let v971 : BitVec 32 := Scalar.subi v955 c1_i32_232
  let c0_i32_233 : BitVec 32 := 0#32
  let v972 : BitVec 32 := Scalar.maxsi v971 c0_i32_233
  let c128_i32_237 : BitVec 32 := 128#32
  let v976 : BitVec 32 := Scalar.muli v972 c128_i32_237
  v976
def k0_mult26 (i : grid0.Coords) : BitVec 32 :=
  let arg1 : BitVec 32 := BitVec.ofNat 32 (i 1).val
  let c8_i32_222 : BitVec 32 := 8#32
  let v954 : BitVec 32 := Scalar.muli arg1 c8_i32_222
  let c2_i32 : BitVec 32 := 2#32
  let v955 : BitVec 32 := Scalar.addi v954 c2_i32
  let c128_i32_240 : BitVec 32 := 128#32
  let v981 : BitVec 32 := Scalar.muli v955 c128_i32_240
  v981
def k0_mult27 (i : grid0.Coords) : BitVec 32 :=
  let arg1 : BitVec 32 := BitVec.ofNat 32 (i 1).val
  let c8_i32_222 : BitVec 32 := 8#32
  let v954 : BitVec 32 := Scalar.muli arg1 c8_i32_222
  let c2_i32 : BitVec 32 := 2#32
  let v955 : BitVec 32 := Scalar.addi v954 c2_i32
  let c1_i32_234 : BitVec 32 := 1#32
  let v973 : BitVec 32 := Scalar.addi v955 c1_i32_234
  let c31_i32_235 : BitVec 32 := 31#32
  let v974 : BitVec 32 := Scalar.minsi v973 c31_i32_235
  let c128_i32_243 : BitVec 32 := 128#32
  let v986 : BitVec 32 := Scalar.muli v974 c128_i32_243
  v986
def k0_mult28 (i : grid0.Coords) : BitVec 32 :=
  let arg1 : BitVec 32 := BitVec.ofNat 32 (i 1).val
  let c8_i32_222 : BitVec 32 := 8#32
  let v954 : BitVec 32 := Scalar.muli arg1 c8_i32_222
  let c2_i32 : BitVec 32 := 2#32
  let v955 : BitVec 32 := Scalar.addi v954 c2_i32
  let c1_i32_232 : BitVec 32 := 1#32
  let v971 : BitVec 32 := Scalar.subi v955 c1_i32_232
  let c0_i32_233 : BitVec 32 := 0#32
  let v972 : BitVec 32 := Scalar.maxsi v971 c0_i32_233
  let c128_i32_249 : BitVec 32 := 128#32
  let v994 : BitVec 32 := Scalar.muli v972 c128_i32_249
  v994
def k0_mult29 (i : grid0.Coords) : BitVec 32 :=
  let arg1 : BitVec 32 := BitVec.ofNat 32 (i 1).val
  let c8_i32_222 : BitVec 32 := 8#32
  let v954 : BitVec 32 := Scalar.muli arg1 c8_i32_222
  let c2_i32 : BitVec 32 := 2#32
  let v955 : BitVec 32 := Scalar.addi v954 c2_i32
  let c128_i32_252 : BitVec 32 := 128#32
  let v999 : BitVec 32 := Scalar.muli v955 c128_i32_252
  v999
def k0_mult30 (i : grid0.Coords) : BitVec 32 :=
  let arg1 : BitVec 32 := BitVec.ofNat 32 (i 1).val
  let c8_i32_222 : BitVec 32 := 8#32
  let v954 : BitVec 32 := Scalar.muli arg1 c8_i32_222
  let c2_i32 : BitVec 32 := 2#32
  let v955 : BitVec 32 := Scalar.addi v954 c2_i32
  let c1_i32_234 : BitVec 32 := 1#32
  let v973 : BitVec 32 := Scalar.addi v955 c1_i32_234
  let c31_i32_235 : BitVec 32 := 31#32
  let v974 : BitVec 32 := Scalar.minsi v973 c31_i32_235
  let c128_i32_255 : BitVec 32 := 128#32
  let v1004 : BitVec 32 := Scalar.muli v974 c128_i32_255
  v1004
def k0_mult31 (i : grid0.Coords) : BitVec 32 :=
  let arg1 : BitVec 32 := BitVec.ofNat 32 (i 1).val
  let c8_i32_222 : BitVec 32 := 8#32
  let v954 : BitVec 32 := Scalar.muli arg1 c8_i32_222
  let c2_i32 : BitVec 32 := 2#32
  let v955 : BitVec 32 := Scalar.addi v954 c2_i32
  let c1_i32_232 : BitVec 32 := 1#32
  let v971 : BitVec 32 := Scalar.subi v955 c1_i32_232
  let c0_i32_233 : BitVec 32 := 0#32
  let v972 : BitVec 32 := Scalar.maxsi v971 c0_i32_233
  let c128_i32_287 : BitVec 32 := 128#32
  let v1201 : BitVec 32 := Scalar.muli v972 c128_i32_287
  v1201
def k0_mult32 (i : grid0.Coords) : BitVec 32 :=
  let arg1 : BitVec 32 := BitVec.ofNat 32 (i 1).val
  let c8_i32_222 : BitVec 32 := 8#32
  let v954 : BitVec 32 := Scalar.muli arg1 c8_i32_222
  let c2_i32 : BitVec 32 := 2#32
  let v955 : BitVec 32 := Scalar.addi v954 c2_i32
  let c128_i32_290 : BitVec 32 := 128#32
  let v1206 : BitVec 32 := Scalar.muli v955 c128_i32_290
  v1206
def k0_mult33 (i : grid0.Coords) : BitVec 32 :=
  let arg1 : BitVec 32 := BitVec.ofNat 32 (i 1).val
  let c8_i32_222 : BitVec 32 := 8#32
  let v954 : BitVec 32 := Scalar.muli arg1 c8_i32_222
  let c2_i32 : BitVec 32 := 2#32
  let v955 : BitVec 32 := Scalar.addi v954 c2_i32
  let c1_i32_234 : BitVec 32 := 1#32
  let v973 : BitVec 32 := Scalar.addi v955 c1_i32_234
  let c31_i32_235 : BitVec 32 := 31#32
  let v974 : BitVec 32 := Scalar.minsi v973 c31_i32_235
  let c128_i32_293 : BitVec 32 := 128#32
  let v1211 : BitVec 32 := Scalar.muli v974 c128_i32_293
  v1211
def k0_mult34 (i : grid0.Coords) : BitVec 32 :=
  let arg1 : BitVec 32 := BitVec.ofNat 32 (i 1).val
  let c8_i32_222 : BitVec 32 := 8#32
  let v954 : BitVec 32 := Scalar.muli arg1 c8_i32_222
  let c2_i32 : BitVec 32 := 2#32
  let v955 : BitVec 32 := Scalar.addi v954 c2_i32
  let c1_i32_232 : BitVec 32 := 1#32
  let v971 : BitVec 32 := Scalar.subi v955 c1_i32_232
  let c0_i32_233 : BitVec 32 := 0#32
  let v972 : BitVec 32 := Scalar.maxsi v971 c0_i32_233
  let c128_i32_299 : BitVec 32 := 128#32
  let v1219 : BitVec 32 := Scalar.muli v972 c128_i32_299
  v1219
def k0_mult35 (i : grid0.Coords) : BitVec 32 :=
  let arg1 : BitVec 32 := BitVec.ofNat 32 (i 1).val
  let c8_i32_222 : BitVec 32 := 8#32
  let v954 : BitVec 32 := Scalar.muli arg1 c8_i32_222
  let c2_i32 : BitVec 32 := 2#32
  let v955 : BitVec 32 := Scalar.addi v954 c2_i32
  let c128_i32_302 : BitVec 32 := 128#32
  let v1224 : BitVec 32 := Scalar.muli v955 c128_i32_302
  v1224
def k0_mult36 (i : grid0.Coords) : BitVec 32 :=
  let arg1 : BitVec 32 := BitVec.ofNat 32 (i 1).val
  let c8_i32_222 : BitVec 32 := 8#32
  let v954 : BitVec 32 := Scalar.muli arg1 c8_i32_222
  let c2_i32 : BitVec 32 := 2#32
  let v955 : BitVec 32 := Scalar.addi v954 c2_i32
  let c1_i32_234 : BitVec 32 := 1#32
  let v973 : BitVec 32 := Scalar.addi v955 c1_i32_234
  let c31_i32_235 : BitVec 32 := 31#32
  let v974 : BitVec 32 := Scalar.minsi v973 c31_i32_235
  let c128_i32_305 : BitVec 32 := 128#32
  let v1229 : BitVec 32 := Scalar.muli v974 c128_i32_305
  v1229
def k0_mult37 (i : grid0.Coords) : BitVec 32 :=
  let arg1 : BitVec 32 := BitVec.ofNat 32 (i 1).val
  let c8_i32_340 : BitVec 32 := 8#32
  let v1431 : BitVec 32 := Scalar.muli arg1 c8_i32_340
  let c3_i32 : BitVec 32 := 3#32
  let v1432 : BitVec 32 := Scalar.addi v1431 c3_i32
  let c1_i32_350 : BitVec 32 := 1#32
  let v1448 : BitVec 32 := Scalar.subi v1432 c1_i32_350
  let c0_i32_351 : BitVec 32 := 0#32
  let v1449 : BitVec 32 := Scalar.maxsi v1448 c0_i32_351
  let c128_i32_355 : BitVec 32 := 128#32
  let v1453 : BitVec 32 := Scalar.muli v1449 c128_i32_355
  v1453
def k0_mult38 (i : grid0.Coords) : BitVec 32 :=
  let arg1 : BitVec 32 := BitVec.ofNat 32 (i 1).val
  let c8_i32_340 : BitVec 32 := 8#32
  let v1431 : BitVec 32 := Scalar.muli arg1 c8_i32_340
  let c3_i32 : BitVec 32 := 3#32
  let v1432 : BitVec 32 := Scalar.addi v1431 c3_i32
  let c128_i32_358 : BitVec 32 := 128#32
  let v1458 : BitVec 32 := Scalar.muli v1432 c128_i32_358
  v1458
def k0_mult39 (i : grid0.Coords) : BitVec 32 :=
  let arg1 : BitVec 32 := BitVec.ofNat 32 (i 1).val
  let c8_i32_340 : BitVec 32 := 8#32
  let v1431 : BitVec 32 := Scalar.muli arg1 c8_i32_340
  let c3_i32 : BitVec 32 := 3#32
  let v1432 : BitVec 32 := Scalar.addi v1431 c3_i32
  let c1_i32_352 : BitVec 32 := 1#32
  let v1450 : BitVec 32 := Scalar.addi v1432 c1_i32_352
  let c31_i32_353 : BitVec 32 := 31#32
  let v1451 : BitVec 32 := Scalar.minsi v1450 c31_i32_353
  let c128_i32_361 : BitVec 32 := 128#32
  let v1463 : BitVec 32 := Scalar.muli v1451 c128_i32_361
  v1463
def k0_mult40 (i : grid0.Coords) : BitVec 32 :=
  let arg1 : BitVec 32 := BitVec.ofNat 32 (i 1).val
  let c8_i32_340 : BitVec 32 := 8#32
  let v1431 : BitVec 32 := Scalar.muli arg1 c8_i32_340
  let c3_i32 : BitVec 32 := 3#32
  let v1432 : BitVec 32 := Scalar.addi v1431 c3_i32
  let c1_i32_350 : BitVec 32 := 1#32
  let v1448 : BitVec 32 := Scalar.subi v1432 c1_i32_350
  let c0_i32_351 : BitVec 32 := 0#32
  let v1449 : BitVec 32 := Scalar.maxsi v1448 c0_i32_351
  let c128_i32_367 : BitVec 32 := 128#32
  let v1471 : BitVec 32 := Scalar.muli v1449 c128_i32_367
  v1471
def k0_mult41 (i : grid0.Coords) : BitVec 32 :=
  let arg1 : BitVec 32 := BitVec.ofNat 32 (i 1).val
  let c8_i32_340 : BitVec 32 := 8#32
  let v1431 : BitVec 32 := Scalar.muli arg1 c8_i32_340
  let c3_i32 : BitVec 32 := 3#32
  let v1432 : BitVec 32 := Scalar.addi v1431 c3_i32
  let c128_i32_370 : BitVec 32 := 128#32
  let v1476 : BitVec 32 := Scalar.muli v1432 c128_i32_370
  v1476
def k0_mult42 (i : grid0.Coords) : BitVec 32 :=
  let arg1 : BitVec 32 := BitVec.ofNat 32 (i 1).val
  let c8_i32_340 : BitVec 32 := 8#32
  let v1431 : BitVec 32 := Scalar.muli arg1 c8_i32_340
  let c3_i32 : BitVec 32 := 3#32
  let v1432 : BitVec 32 := Scalar.addi v1431 c3_i32
  let c1_i32_352 : BitVec 32 := 1#32
  let v1450 : BitVec 32 := Scalar.addi v1432 c1_i32_352
  let c31_i32_353 : BitVec 32 := 31#32
  let v1451 : BitVec 32 := Scalar.minsi v1450 c31_i32_353
  let c128_i32_373 : BitVec 32 := 128#32
  let v1481 : BitVec 32 := Scalar.muli v1451 c128_i32_373
  v1481
def k0_mult43 (i : grid0.Coords) : BitVec 32 :=
  let arg1 : BitVec 32 := BitVec.ofNat 32 (i 1).val
  let c8_i32_340 : BitVec 32 := 8#32
  let v1431 : BitVec 32 := Scalar.muli arg1 c8_i32_340
  let c3_i32 : BitVec 32 := 3#32
  let v1432 : BitVec 32 := Scalar.addi v1431 c3_i32
  let c1_i32_350 : BitVec 32 := 1#32
  let v1448 : BitVec 32 := Scalar.subi v1432 c1_i32_350
  let c0_i32_351 : BitVec 32 := 0#32
  let v1449 : BitVec 32 := Scalar.maxsi v1448 c0_i32_351
  let c128_i32_405 : BitVec 32 := 128#32
  let v1678 : BitVec 32 := Scalar.muli v1449 c128_i32_405
  v1678
def k0_mult44 (i : grid0.Coords) : BitVec 32 :=
  let arg1 : BitVec 32 := BitVec.ofNat 32 (i 1).val
  let c8_i32_340 : BitVec 32 := 8#32
  let v1431 : BitVec 32 := Scalar.muli arg1 c8_i32_340
  let c3_i32 : BitVec 32 := 3#32
  let v1432 : BitVec 32 := Scalar.addi v1431 c3_i32
  let c128_i32_408 : BitVec 32 := 128#32
  let v1683 : BitVec 32 := Scalar.muli v1432 c128_i32_408
  v1683
def k0_mult45 (i : grid0.Coords) : BitVec 32 :=
  let arg1 : BitVec 32 := BitVec.ofNat 32 (i 1).val
  let c8_i32_340 : BitVec 32 := 8#32
  let v1431 : BitVec 32 := Scalar.muli arg1 c8_i32_340
  let c3_i32 : BitVec 32 := 3#32
  let v1432 : BitVec 32 := Scalar.addi v1431 c3_i32
  let c1_i32_352 : BitVec 32 := 1#32
  let v1450 : BitVec 32 := Scalar.addi v1432 c1_i32_352
  let c31_i32_353 : BitVec 32 := 31#32
  let v1451 : BitVec 32 := Scalar.minsi v1450 c31_i32_353
  let c128_i32_411 : BitVec 32 := 128#32
  let v1688 : BitVec 32 := Scalar.muli v1451 c128_i32_411
  v1688
def k0_mult46 (i : grid0.Coords) : BitVec 32 :=
  let arg1 : BitVec 32 := BitVec.ofNat 32 (i 1).val
  let c8_i32_340 : BitVec 32 := 8#32
  let v1431 : BitVec 32 := Scalar.muli arg1 c8_i32_340
  let c3_i32 : BitVec 32 := 3#32
  let v1432 : BitVec 32 := Scalar.addi v1431 c3_i32
  let c1_i32_350 : BitVec 32 := 1#32
  let v1448 : BitVec 32 := Scalar.subi v1432 c1_i32_350
  let c0_i32_351 : BitVec 32 := 0#32
  let v1449 : BitVec 32 := Scalar.maxsi v1448 c0_i32_351
  let c128_i32_417 : BitVec 32 := 128#32
  let v1696 : BitVec 32 := Scalar.muli v1449 c128_i32_417
  v1696
def k0_mult47 (i : grid0.Coords) : BitVec 32 :=
  let arg1 : BitVec 32 := BitVec.ofNat 32 (i 1).val
  let c8_i32_340 : BitVec 32 := 8#32
  let v1431 : BitVec 32 := Scalar.muli arg1 c8_i32_340
  let c3_i32 : BitVec 32 := 3#32
  let v1432 : BitVec 32 := Scalar.addi v1431 c3_i32
  let c128_i32_420 : BitVec 32 := 128#32
  let v1701 : BitVec 32 := Scalar.muli v1432 c128_i32_420
  v1701
def k0_mult48 (i : grid0.Coords) : BitVec 32 :=
  let arg1 : BitVec 32 := BitVec.ofNat 32 (i 1).val
  let c8_i32_340 : BitVec 32 := 8#32
  let v1431 : BitVec 32 := Scalar.muli arg1 c8_i32_340
  let c3_i32 : BitVec 32 := 3#32
  let v1432 : BitVec 32 := Scalar.addi v1431 c3_i32
  let c1_i32_352 : BitVec 32 := 1#32
  let v1450 : BitVec 32 := Scalar.addi v1432 c1_i32_352
  let c31_i32_353 : BitVec 32 := 31#32
  let v1451 : BitVec 32 := Scalar.minsi v1450 c31_i32_353
  let c128_i32_423 : BitVec 32 := 128#32
  let v1706 : BitVec 32 := Scalar.muli v1451 c128_i32_423
  v1706
def k0_mult49 (i : grid0.Coords) : BitVec 32 :=
  let arg1 : BitVec 32 := BitVec.ofNat 32 (i 1).val
  let c8_i32_458 : BitVec 32 := 8#32
  let v1908 : BitVec 32 := Scalar.muli arg1 c8_i32_458
  let c4_i32 : BitVec 32 := 4#32
  let v1909 : BitVec 32 := Scalar.addi v1908 c4_i32
  let c1_i32_468 : BitVec 32 := 1#32
  let v1925 : BitVec 32 := Scalar.subi v1909 c1_i32_468
  let c0_i32_469 : BitVec 32 := 0#32
  let v1926 : BitVec 32 := Scalar.maxsi v1925 c0_i32_469
  let c128_i32_473 : BitVec 32 := 128#32
  let v1930 : BitVec 32 := Scalar.muli v1926 c128_i32_473
  v1930
def k0_mult50 (i : grid0.Coords) : BitVec 32 :=
  let arg1 : BitVec 32 := BitVec.ofNat 32 (i 1).val
  let c8_i32_458 : BitVec 32 := 8#32
  let v1908 : BitVec 32 := Scalar.muli arg1 c8_i32_458
  let c4_i32 : BitVec 32 := 4#32
  let v1909 : BitVec 32 := Scalar.addi v1908 c4_i32
  let c128_i32_476 : BitVec 32 := 128#32
  let v1935 : BitVec 32 := Scalar.muli v1909 c128_i32_476
  v1935
def k0_mult51 (i : grid0.Coords) : BitVec 32 :=
  let arg1 : BitVec 32 := BitVec.ofNat 32 (i 1).val
  let c8_i32_458 : BitVec 32 := 8#32
  let v1908 : BitVec 32 := Scalar.muli arg1 c8_i32_458
  let c4_i32 : BitVec 32 := 4#32
  let v1909 : BitVec 32 := Scalar.addi v1908 c4_i32
  let c1_i32_470 : BitVec 32 := 1#32
  let v1927 : BitVec 32 := Scalar.addi v1909 c1_i32_470
  let c31_i32_471 : BitVec 32 := 31#32
  let v1928 : BitVec 32 := Scalar.minsi v1927 c31_i32_471
  let c128_i32_479 : BitVec 32 := 128#32
  let v1940 : BitVec 32 := Scalar.muli v1928 c128_i32_479
  v1940
def k0_mult52 (i : grid0.Coords) : BitVec 32 :=
  let arg1 : BitVec 32 := BitVec.ofNat 32 (i 1).val
  let c8_i32_458 : BitVec 32 := 8#32
  let v1908 : BitVec 32 := Scalar.muli arg1 c8_i32_458
  let c4_i32 : BitVec 32 := 4#32
  let v1909 : BitVec 32 := Scalar.addi v1908 c4_i32
  let c1_i32_468 : BitVec 32 := 1#32
  let v1925 : BitVec 32 := Scalar.subi v1909 c1_i32_468
  let c0_i32_469 : BitVec 32 := 0#32
  let v1926 : BitVec 32 := Scalar.maxsi v1925 c0_i32_469
  let c128_i32_485 : BitVec 32 := 128#32
  let v1948 : BitVec 32 := Scalar.muli v1926 c128_i32_485
  v1948
def k0_mult53 (i : grid0.Coords) : BitVec 32 :=
  let arg1 : BitVec 32 := BitVec.ofNat 32 (i 1).val
  let c8_i32_458 : BitVec 32 := 8#32
  let v1908 : BitVec 32 := Scalar.muli arg1 c8_i32_458
  let c4_i32 : BitVec 32 := 4#32
  let v1909 : BitVec 32 := Scalar.addi v1908 c4_i32
  let c128_i32_488 : BitVec 32 := 128#32
  let v1953 : BitVec 32 := Scalar.muli v1909 c128_i32_488
  v1953
def k0_mult54 (i : grid0.Coords) : BitVec 32 :=
  let arg1 : BitVec 32 := BitVec.ofNat 32 (i 1).val
  let c8_i32_458 : BitVec 32 := 8#32
  let v1908 : BitVec 32 := Scalar.muli arg1 c8_i32_458
  let c4_i32 : BitVec 32 := 4#32
  let v1909 : BitVec 32 := Scalar.addi v1908 c4_i32
  let c1_i32_470 : BitVec 32 := 1#32
  let v1927 : BitVec 32 := Scalar.addi v1909 c1_i32_470
  let c31_i32_471 : BitVec 32 := 31#32
  let v1928 : BitVec 32 := Scalar.minsi v1927 c31_i32_471
  let c128_i32_491 : BitVec 32 := 128#32
  let v1958 : BitVec 32 := Scalar.muli v1928 c128_i32_491
  v1958
def k0_mult55 (i : grid0.Coords) : BitVec 32 :=
  let arg1 : BitVec 32 := BitVec.ofNat 32 (i 1).val
  let c8_i32_458 : BitVec 32 := 8#32
  let v1908 : BitVec 32 := Scalar.muli arg1 c8_i32_458
  let c4_i32 : BitVec 32 := 4#32
  let v1909 : BitVec 32 := Scalar.addi v1908 c4_i32
  let c1_i32_468 : BitVec 32 := 1#32
  let v1925 : BitVec 32 := Scalar.subi v1909 c1_i32_468
  let c0_i32_469 : BitVec 32 := 0#32
  let v1926 : BitVec 32 := Scalar.maxsi v1925 c0_i32_469
  let c128_i32_523 : BitVec 32 := 128#32
  let v2155 : BitVec 32 := Scalar.muli v1926 c128_i32_523
  v2155
def k0_mult56 (i : grid0.Coords) : BitVec 32 :=
  let arg1 : BitVec 32 := BitVec.ofNat 32 (i 1).val
  let c8_i32_458 : BitVec 32 := 8#32
  let v1908 : BitVec 32 := Scalar.muli arg1 c8_i32_458
  let c4_i32 : BitVec 32 := 4#32
  let v1909 : BitVec 32 := Scalar.addi v1908 c4_i32
  let c128_i32_526 : BitVec 32 := 128#32
  let v2160 : BitVec 32 := Scalar.muli v1909 c128_i32_526
  v2160
def k0_mult57 (i : grid0.Coords) : BitVec 32 :=
  let arg1 : BitVec 32 := BitVec.ofNat 32 (i 1).val
  let c8_i32_458 : BitVec 32 := 8#32
  let v1908 : BitVec 32 := Scalar.muli arg1 c8_i32_458
  let c4_i32 : BitVec 32 := 4#32
  let v1909 : BitVec 32 := Scalar.addi v1908 c4_i32
  let c1_i32_470 : BitVec 32 := 1#32
  let v1927 : BitVec 32 := Scalar.addi v1909 c1_i32_470
  let c31_i32_471 : BitVec 32 := 31#32
  let v1928 : BitVec 32 := Scalar.minsi v1927 c31_i32_471
  let c128_i32_529 : BitVec 32 := 128#32
  let v2165 : BitVec 32 := Scalar.muli v1928 c128_i32_529
  v2165
def k0_mult58 (i : grid0.Coords) : BitVec 32 :=
  let arg1 : BitVec 32 := BitVec.ofNat 32 (i 1).val
  let c8_i32_458 : BitVec 32 := 8#32
  let v1908 : BitVec 32 := Scalar.muli arg1 c8_i32_458
  let c4_i32 : BitVec 32 := 4#32
  let v1909 : BitVec 32 := Scalar.addi v1908 c4_i32
  let c1_i32_468 : BitVec 32 := 1#32
  let v1925 : BitVec 32 := Scalar.subi v1909 c1_i32_468
  let c0_i32_469 : BitVec 32 := 0#32
  let v1926 : BitVec 32 := Scalar.maxsi v1925 c0_i32_469
  let c128_i32_535 : BitVec 32 := 128#32
  let v2173 : BitVec 32 := Scalar.muli v1926 c128_i32_535
  v2173
def k0_mult59 (i : grid0.Coords) : BitVec 32 :=
  let arg1 : BitVec 32 := BitVec.ofNat 32 (i 1).val
  let c8_i32_458 : BitVec 32 := 8#32
  let v1908 : BitVec 32 := Scalar.muli arg1 c8_i32_458
  let c4_i32 : BitVec 32 := 4#32
  let v1909 : BitVec 32 := Scalar.addi v1908 c4_i32
  let c128_i32_538 : BitVec 32 := 128#32
  let v2178 : BitVec 32 := Scalar.muli v1909 c128_i32_538
  v2178
def k0_mult60 (i : grid0.Coords) : BitVec 32 :=
  let arg1 : BitVec 32 := BitVec.ofNat 32 (i 1).val
  let c8_i32_458 : BitVec 32 := 8#32
  let v1908 : BitVec 32 := Scalar.muli arg1 c8_i32_458
  let c4_i32 : BitVec 32 := 4#32
  let v1909 : BitVec 32 := Scalar.addi v1908 c4_i32
  let c1_i32_470 : BitVec 32 := 1#32
  let v1927 : BitVec 32 := Scalar.addi v1909 c1_i32_470
  let c31_i32_471 : BitVec 32 := 31#32
  let v1928 : BitVec 32 := Scalar.minsi v1927 c31_i32_471
  let c128_i32_541 : BitVec 32 := 128#32
  let v2183 : BitVec 32 := Scalar.muli v1928 c128_i32_541
  v2183
def k0_mult61 (i : grid0.Coords) : BitVec 32 :=
  let arg1 : BitVec 32 := BitVec.ofNat 32 (i 1).val
  let c8_i32_576 : BitVec 32 := 8#32
  let v2385 : BitVec 32 := Scalar.muli arg1 c8_i32_576
  let c5_i32 : BitVec 32 := 5#32
  let v2386 : BitVec 32 := Scalar.addi v2385 c5_i32
  let c1_i32_586 : BitVec 32 := 1#32
  let v2402 : BitVec 32 := Scalar.subi v2386 c1_i32_586
  let c0_i32_587 : BitVec 32 := 0#32
  let v2403 : BitVec 32 := Scalar.maxsi v2402 c0_i32_587
  let c128_i32_591 : BitVec 32 := 128#32
  let v2407 : BitVec 32 := Scalar.muli v2403 c128_i32_591
  v2407
def k0_mult62 (i : grid0.Coords) : BitVec 32 :=
  let arg1 : BitVec 32 := BitVec.ofNat 32 (i 1).val
  let c8_i32_576 : BitVec 32 := 8#32
  let v2385 : BitVec 32 := Scalar.muli arg1 c8_i32_576
  let c5_i32 : BitVec 32 := 5#32
  let v2386 : BitVec 32 := Scalar.addi v2385 c5_i32
  let c128_i32_594 : BitVec 32 := 128#32
  let v2412 : BitVec 32 := Scalar.muli v2386 c128_i32_594
  v2412
def k0_mult63 (i : grid0.Coords) : BitVec 32 :=
  let arg1 : BitVec 32 := BitVec.ofNat 32 (i 1).val
  let c8_i32_576 : BitVec 32 := 8#32
  let v2385 : BitVec 32 := Scalar.muli arg1 c8_i32_576
  let c5_i32 : BitVec 32 := 5#32
  let v2386 : BitVec 32 := Scalar.addi v2385 c5_i32
  let c1_i32_588 : BitVec 32 := 1#32
  let v2404 : BitVec 32 := Scalar.addi v2386 c1_i32_588
  let c31_i32_589 : BitVec 32 := 31#32
  let v2405 : BitVec 32 := Scalar.minsi v2404 c31_i32_589
  let c128_i32_597 : BitVec 32 := 128#32
  let v2417 : BitVec 32 := Scalar.muli v2405 c128_i32_597
  v2417
def k0_mult64 (i : grid0.Coords) : BitVec 32 :=
  let arg1 : BitVec 32 := BitVec.ofNat 32 (i 1).val
  let c8_i32_576 : BitVec 32 := 8#32
  let v2385 : BitVec 32 := Scalar.muli arg1 c8_i32_576
  let c5_i32 : BitVec 32 := 5#32
  let v2386 : BitVec 32 := Scalar.addi v2385 c5_i32
  let c1_i32_586 : BitVec 32 := 1#32
  let v2402 : BitVec 32 := Scalar.subi v2386 c1_i32_586
  let c0_i32_587 : BitVec 32 := 0#32
  let v2403 : BitVec 32 := Scalar.maxsi v2402 c0_i32_587
  let c128_i32_603 : BitVec 32 := 128#32
  let v2425 : BitVec 32 := Scalar.muli v2403 c128_i32_603
  v2425
def k0_mult65 (i : grid0.Coords) : BitVec 32 :=
  let arg1 : BitVec 32 := BitVec.ofNat 32 (i 1).val
  let c8_i32_576 : BitVec 32 := 8#32
  let v2385 : BitVec 32 := Scalar.muli arg1 c8_i32_576
  let c5_i32 : BitVec 32 := 5#32
  let v2386 : BitVec 32 := Scalar.addi v2385 c5_i32
  let c128_i32_606 : BitVec 32 := 128#32
  let v2430 : BitVec 32 := Scalar.muli v2386 c128_i32_606
  v2430
def k0_mult66 (i : grid0.Coords) : BitVec 32 :=
  let arg1 : BitVec 32 := BitVec.ofNat 32 (i 1).val
  let c8_i32_576 : BitVec 32 := 8#32
  let v2385 : BitVec 32 := Scalar.muli arg1 c8_i32_576
  let c5_i32 : BitVec 32 := 5#32
  let v2386 : BitVec 32 := Scalar.addi v2385 c5_i32
  let c1_i32_588 : BitVec 32 := 1#32
  let v2404 : BitVec 32 := Scalar.addi v2386 c1_i32_588
  let c31_i32_589 : BitVec 32 := 31#32
  let v2405 : BitVec 32 := Scalar.minsi v2404 c31_i32_589
  let c128_i32_609 : BitVec 32 := 128#32
  let v2435 : BitVec 32 := Scalar.muli v2405 c128_i32_609
  v2435
def k0_mult67 (i : grid0.Coords) : BitVec 32 :=
  let arg1 : BitVec 32 := BitVec.ofNat 32 (i 1).val
  let c8_i32_576 : BitVec 32 := 8#32
  let v2385 : BitVec 32 := Scalar.muli arg1 c8_i32_576
  let c5_i32 : BitVec 32 := 5#32
  let v2386 : BitVec 32 := Scalar.addi v2385 c5_i32
  let c1_i32_586 : BitVec 32 := 1#32
  let v2402 : BitVec 32 := Scalar.subi v2386 c1_i32_586
  let c0_i32_587 : BitVec 32 := 0#32
  let v2403 : BitVec 32 := Scalar.maxsi v2402 c0_i32_587
  let c128_i32_641 : BitVec 32 := 128#32
  let v2632 : BitVec 32 := Scalar.muli v2403 c128_i32_641
  v2632
def k0_mult68 (i : grid0.Coords) : BitVec 32 :=
  let arg1 : BitVec 32 := BitVec.ofNat 32 (i 1).val
  let c8_i32_576 : BitVec 32 := 8#32
  let v2385 : BitVec 32 := Scalar.muli arg1 c8_i32_576
  let c5_i32 : BitVec 32 := 5#32
  let v2386 : BitVec 32 := Scalar.addi v2385 c5_i32
  let c128_i32_644 : BitVec 32 := 128#32
  let v2637 : BitVec 32 := Scalar.muli v2386 c128_i32_644
  v2637
def k0_mult69 (i : grid0.Coords) : BitVec 32 :=
  let arg1 : BitVec 32 := BitVec.ofNat 32 (i 1).val
  let c8_i32_576 : BitVec 32 := 8#32
  let v2385 : BitVec 32 := Scalar.muli arg1 c8_i32_576
  let c5_i32 : BitVec 32 := 5#32
  let v2386 : BitVec 32 := Scalar.addi v2385 c5_i32
  let c1_i32_588 : BitVec 32 := 1#32
  let v2404 : BitVec 32 := Scalar.addi v2386 c1_i32_588
  let c31_i32_589 : BitVec 32 := 31#32
  let v2405 : BitVec 32 := Scalar.minsi v2404 c31_i32_589
  let c128_i32_647 : BitVec 32 := 128#32
  let v2642 : BitVec 32 := Scalar.muli v2405 c128_i32_647
  v2642
def k0_mult70 (i : grid0.Coords) : BitVec 32 :=
  let arg1 : BitVec 32 := BitVec.ofNat 32 (i 1).val
  let c8_i32_576 : BitVec 32 := 8#32
  let v2385 : BitVec 32 := Scalar.muli arg1 c8_i32_576
  let c5_i32 : BitVec 32 := 5#32
  let v2386 : BitVec 32 := Scalar.addi v2385 c5_i32
  let c1_i32_586 : BitVec 32 := 1#32
  let v2402 : BitVec 32 := Scalar.subi v2386 c1_i32_586
  let c0_i32_587 : BitVec 32 := 0#32
  let v2403 : BitVec 32 := Scalar.maxsi v2402 c0_i32_587
  let c128_i32_653 : BitVec 32 := 128#32
  let v2650 : BitVec 32 := Scalar.muli v2403 c128_i32_653
  v2650
def k0_mult71 (i : grid0.Coords) : BitVec 32 :=
  let arg1 : BitVec 32 := BitVec.ofNat 32 (i 1).val
  let c8_i32_576 : BitVec 32 := 8#32
  let v2385 : BitVec 32 := Scalar.muli arg1 c8_i32_576
  let c5_i32 : BitVec 32 := 5#32
  let v2386 : BitVec 32 := Scalar.addi v2385 c5_i32
  let c128_i32_656 : BitVec 32 := 128#32
  let v2655 : BitVec 32 := Scalar.muli v2386 c128_i32_656
  v2655
def k0_mult72 (i : grid0.Coords) : BitVec 32 :=
  let arg1 : BitVec 32 := BitVec.ofNat 32 (i 1).val
  let c8_i32_576 : BitVec 32 := 8#32
  let v2385 : BitVec 32 := Scalar.muli arg1 c8_i32_576
  let c5_i32 : BitVec 32 := 5#32
  let v2386 : BitVec 32 := Scalar.addi v2385 c5_i32
  let c1_i32_588 : BitVec 32 := 1#32
  let v2404 : BitVec 32 := Scalar.addi v2386 c1_i32_588
  let c31_i32_589 : BitVec 32 := 31#32
  let v2405 : BitVec 32 := Scalar.minsi v2404 c31_i32_589
  let c128_i32_659 : BitVec 32 := 128#32
  let v2660 : BitVec 32 := Scalar.muli v2405 c128_i32_659
  v2660
def k0_mult73 (i : grid0.Coords) : BitVec 32 :=
  let arg1 : BitVec 32 := BitVec.ofNat 32 (i 1).val
  let c8_i32_694 : BitVec 32 := 8#32
  let v2862 : BitVec 32 := Scalar.muli arg1 c8_i32_694
  let c6_i32 : BitVec 32 := 6#32
  let v2863 : BitVec 32 := Scalar.addi v2862 c6_i32
  let c1_i32_704 : BitVec 32 := 1#32
  let v2879 : BitVec 32 := Scalar.subi v2863 c1_i32_704
  let c0_i32_705 : BitVec 32 := 0#32
  let v2880 : BitVec 32 := Scalar.maxsi v2879 c0_i32_705
  let c128_i32_709 : BitVec 32 := 128#32
  let v2884 : BitVec 32 := Scalar.muli v2880 c128_i32_709
  v2884
def k0_mult74 (i : grid0.Coords) : BitVec 32 :=
  let arg1 : BitVec 32 := BitVec.ofNat 32 (i 1).val
  let c8_i32_694 : BitVec 32 := 8#32
  let v2862 : BitVec 32 := Scalar.muli arg1 c8_i32_694
  let c6_i32 : BitVec 32 := 6#32
  let v2863 : BitVec 32 := Scalar.addi v2862 c6_i32
  let c128_i32_712 : BitVec 32 := 128#32
  let v2889 : BitVec 32 := Scalar.muli v2863 c128_i32_712
  v2889
def k0_mult75 (i : grid0.Coords) : BitVec 32 :=
  let arg1 : BitVec 32 := BitVec.ofNat 32 (i 1).val
  let c8_i32_694 : BitVec 32 := 8#32
  let v2862 : BitVec 32 := Scalar.muli arg1 c8_i32_694
  let c6_i32 : BitVec 32 := 6#32
  let v2863 : BitVec 32 := Scalar.addi v2862 c6_i32
  let c1_i32_706 : BitVec 32 := 1#32
  let v2881 : BitVec 32 := Scalar.addi v2863 c1_i32_706
  let c31_i32_707 : BitVec 32 := 31#32
  let v2882 : BitVec 32 := Scalar.minsi v2881 c31_i32_707
  let c128_i32_715 : BitVec 32 := 128#32
  let v2894 : BitVec 32 := Scalar.muli v2882 c128_i32_715
  v2894
def k0_mult76 (i : grid0.Coords) : BitVec 32 :=
  let arg1 : BitVec 32 := BitVec.ofNat 32 (i 1).val
  let c8_i32_694 : BitVec 32 := 8#32
  let v2862 : BitVec 32 := Scalar.muli arg1 c8_i32_694
  let c6_i32 : BitVec 32 := 6#32
  let v2863 : BitVec 32 := Scalar.addi v2862 c6_i32
  let c1_i32_704 : BitVec 32 := 1#32
  let v2879 : BitVec 32 := Scalar.subi v2863 c1_i32_704
  let c0_i32_705 : BitVec 32 := 0#32
  let v2880 : BitVec 32 := Scalar.maxsi v2879 c0_i32_705
  let c128_i32_721 : BitVec 32 := 128#32
  let v2902 : BitVec 32 := Scalar.muli v2880 c128_i32_721
  v2902
def k0_mult77 (i : grid0.Coords) : BitVec 32 :=
  let arg1 : BitVec 32 := BitVec.ofNat 32 (i 1).val
  let c8_i32_694 : BitVec 32 := 8#32
  let v2862 : BitVec 32 := Scalar.muli arg1 c8_i32_694
  let c6_i32 : BitVec 32 := 6#32
  let v2863 : BitVec 32 := Scalar.addi v2862 c6_i32
  let c128_i32_724 : BitVec 32 := 128#32
  let v2907 : BitVec 32 := Scalar.muli v2863 c128_i32_724
  v2907
def k0_mult78 (i : grid0.Coords) : BitVec 32 :=
  let arg1 : BitVec 32 := BitVec.ofNat 32 (i 1).val
  let c8_i32_694 : BitVec 32 := 8#32
  let v2862 : BitVec 32 := Scalar.muli arg1 c8_i32_694
  let c6_i32 : BitVec 32 := 6#32
  let v2863 : BitVec 32 := Scalar.addi v2862 c6_i32
  let c1_i32_706 : BitVec 32 := 1#32
  let v2881 : BitVec 32 := Scalar.addi v2863 c1_i32_706
  let c31_i32_707 : BitVec 32 := 31#32
  let v2882 : BitVec 32 := Scalar.minsi v2881 c31_i32_707
  let c128_i32_727 : BitVec 32 := 128#32
  let v2912 : BitVec 32 := Scalar.muli v2882 c128_i32_727
  v2912
def k0_mult79 (i : grid0.Coords) : BitVec 32 :=
  let arg1 : BitVec 32 := BitVec.ofNat 32 (i 1).val
  let c8_i32_694 : BitVec 32 := 8#32
  let v2862 : BitVec 32 := Scalar.muli arg1 c8_i32_694
  let c6_i32 : BitVec 32 := 6#32
  let v2863 : BitVec 32 := Scalar.addi v2862 c6_i32
  let c1_i32_704 : BitVec 32 := 1#32
  let v2879 : BitVec 32 := Scalar.subi v2863 c1_i32_704
  let c0_i32_705 : BitVec 32 := 0#32
  let v2880 : BitVec 32 := Scalar.maxsi v2879 c0_i32_705
  let c128_i32_759 : BitVec 32 := 128#32
  let v3109 : BitVec 32 := Scalar.muli v2880 c128_i32_759
  v3109
def k0_mult80 (i : grid0.Coords) : BitVec 32 :=
  let arg1 : BitVec 32 := BitVec.ofNat 32 (i 1).val
  let c8_i32_694 : BitVec 32 := 8#32
  let v2862 : BitVec 32 := Scalar.muli arg1 c8_i32_694
  let c6_i32 : BitVec 32 := 6#32
  let v2863 : BitVec 32 := Scalar.addi v2862 c6_i32
  let c128_i32_762 : BitVec 32 := 128#32
  let v3114 : BitVec 32 := Scalar.muli v2863 c128_i32_762
  v3114
def k0_mult81 (i : grid0.Coords) : BitVec 32 :=
  let arg1 : BitVec 32 := BitVec.ofNat 32 (i 1).val
  let c8_i32_694 : BitVec 32 := 8#32
  let v2862 : BitVec 32 := Scalar.muli arg1 c8_i32_694
  let c6_i32 : BitVec 32 := 6#32
  let v2863 : BitVec 32 := Scalar.addi v2862 c6_i32
  let c1_i32_706 : BitVec 32 := 1#32
  let v2881 : BitVec 32 := Scalar.addi v2863 c1_i32_706
  let c31_i32_707 : BitVec 32 := 31#32
  let v2882 : BitVec 32 := Scalar.minsi v2881 c31_i32_707
  let c128_i32_765 : BitVec 32 := 128#32
  let v3119 : BitVec 32 := Scalar.muli v2882 c128_i32_765
  v3119
def k0_mult82 (i : grid0.Coords) : BitVec 32 :=
  let arg1 : BitVec 32 := BitVec.ofNat 32 (i 1).val
  let c8_i32_694 : BitVec 32 := 8#32
  let v2862 : BitVec 32 := Scalar.muli arg1 c8_i32_694
  let c6_i32 : BitVec 32 := 6#32
  let v2863 : BitVec 32 := Scalar.addi v2862 c6_i32
  let c1_i32_704 : BitVec 32 := 1#32
  let v2879 : BitVec 32 := Scalar.subi v2863 c1_i32_704
  let c0_i32_705 : BitVec 32 := 0#32
  let v2880 : BitVec 32 := Scalar.maxsi v2879 c0_i32_705
  let c128_i32_771 : BitVec 32 := 128#32
  let v3127 : BitVec 32 := Scalar.muli v2880 c128_i32_771
  v3127
def k0_mult83 (i : grid0.Coords) : BitVec 32 :=
  let arg1 : BitVec 32 := BitVec.ofNat 32 (i 1).val
  let c8_i32_694 : BitVec 32 := 8#32
  let v2862 : BitVec 32 := Scalar.muli arg1 c8_i32_694
  let c6_i32 : BitVec 32 := 6#32
  let v2863 : BitVec 32 := Scalar.addi v2862 c6_i32
  let c128_i32_774 : BitVec 32 := 128#32
  let v3132 : BitVec 32 := Scalar.muli v2863 c128_i32_774
  v3132
def k0_mult84 (i : grid0.Coords) : BitVec 32 :=
  let arg1 : BitVec 32 := BitVec.ofNat 32 (i 1).val
  let c8_i32_694 : BitVec 32 := 8#32
  let v2862 : BitVec 32 := Scalar.muli arg1 c8_i32_694
  let c6_i32 : BitVec 32 := 6#32
  let v2863 : BitVec 32 := Scalar.addi v2862 c6_i32
  let c1_i32_706 : BitVec 32 := 1#32
  let v2881 : BitVec 32 := Scalar.addi v2863 c1_i32_706
  let c31_i32_707 : BitVec 32 := 31#32
  let v2882 : BitVec 32 := Scalar.minsi v2881 c31_i32_707
  let c128_i32_777 : BitVec 32 := 128#32
  let v3137 : BitVec 32 := Scalar.muli v2882 c128_i32_777
  v3137
def k0_mult85 (i : grid0.Coords) : BitVec 32 :=
  let arg1 : BitVec 32 := BitVec.ofNat 32 (i 1).val
  let c8_i32_812 : BitVec 32 := 8#32
  let v3339 : BitVec 32 := Scalar.muli arg1 c8_i32_812
  let c7_i32 : BitVec 32 := 7#32
  let v3340 : BitVec 32 := Scalar.addi v3339 c7_i32
  let c1_i32_822 : BitVec 32 := 1#32
  let v3356 : BitVec 32 := Scalar.subi v3340 c1_i32_822
  let c0_i32_823 : BitVec 32 := 0#32
  let v3357 : BitVec 32 := Scalar.maxsi v3356 c0_i32_823
  let c128_i32_827 : BitVec 32 := 128#32
  let v3361 : BitVec 32 := Scalar.muli v3357 c128_i32_827
  v3361
def k0_mult86 (i : grid0.Coords) : BitVec 32 :=
  let arg1 : BitVec 32 := BitVec.ofNat 32 (i 1).val
  let c8_i32_812 : BitVec 32 := 8#32
  let v3339 : BitVec 32 := Scalar.muli arg1 c8_i32_812
  let c7_i32 : BitVec 32 := 7#32
  let v3340 : BitVec 32 := Scalar.addi v3339 c7_i32
  let c128_i32_830 : BitVec 32 := 128#32
  let v3366 : BitVec 32 := Scalar.muli v3340 c128_i32_830
  v3366
def k0_mult87 (i : grid0.Coords) : BitVec 32 :=
  let arg1 : BitVec 32 := BitVec.ofNat 32 (i 1).val
  let c8_i32_812 : BitVec 32 := 8#32
  let v3339 : BitVec 32 := Scalar.muli arg1 c8_i32_812
  let c7_i32 : BitVec 32 := 7#32
  let v3340 : BitVec 32 := Scalar.addi v3339 c7_i32
  let c1_i32_824 : BitVec 32 := 1#32
  let v3358 : BitVec 32 := Scalar.addi v3340 c1_i32_824
  let c31_i32_825 : BitVec 32 := 31#32
  let v3359 : BitVec 32 := Scalar.minsi v3358 c31_i32_825
  let c128_i32_833 : BitVec 32 := 128#32
  let v3371 : BitVec 32 := Scalar.muli v3359 c128_i32_833
  v3371
def k0_mult88 (i : grid0.Coords) : BitVec 32 :=
  let arg1 : BitVec 32 := BitVec.ofNat 32 (i 1).val
  let c8_i32_812 : BitVec 32 := 8#32
  let v3339 : BitVec 32 := Scalar.muli arg1 c8_i32_812
  let c7_i32 : BitVec 32 := 7#32
  let v3340 : BitVec 32 := Scalar.addi v3339 c7_i32
  let c1_i32_822 : BitVec 32 := 1#32
  let v3356 : BitVec 32 := Scalar.subi v3340 c1_i32_822
  let c0_i32_823 : BitVec 32 := 0#32
  let v3357 : BitVec 32 := Scalar.maxsi v3356 c0_i32_823
  let c128_i32_839 : BitVec 32 := 128#32
  let v3379 : BitVec 32 := Scalar.muli v3357 c128_i32_839
  v3379
def k0_mult89 (i : grid0.Coords) : BitVec 32 :=
  let arg1 : BitVec 32 := BitVec.ofNat 32 (i 1).val
  let c8_i32_812 : BitVec 32 := 8#32
  let v3339 : BitVec 32 := Scalar.muli arg1 c8_i32_812
  let c7_i32 : BitVec 32 := 7#32
  let v3340 : BitVec 32 := Scalar.addi v3339 c7_i32
  let c128_i32_842 : BitVec 32 := 128#32
  let v3384 : BitVec 32 := Scalar.muli v3340 c128_i32_842
  v3384
def k0_mult90 (i : grid0.Coords) : BitVec 32 :=
  let arg1 : BitVec 32 := BitVec.ofNat 32 (i 1).val
  let c8_i32_812 : BitVec 32 := 8#32
  let v3339 : BitVec 32 := Scalar.muli arg1 c8_i32_812
  let c7_i32 : BitVec 32 := 7#32
  let v3340 : BitVec 32 := Scalar.addi v3339 c7_i32
  let c1_i32_824 : BitVec 32 := 1#32
  let v3358 : BitVec 32 := Scalar.addi v3340 c1_i32_824
  let c31_i32_825 : BitVec 32 := 31#32
  let v3359 : BitVec 32 := Scalar.minsi v3358 c31_i32_825
  let c128_i32_845 : BitVec 32 := 128#32
  let v3389 : BitVec 32 := Scalar.muli v3359 c128_i32_845
  v3389
def k0_mult91 (i : grid0.Coords) : BitVec 32 :=
  let arg1 : BitVec 32 := BitVec.ofNat 32 (i 1).val
  let c8_i32_812 : BitVec 32 := 8#32
  let v3339 : BitVec 32 := Scalar.muli arg1 c8_i32_812
  let c7_i32 : BitVec 32 := 7#32
  let v3340 : BitVec 32 := Scalar.addi v3339 c7_i32
  let c1_i32_822 : BitVec 32 := 1#32
  let v3356 : BitVec 32 := Scalar.subi v3340 c1_i32_822
  let c0_i32_823 : BitVec 32 := 0#32
  let v3357 : BitVec 32 := Scalar.maxsi v3356 c0_i32_823
  let c128_i32_877 : BitVec 32 := 128#32
  let v3586 : BitVec 32 := Scalar.muli v3357 c128_i32_877
  v3586
def k0_mult92 (i : grid0.Coords) : BitVec 32 :=
  let arg1 : BitVec 32 := BitVec.ofNat 32 (i 1).val
  let c8_i32_812 : BitVec 32 := 8#32
  let v3339 : BitVec 32 := Scalar.muli arg1 c8_i32_812
  let c7_i32 : BitVec 32 := 7#32
  let v3340 : BitVec 32 := Scalar.addi v3339 c7_i32
  let c128_i32_880 : BitVec 32 := 128#32
  let v3591 : BitVec 32 := Scalar.muli v3340 c128_i32_880
  v3591
def k0_mult93 (i : grid0.Coords) : BitVec 32 :=
  let arg1 : BitVec 32 := BitVec.ofNat 32 (i 1).val
  let c8_i32_812 : BitVec 32 := 8#32
  let v3339 : BitVec 32 := Scalar.muli arg1 c8_i32_812
  let c7_i32 : BitVec 32 := 7#32
  let v3340 : BitVec 32 := Scalar.addi v3339 c7_i32
  let c1_i32_824 : BitVec 32 := 1#32
  let v3358 : BitVec 32 := Scalar.addi v3340 c1_i32_824
  let c31_i32_825 : BitVec 32 := 31#32
  let v3359 : BitVec 32 := Scalar.minsi v3358 c31_i32_825
  let c128_i32_883 : BitVec 32 := 128#32
  let v3596 : BitVec 32 := Scalar.muli v3359 c128_i32_883
  v3596
def k0_mult94 (i : grid0.Coords) : BitVec 32 :=
  let arg1 : BitVec 32 := BitVec.ofNat 32 (i 1).val
  let c8_i32_812 : BitVec 32 := 8#32
  let v3339 : BitVec 32 := Scalar.muli arg1 c8_i32_812
  let c7_i32 : BitVec 32 := 7#32
  let v3340 : BitVec 32 := Scalar.addi v3339 c7_i32
  let c1_i32_822 : BitVec 32 := 1#32
  let v3356 : BitVec 32 := Scalar.subi v3340 c1_i32_822
  let c0_i32_823 : BitVec 32 := 0#32
  let v3357 : BitVec 32 := Scalar.maxsi v3356 c0_i32_823
  let c128_i32_889 : BitVec 32 := 128#32
  let v3604 : BitVec 32 := Scalar.muli v3357 c128_i32_889
  v3604
def k0_mult95 (i : grid0.Coords) : BitVec 32 :=
  let arg1 : BitVec 32 := BitVec.ofNat 32 (i 1).val
  let c8_i32_812 : BitVec 32 := 8#32
  let v3339 : BitVec 32 := Scalar.muli arg1 c8_i32_812
  let c7_i32 : BitVec 32 := 7#32
  let v3340 : BitVec 32 := Scalar.addi v3339 c7_i32
  let c128_i32_892 : BitVec 32 := 128#32
  let v3609 : BitVec 32 := Scalar.muli v3340 c128_i32_892
  v3609
def k0_mult96 (i : grid0.Coords) : BitVec 32 :=
  let arg1 : BitVec 32 := BitVec.ofNat 32 (i 1).val
  let c8_i32_812 : BitVec 32 := 8#32
  let v3339 : BitVec 32 := Scalar.muli arg1 c8_i32_812
  let c7_i32 : BitVec 32 := 7#32
  let v3340 : BitVec 32 := Scalar.addi v3339 c7_i32
  let c1_i32_824 : BitVec 32 := 1#32
  let v3358 : BitVec 32 := Scalar.addi v3340 c1_i32_824
  let c31_i32_825 : BitVec 32 := 31#32
  let v3359 : BitVec 32 := Scalar.minsi v3358 c31_i32_825
  let c128_i32_895 : BitVec 32 := 128#32
  let v3614 : BitVec 32 := Scalar.muli v3359 c128_i32_895
  v3614
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S8x4096x8x64 : Shape := ⟨4, ![8, 4096, 8, 64]⟩
abbrev S8x4096x2x64 : Shape := ⟨4, ![8, 4096, 2, 64]⟩
abbrev S8x256x2x64 : Shape := ⟨4, ![8, 256, 2, 64]⟩
abbrev S8 : Shape := ⟨1, ![8]⟩
abbrev S8x32x128x2x4x64 : Shape := ⟨6, ![8, 32, 128, 2, 4, 64]⟩
abbrev S32 : Shape := ⟨1, ![32]⟩
abbrev S_ : Shape := ⟨0, ![]⟩
abbrev S32x1 : Shape := ⟨2, ![32, 1]⟩
abbrev S384 : Shape := ⟨1, ![384]⟩
abbrev S1x384 : Shape := ⟨2, ![1, 384]⟩
abbrev S32x384 : Shape := ⟨2, ![32, 384]⟩
abbrev S8x4352x2x64 : Shape := ⟨4, ![8, 4352, 2, 64]⟩
abbrev S32x384x1 : Shape := ⟨3, ![32, 384, 1]⟩
abbrev S1 : Shape := ⟨1, ![1]⟩
abbrev S1x1x1 : Shape := ⟨3, ![1, 1, 1]⟩
abbrev S8x32x384x2x64 : Shape := ⟨5, ![8, 32, 384, 2, 64]⟩
abbrev S8x32x2x384x128x4 : Shape := ⟨6, ![8, 32, 2, 384, 128, 4]⟩
abbrev S8x32x2x4x128x384 : Shape := ⟨6, ![8, 32, 2, 4, 128, 384]⟩
abbrev S8x2x256x32x128x4 : Shape := ⟨6, ![8, 2, 256, 32, 128, 4]⟩
abbrev S8x32x2x4x128x256 : Shape := ⟨6, ![8, 32, 2, 4, 128, 256]⟩
abbrev S128 : Shape := ⟨1, ![128]⟩
abbrev S1x128 : Shape := ⟨2, ![1, 128]⟩
abbrev S32x128 : Shape := ⟨2, ![32, 128]⟩
abbrev S32x1x384 : Shape := ⟨3, ![32, 1, 384]⟩
abbrev S32x128x1 : Shape := ⟨3, ![32, 128, 1]⟩
abbrev S32x128x384 : Shape := ⟨3, ![32, 128, 384]⟩
abbrev S1x32x1x1x128x384 : Shape := ⟨6, ![1, 32, 1, 1, 128, 384]⟩
abbrev S1x1x2x4x1x1 : Shape := ⟨6, ![1, 1, 2, 4, 1, 1]⟩
abbrev S8x32x2x4x128x1 : Shape := ⟨6, ![8, 32, 2, 4, 128, 1]⟩
abbrev S8x32x2x4x128x641 : Shape := ⟨6, ![8, 32, 2, 4, 128, 641]⟩
abbrev S8x32x2x4x128 : Shape := ⟨5, ![8, 32, 2, 4, 128]⟩
abbrev S8x32x2x64x4x128 : Shape := ⟨6, ![8, 32, 2, 64, 4, 128]⟩
abbrev S8x2x64x32x4x128 : Shape := ⟨6, ![8, 2, 64, 32, 4, 128]⟩
abbrev S8x4096x512 : Shape := ⟨3, ![8, 4096, 512]⟩

abbrev nBuf : Space → Nat
  | .hbm => 141
  | .vmem => 0
  | .smem => 0
  | _ => 0

abbrev hbmTy0_0 (i : Nat) : BufTy := match i % 128 with
  | 0 => ⟨S8x4096x8x64, .f32⟩
  | 1 => ⟨S8x4096x2x64, .f32⟩
  | 2 => ⟨S8x4096x2x64, .f32⟩
  | 3 => ⟨S8x256x2x64, .f32⟩
  | 4 => ⟨S8x256x2x64, .f32⟩
  | 5 => ⟨S8, .f32⟩
  | 6 => ⟨S8x32x128x2x4x64, .f32⟩
  | 7 => ⟨S32, .i32⟩
  | 8 => ⟨S_, .i32⟩
  | 9 => ⟨S32, .i32⟩
  | 10 => ⟨S32, .i32⟩
  | 11 => ⟨S32x1, .i32⟩
  | 12 => ⟨S384, .i32⟩
  | 13 => ⟨S1x384, .i32⟩
  | 14 => ⟨S32x384, .i32⟩
  | 15 => ⟨S32x384, .i32⟩
  | 16 => ⟨S32x384, .i32⟩
  | 17 => ⟨S_, .i32⟩
  | 18 => ⟨S_, .f32⟩
  | 19 => ⟨S8x4352x2x64, .f32⟩
  | 20 => ⟨S_, .i32⟩
  | 21 => ⟨S32x384, .i32⟩
  | 22 => ⟨S32x384, .i1⟩
  | 23 => ⟨S_, .i32⟩
  | 24 => ⟨S32x384, .i32⟩
  | 25 => ⟨S32x384, .i32⟩
  | 26 => ⟨S32x384, .i32⟩
  | 27 => ⟨S32x384x1, .i32⟩
  | 28 => ⟨S1, .i32⟩
  | 29 => ⟨S_, .i32⟩
  | 30 => ⟨S32x384x1, .i32⟩
  | 31 => ⟨S32x384x1, .i1⟩
  | 32 => ⟨S1x1x1, .i32⟩
  | 33 => ⟨S32x384x1, .i32⟩
  | 34 => ⟨S32x384x1, .i1⟩
  | 35 => ⟨S32x384x1, .i1⟩
  | 36 => ⟨S_, .i1⟩
  | 37 => ⟨S32x384, .i1⟩
  | 38 => ⟨S8x32x384x2x64, .f32⟩
  | 39 => ⟨S8x32x384x2x64, .i1⟩
  | 40 => ⟨S_, .f32⟩
  | 41 => ⟨S8x32x384x2x64, .f32⟩
  | 42 => ⟨S8x32x384x2x64, .f32⟩
  | 43 => ⟨S_, .i32⟩
  | 44 => ⟨S_, .f32⟩
  | 45 => ⟨S8x4352x2x64, .f32⟩
  | 46 => ⟨S_, .i32⟩
  | 47 => ⟨S32x384, .i32⟩
  | 48 => ⟨S32x384, .i1⟩
  | 49 => ⟨S_, .i32⟩
  | 50 => ⟨S32x384, .i32⟩
  | 51 => ⟨S32x384, .i32⟩
  | 52 => ⟨S32x384, .i32⟩
  | 53 => ⟨S32x384x1, .i32⟩
  | 54 => ⟨S1, .i32⟩
  | 55 => ⟨S_, .i32⟩
  | 56 => ⟨S32x384x1, .i32⟩
  | 57 => ⟨S32x384x1, .i1⟩
  | 58 => ⟨S1x1x1, .i32⟩
  | 59 => ⟨S32x384x1, .i32⟩
  | 60 => ⟨S32x384x1, .i1⟩
  | 61 => ⟨S32x384x1, .i1⟩
  | 62 => ⟨S_, .i1⟩
  | 63 => ⟨S32x384, .i1⟩
  | 64 => ⟨S8x32x384x2x64, .f32⟩
  | 65 => ⟨S8x32x384x2x64, .i1⟩
  | 66 => ⟨S_, .f32⟩
  | 67 => ⟨S8x32x384x2x64, .f32⟩
  | 68 => ⟨S8x32x384x2x64, .f32⟩
  | 69 => ⟨S8x32x2x384x128x4, .f32⟩
  | 70 => ⟨S8x32x2x4x128x384, .f32⟩
  | 71 => ⟨S_, .f32⟩
  | 72 => ⟨S8x32x2x4x128x384, .f32⟩
  | 73 => ⟨S8x32x2x4x128x384, .f32⟩
  | 74 => ⟨S8x2x256x32x128x4, .f32⟩
  | 75 => ⟨S8x32x2x4x128x256, .f32⟩
  | 76 => ⟨S_, .f32⟩
  | 77 => ⟨S8x32x2x4x128x256, .f32⟩
  | 78 => ⟨S8x32x2x4x128x256, .f32⟩
  | 79 => ⟨S_, .i32⟩
  | 80 => ⟨S32x384, .i32⟩
  | 81 => ⟨S32x384, .i32⟩
  | 82 => ⟨S32x1, .i32⟩
  | 83 => ⟨S128, .i32⟩
  | 84 => ⟨S1x128, .i32⟩
  | 85 => ⟨S32x128, .i32⟩
  | 86 => ⟨S32x128, .i32⟩
  | 87 => ⟨S32x128, .i32⟩
  | 88 => ⟨S32x1x384, .i32⟩
  | 89 => ⟨S32x128x1, .i32⟩
  | 90 => ⟨S32x128x384, .i32⟩
  | 91 => ⟨S32x128x384, .i32⟩
  | 92 => ⟨S32x128x384, .i32⟩
  | 93 => ⟨S32x128x384, .i32⟩
  | 94 => ⟨S_, .i32⟩
  | 95 => ⟨S32x128x384, .i32⟩
  | 96 => ⟨S32x128x384, .i1⟩
  | 97 => ⟨S32x1x384, .i32⟩
  | 98 => ⟨S_, .i32⟩
  | 99 => ⟨S32x1x384, .i32⟩
  | 100 => ⟨S32x1x384, .i1⟩
  | 101 => ⟨S32x128x384, .i1⟩
  | 102 => ⟨S32x128x384, .i1⟩
  | 103 => ⟨S32x1x384, .i32⟩
  | 104 => ⟨S_, .i32⟩
  | 105 => ⟨S32x1x384, .i32⟩
  | 106 => ⟨S32x1x384, .i1⟩
  | 107 => ⟨S32x128x384, .i1⟩
  | 108 => ⟨S32x128x384, .i1⟩
  | 109 => ⟨S1x32x1x1x128x384, .i1⟩
  | 110 => ⟨S_, .f32⟩
  | 111 => ⟨S_, .f32⟩
  | 112 => ⟨S8x32x2x4x128x384, .i1⟩
  | 113 => ⟨S8x32x2x4x128x384, .f32⟩
  | 114 => ⟨S8x32x2x4x128x384, .f32⟩
  | 115 => ⟨S1x1x2x4x1x1, .f32⟩
  | 116 => ⟨S8x32x2x4x128x1, .f32⟩
  | 117 => ⟨S8x32x2x4x128x641, .f32⟩
  | 118 => ⟨S_, .f32⟩
  | 119 => ⟨S8x32x2x4x128, .f32⟩
  | 120 => ⟨S_, .f32⟩
  | 121 => ⟨S8x32x2x4x128, .f32⟩
  | 122 => ⟨S8x32x2x4x128, .f32⟩
  | 123 => ⟨S8x32x2x4x128x1, .f32⟩
  | 124 => ⟨S8x32x2x4x128x641, .f32⟩
  | 125 => ⟨S8x32x2x4x128x641, .f32⟩
  | 126 => ⟨S8x32x2x4x128x641, .f32⟩
  | 127 => ⟨S_, .f32⟩
  | _ => ⟨S8x4096x8x64, .f32⟩

abbrev hbmTy0_1 (i : Nat) : BufTy := match i % 128 with
  | 0 => ⟨S8x32x2x4x128, .f32⟩
  | 1 => ⟨S8x32x2x4x128x1, .f32⟩
  | 2 => ⟨S8x32x2x4x128x641, .f32⟩
  | 3 => ⟨S8x32x2x4x128x641, .f32⟩
  | 4 => ⟨S8x32x2x4x128x384, .f32⟩
  | 5 => ⟨S8x32x2x4x128x256, .f32⟩
  | 6 => ⟨S8x32x2x64x4x128, .f32⟩
  | 7 => ⟨S8x32x128x2x4x64, .f32⟩
  | 8 => ⟨S8x2x64x32x4x128, .f32⟩
  | 9 => ⟨S8x32x128x2x4x64, .f32⟩
  | 10 => ⟨S8x32x128x2x4x64, .f32⟩
  | 11 => ⟨S8x4096x512, .f32⟩
  | 12 => ⟨S8x4096x512, .bf16⟩
  | _ => ⟨S8x4096x8x64, .f32⟩

abbrev hbmTy (i : Nat) : BufTy := match i / 128 with
  | 0 => hbmTy0_0 i
  | 1 => hbmTy0_1 i
  | _ => ⟨S8x4096x8x64, .f32⟩

abbrev bufTy : (tb : Table) → Fin (tcTables nBuf tb) → BufTy
  | .hbm, ⟨i, _⟩ => hbmTy i
  | _, _ => ⟨S8x4096x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_0 : Ref sig .tc := ⟨.hbm, 17, rfl⟩
abbrev main_call0_v0 : Ref sig .tc := ⟨.hbm, 18, rfl⟩
abbrev main_v10 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_v14 : Ref sig .tc := ⟨.hbm, 39, rfl⟩
abbrev main_call1_cst : Ref sig .tc := ⟨.hbm, 40, rfl⟩
abbrev main_call1_v15 : Ref sig .tc := ⟨.hbm, 41, rfl⟩
abbrev main_v11 : Ref sig .tc := ⟨.hbm, 42, rfl⟩
abbrev main_c_1 : Ref sig .tc := ⟨.hbm, 43, rfl⟩
abbrev main_call2_v0 : Ref sig .tc := ⟨.hbm, 44, rfl⟩
abbrev main_v12 : Ref sig .tc := ⟨.hbm, 45, rfl⟩
abbrev main_call3_c : Ref sig .tc := ⟨.hbm, 46, rfl⟩
abbrev main_call3_v0 : Ref sig .tc := ⟨.hbm, 47, rfl⟩
abbrev main_call3_v1 : Ref sig .tc := ⟨.hbm, 48, rfl⟩
abbrev main_call3_c_0 : Ref sig .tc := ⟨.hbm, 49, rfl⟩
abbrev main_call3_v2 : Ref sig .tc := ⟨.hbm, 50, rfl⟩
abbrev main_call3_v3 : Ref sig .tc := ⟨.hbm, 51, rfl⟩
abbrev main_call3_v4 : Ref sig .tc := ⟨.hbm, 52, rfl⟩
abbrev main_call3_v5 : Ref sig .tc := ⟨.hbm, 53, rfl⟩
abbrev main_call3_c_1 : Ref sig .tc := ⟨.hbm, 54, rfl⟩
abbrev main_call3_c_2 : Ref sig .tc := ⟨.hbm, 55, rfl⟩
abbrev main_call3_v6 : Ref sig .tc := ⟨.hbm, 56, rfl⟩
abbrev main_call3_v7 : Ref sig .tc := ⟨.hbm, 57, rfl⟩
abbrev main_call3_v8 : Ref sig .tc := ⟨.hbm, 58, rfl⟩
abbrev main_call3_v9 : Ref sig .tc := ⟨.hbm, 59, rfl⟩
abbrev main_call3_v10 : Ref sig .tc := ⟨.hbm, 60, rfl⟩
abbrev main_call3_v11 : Ref sig .tc := ⟨.hbm, 61, rfl⟩
abbrev main_call3_c_3 : Ref sig .tc := ⟨.hbm, 62, rfl⟩
abbrev main_call3_v12 : Ref sig .tc := ⟨.hbm, 63, rfl⟩
abbrev main_call3_v13 : Ref sig .tc := ⟨.hbm, 64, rfl⟩
abbrev main_call3_v14 : Ref sig .tc := ⟨.hbm, 65, rfl⟩
abbrev main_call3_cst : Ref sig .tc := ⟨.hbm, 66, rfl⟩
abbrev main_call3_v15 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_cst : Ref sig .tc := ⟨.hbm, 71, rfl⟩
abbrev main_v16 : Ref sig .tc := ⟨.hbm, 72, rfl⟩
abbrev main_v17 : Ref sig .tc := ⟨.hbm, 73, rfl⟩
abbrev main_v18 : Ref sig .tc := ⟨.hbm, 74, rfl⟩
abbrev main_v19 : Ref sig .tc := ⟨.hbm, 75, rfl⟩
abbrev main_cst_2 : Ref sig .tc := ⟨.hbm, 76, rfl⟩
abbrev main_v20 : Ref sig .tc := ⟨.hbm, 77, rfl⟩
abbrev main_v21 : Ref sig .tc := ⟨.hbm, 78, rfl⟩
abbrev main_c_3 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩
abbrev main_v25 : Ref sig .tc := ⟨.hbm, 83, rfl⟩
abbrev main_v26 : Ref sig .tc := ⟨.hbm, 84, rfl⟩
abbrev main_v27 : Ref sig .tc := ⟨.hbm, 85, rfl⟩
abbrev main_v28 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_v34 : Ref sig .tc := ⟨.hbm, 92, rfl⟩
abbrev main_v35 : Ref sig .tc := ⟨.hbm, 93, rfl⟩
abbrev main_c_4 : Ref sig .tc := ⟨.hbm, 94, rfl⟩
abbrev main_v36 : Ref sig .tc := ⟨.hbm, 95, rfl⟩
abbrev main_v37 : Ref sig .tc := ⟨.hbm, 96, rfl⟩
abbrev main_v38 : Ref sig .tc := ⟨.hbm, 97, rfl⟩
abbrev main_c_5 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_c_6 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_cst_7 : Ref sig .tc := ⟨.hbm, 110, rfl⟩
abbrev main_call4_v0 : Ref sig .tc := ⟨.hbm, 111, rfl⟩
abbrev main_call4_v1 : Ref sig .tc := ⟨.hbm, 112, rfl⟩
abbrev main_call4_v2 : Ref sig .tc := ⟨.hbm, 113, rfl⟩
abbrev main_v49 : Ref sig .tc := ⟨.hbm, 114, rfl⟩
abbrev main_v50 : Ref sig .tc := ⟨.hbm, 115, rfl⟩
abbrev main_v51 : Ref sig .tc := ⟨.hbm, 116, rfl⟩
abbrev main_v52 : Ref sig .tc := ⟨.hbm, 117, rfl⟩
abbrev main_cst_8 : Ref sig .tc := ⟨.hbm, 118, rfl⟩
abbrev main_v53 : Ref sig .tc := ⟨.hbm, 119, rfl⟩
abbrev main_cst_9 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_v59 : Ref sig .tc := ⟨.hbm, 126, rfl⟩
abbrev main_cst_10 : Ref sig .tc := ⟨.hbm, 127, rfl⟩
abbrev main_v60 : Ref sig .tc := ⟨.hbm, 128, rfl⟩
abbrev main_v61 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_v70 : Ref sig .tc := ⟨.hbm, 138, rfl⟩
abbrev main_v71 : Ref sig .tc := ⟨.hbm, 139, rfl⟩
abbrev main_v72 : Ref sig .tc := ⟨.hbm, 140, rfl⟩

abbrev nD : Nat := 1
abbrev τ : Topo := Topo.v7x

variable {F : FTy → Type} [FloatOps F]
-- ==== Ffn0.lean ====
abbrev S8x4096x1024 : Shape := ⟨3, ![8, 4096, 1024]⟩
abbrev S9x9x1024 : Shape := ⟨3, ![9, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S1x512x1024 : Shape := ⟨3, ![1, 512, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 7
  | .vmem => 11
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1x1x1024x2816, .f32⟩
  | .local _ .vmem, ⟨6, _⟩ => ⟨S1x1x1024x2816, .f32⟩
  | .local _ .vmem, ⟨7, _⟩ => ⟨S1x1x2816x1024, .f32⟩
  | .local _ .vmem, ⟨8, _⟩ => ⟨S1x512x1024, .f32⟩
  | .local _ .vmem, ⟨9, _⟩ => ⟨S1x512x1024, .f32⟩
  | .local _ .vmem, ⟨10, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Ffn0RefIdeal.lean ====
abbrev S8x4096x1024 : Shape := ⟨3, ![8, 4096, 1024]⟩
abbrev S9x9x1024 : Shape := ⟨3, ![9, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S1x1024 : Shape := ⟨2, ![1, 1024]⟩
abbrev S1024 : Shape := ⟨1, ![1024]⟩
abbrev S8x1x1024 : Shape := ⟨3, ![8, 1, 1024]⟩
abbrev S8x1024 : Shape := ⟨2, ![8, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 65
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S1x1024, .f32⟩
  | .hbm, ⟨7, _⟩ => ⟨S1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S1x1x1024x2816, .f32⟩
  | .hbm, ⟨18, _⟩ => ⟨S1024x2816, .f32⟩
  | .hbm, ⟨19, _⟩ => ⟨S1x1x1024x2816, .f32⟩
  | .hbm, ⟨20, _⟩ => ⟨S1024x2816, .f32⟩
  | .hbm, ⟨21, _⟩ => ⟨S1x1x2816x1024, .f32⟩
  | .hbm, ⟨22, _⟩ => ⟨S2816x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S_, .f32⟩
  | .hbm, ⟨53, _⟩ => ⟨S8x4096x2816, .f32⟩
  | .hbm, ⟨54, _⟩ => ⟨S8x4096x2816, .f32⟩
  | .hbm, ⟨55, _⟩ => ⟨S_, .f32⟩
  | .hbm, ⟨56, _⟩ => ⟨S8x4096x2816, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Ffn1.lean ====
abbrev S8x4096x1024 : Shape := ⟨3, ![8, 4096, 1024]⟩
abbrev S9x9x1024 : Shape := ⟨3, ![9, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S8x4096x512 : Shape := ⟨3, ![8, 4096, 512]⟩
abbrev S1x1024x1024 : Shape := ⟨3, ![1, 1024, 1024]⟩
abbrev S1x512x1024 : Shape := ⟨3, ![1, 512, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S1x512x512 : Shape := ⟨3, ![1, 512, 512]⟩
abbrev S512x1024 : Shape := ⟨2, ![512, 1024]⟩
abbrev S512x512 : Shape := ⟨2, ![512, 512]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 10
  | .vmem => 17
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x4096x512, .bf16⟩
  | .hbm, ⟨7, _⟩ => ⟨S8x4096x512, .bf16⟩
  | .hbm, ⟨8, _⟩ => ⟨S1x1024x1024, .f32⟩
  | .hbm, ⟨9, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1x1x1024x2816, .f32⟩
  | .local _ .vmem, ⟨6, _⟩ => ⟨S1x1x1024x2816, .f32⟩
  | .local _ .vmem, ⟨7, _⟩ => ⟨S1x1x2816x1024, .f32⟩
  | .local _ .vmem, ⟨8, _⟩ => ⟨S1x512x512, .bf16⟩
  | .local _ .vmem, ⟨9, _⟩ => ⟨S1x512x512, .bf16⟩
  | .local _ .vmem, ⟨10, _⟩ => ⟨S1x512x1024, .f32⟩
  | .local _ .vmem, ⟨11, _⟩ => ⟨S1x512x512, .bf16⟩
  | .local _ .vmem, ⟨12, _⟩ => ⟨S1x512x512, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x1024, .f32⟩
  | .local _ .vmem, ⟨16, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  let c0_i32_2 : BitVec 32 := 0#32
  ![c0_i32.toNat, c1_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  let c0_i32_1 : BitVec 32 := 0#32
  ![c0_i32.toNat, c1_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x512x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x512x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Ffn1RefIdeal.lean ====
abbrev S8x4096x1024 : Shape := ⟨3, ![8, 4096, 1024]⟩
abbrev S9x9x1024 : Shape := ⟨3, ![9, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S8x4096x512 : Shape := ⟨3, ![8, 4096, 512]⟩
abbrev S1x1024x1024 : Shape := ⟨3, ![1, 1024, 1024]⟩
abbrev S1024x1024 : Shape := ⟨2, ![1024, 1024]⟩
abbrev S8x1x1024 : Shape := ⟨3, ![8, 1, 1024]⟩
abbrev S8x1024 : Shape := ⟨2, ![8, 1024]⟩
abbrev S1x1024 : Shape := ⟨2, ![1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 79
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x4096x512, .bf16⟩
  | .hbm, ⟨7, _⟩ => ⟨S8x4096x512, .bf16⟩
  | .hbm, ⟨8, _⟩ => ⟨S1x1024x1024, .f32⟩
  | .hbm, ⟨9, _⟩ => ⟨S8x4096x512, .f32⟩
  | .hbm, ⟨10, _⟩ => ⟨S8x4096x512, .f32⟩
  | .hbm, ⟨11, _⟩ => ⟨S8x4096x1024, .f32⟩
  | .hbm, ⟨12, _⟩ => ⟨S1024x1024, .f32⟩
  | .hbm, ⟨13, _⟩ => ⟨S8x4096x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S8x4096x1024, .f32⟩
  | .hbm, ⟨18, _⟩ => ⟨S8x4096x1024, .f32⟩
  | .hbm, ⟨19, _⟩ => ⟨S8x4096x1024, .f32⟩
  | .hbm, ⟨20, _⟩ => ⟨S1x1024, .f32⟩
  | .hbm, ⟨21, _⟩ => ⟨S1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S8x1x1024, .f32⟩
  | .hbm, ⟨26, _⟩ => ⟨S8x1024, .f32⟩
  | .hbm, ⟨27, _⟩ => ⟨S8x1x1024, .f32⟩
  | .hbm, ⟨28, _⟩ => ⟨S8x1x1024, .f32⟩
  | .hbm, ⟨29, _⟩ => ⟨S8x1024, .f32⟩
  | .hbm, ⟨30, _⟩ => ⟨S8x1x1024, .f32⟩
  | .hbm, ⟨31, _⟩ => ⟨S1x1x1024x2816, .f32⟩
  | .hbm, ⟨32, _⟩ => ⟨S1024x2816, .f32⟩
  | .hbm, ⟨33, _⟩ => ⟨S1x1x1024x2816, .f32⟩
  | .hbm, ⟨34, _⟩ => ⟨S1024x2816, .f32⟩
  | .hbm, ⟨35, _⟩ => ⟨S1x1x2816x1024, .f32⟩
  | .hbm, ⟨36, _⟩ => ⟨S2816x1024, .f32⟩
  | .hbm, ⟨37, _⟩ => ⟨S_, .f32⟩
  | .hbm, ⟨38, _⟩ => ⟨S8x1x1024, .f32⟩
  | .hbm, ⟨39, _⟩ => ⟨S8x1x1024, .f32⟩
  | .hbm, ⟨40, _⟩ => ⟨S8x4096x1024, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S_, .f32⟩
  | .hbm, ⟨48, _⟩ => ⟨S8x4096x1, .f32⟩
  | .hbm, ⟨49, _⟩ => ⟨S8x4096x1, .f32⟩
  | .hbm, ⟨50, _⟩ => ⟨S8x4096x1, .f32⟩
  | .hbm, ⟨51, _⟩ => ⟨S8x4096x1024, .f32⟩
  | .hbm, ⟨52, _⟩ => ⟨S8x4096x1024, .f32⟩
  | .hbm, ⟨53, _⟩ => ⟨S1x1x1024, .f32⟩
  | .hbm, ⟨54, _⟩ => ⟨S8x4096x1024, .f32⟩
  | .hbm, ⟨55, _⟩ => ⟨S8x4096x1024, .f32⟩
  | .hbm, ⟨56, _⟩ => ⟨S_, .f32⟩
  | .hbm, ⟨57, _⟩ => ⟨S8x1x1024, .f32⟩
  | .hbm, ⟨58, _⟩ => ⟨S8x1x1024, .f32⟩
  | .hbm, ⟨59, _⟩ => ⟨S8x4096x1024, .f32⟩
  | .hbm, ⟨60, _⟩ => ⟨S8x4096x1024, .f32⟩
  | .hbm, ⟨61, _⟩ => ⟨S8x4096x1024, .f32⟩
  | .hbm, ⟨62, _⟩ => ⟨S8x4096x1024, .f32⟩
  | .hbm, ⟨63, _⟩ => ⟨S8x4096x2816, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S_, .f32⟩
  | .hbm, ⟨70, _⟩ => ⟨S8x4096x2816, .f32⟩
  | .hbm, ⟨71, _⟩ => ⟨S8x4096x2816, .f32⟩
  | .hbm, ⟨72, _⟩ => ⟨S8x4096x2816, .f32⟩
  | .hbm, ⟨73, _⟩ => ⟨S8x4096x2816, .f32⟩
  | .hbm, ⟨74, _⟩ => ⟨S8x4096x2816, .f32⟩
  | .hbm, ⟨75, _⟩ => ⟨S8x4096x1024, .f32⟩
  | .hbm, ⟨76, _⟩ => ⟨S8x4096x1024, .f32⟩
  | .hbm, ⟨77, _⟩ => ⟨S8x4096x1024, .f32⟩
  | .hbm, ⟨78, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_0 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_cst_3 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_call0_v0 : Ref sig .tc := ⟨.hbm, 64, rfl⟩
abbrev main_call0_v1 : Ref sig .tc := ⟨.hbm, 65, rfl⟩
abbrev main_call0_cst : Ref sig .tc := ⟨.hbm, 66, rfl⟩
abbrev main_call0_v2 : Ref sig .tc := ⟨.hbm, 67, rfl⟩
abbrev main_call0_v3 : Ref sig .tc := ⟨.hbm, 68, rfl⟩
abbrev main_call0_cst_0 : Ref sig .tc := ⟨.hbm, 69, rfl⟩
abbrev main_call0_v4 : Ref sig .tc := ⟨.hbm, 70, rfl⟩
abbrev main_call0_v5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Ffn2.lean ====
abbrev S8x4096x1024 : Shape := ⟨3, ![8, 4096, 1024]⟩
abbrev S9x9x1024 : Shape := ⟨3, ![9, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S8x4096x128 : Shape := ⟨3, ![8, 4096, 128]⟩
abbrev S1x512x1024 : Shape := ⟨3, ![1, 512, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S1x512x128 : Shape := ⟨3, ![1, 512, 128]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩
abbrev S512x128 : Shape := ⟨2, ![512, 128]⟩

abbrev nBuf : Space → Nat
  | .hbm => 8
  | .vmem => 13
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x4096x1024, .f32⟩
  | .hbm, ⟨7, _⟩ => ⟨S8x4096x128, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1x1x1024x2816, .f32⟩
  | .local _ .vmem, ⟨6, _⟩ => ⟨S1x1x1024x2816, .f32⟩
  | .local _ .vmem, ⟨7, _⟩ => ⟨S1x1x2816x1024, .f32⟩
  | .local _ .vmem, ⟨8, _⟩ => ⟨S1x512x1024, .f32⟩
  | .local _ .vmem, ⟨9, _⟩ => ⟨S1x512x1024, .f32⟩
  | .local _ .vmem, ⟨10, _⟩ => ⟨S1x512x128, .f32⟩
  | .local _ .vmem, ⟨11, _⟩ => ⟨S1x512x128, .f32⟩
  | .local _ .vmem, ⟨12, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  let c0_i32_2 : BitVec 32 := 0#32
  ![c1_i32.toNat, c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Ffn2RefIdeal.lean ====
abbrev S8x4096x1024 : Shape := ⟨3, ![8, 4096, 1024]⟩
abbrev S9x9x1024 : Shape := ⟨3, ![9, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S1x1024 : Shape := ⟨2, ![1, 1024]⟩
abbrev S1024 : Shape := ⟨1, ![1024]⟩
abbrev S8x1x1024 : Shape := ⟨3, ![8, 1, 1024]⟩
abbrev S8x1024 : Shape := ⟨2, ![8, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩
abbrev S8x4096x128 : Shape := ⟨3, ![8, 4096, 128]⟩

abbrev nBuf : Space → Nat
  | .hbm => 77
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S1x1024, .f32⟩
  | .hbm, ⟨7, _⟩ => ⟨S1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x1x1024, .f32⟩
  | .hbm, ⟨12, _⟩ => ⟨S8x1024, .f32⟩
  | .hbm, ⟨13, _⟩ => ⟨S8x1x1024, .f32⟩
  | .hbm, ⟨14, _⟩ => ⟨S8x1x1024, .f32⟩
  | .hbm, ⟨15, _⟩ => ⟨S8x1024, .f32⟩
  | .hbm, ⟨16, _⟩ => ⟨S8x1x1024, .f32⟩
  | .hbm, ⟨17, _⟩ => ⟨S1x1x1024x2816, .f32⟩
  | .hbm, ⟨18, _⟩ => ⟨S1024x2816, .f32⟩
  | .hbm, ⟨19, _⟩ => ⟨S1x1x1024x2816, .f32⟩
  | .hbm, ⟨20, _⟩ => ⟨S1024x2816, .f32⟩
  | .hbm, ⟨21, _⟩ => ⟨S1x1x2816x1024, .f32⟩
  | .hbm, ⟨22, _⟩ => ⟨S2816x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x4096x1024, .f32⟩
  | .hbm, ⟨27, _⟩ => ⟨S_, .f32⟩
  | .hbm, ⟨28, _⟩ => ⟨S8x4096, .f32⟩
  | .hbm, ⟨29, _⟩ => ⟨S8x4096x1, .f32⟩
  | .hbm, ⟨30, _⟩ => ⟨S_, .f32⟩
  | .hbm, ⟨31, _⟩ => ⟨S8x4096x1, .f32⟩
  | .hbm, ⟨32, _⟩ => ⟨S8x4096x1, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S8x4096x1024, .f32⟩
  | .hbm, ⟨46, _⟩ => ⟨S8x4096x1024, .f32⟩
  | .hbm, ⟨47, _⟩ => ⟨S8x4096x1024, .f32⟩
  | .hbm, ⟨48, _⟩ => ⟨S8x4096x1024, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S_, .f32⟩
  | .hbm, ⟨53, _⟩ => ⟨S8x4096x2816, .f32⟩
  | .hbm, ⟨54, _⟩ => ⟨S8x4096x2816, .f32⟩
  | .hbm, ⟨55, _⟩ => ⟨S_, .f32⟩
  | .hbm, ⟨56, _⟩ => ⟨S8x4096x2816, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x1024, .f32⟩
  | .hbm, ⟨62, _⟩ => ⟨S8x4096x1024, .f32⟩
  | .hbm, ⟨63, _⟩ => ⟨S8x4096x1024, .f32⟩
  | .hbm, ⟨64, _⟩ => ⟨S8x4096x1024, .f32⟩
  | .hbm, ⟨65, _⟩ => ⟨S8x4096x1024, .f32⟩
  | .hbm, ⟨66, _⟩ => ⟨S_, .f32⟩
  | .hbm, ⟨67, _⟩ => ⟨S8x4096, .f32⟩
  | .hbm, ⟨68, _⟩ => ⟨S8x4096x1, .f32⟩
  | .hbm, ⟨69, _⟩ => ⟨S_, .f32⟩
  | .hbm, ⟨70, _⟩ => ⟨S8x4096x1, .f32⟩
  | .hbm, ⟨71, _⟩ => ⟨S8x4096x1, .f32⟩
  | .hbm, ⟨72, _⟩ => ⟨S_, .f32⟩
  | .hbm, ⟨73, _⟩ => ⟨S8x4096x1, .f32⟩
  | .hbm, ⟨74, _⟩ => ⟨S8x4096x1, .f32⟩
  | .hbm, ⟨75, _⟩ => ⟨S8x4096x1, .f32⟩
  | .hbm, ⟨76, _⟩ => ⟨S8x4096x128, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_4 : Ref sig .tc := ⟨.hbm, 66, rfl⟩
abbrev main_v47 : Ref sig .tc := ⟨.hbm, 67, rfl⟩
abbrev main_v48 : Ref sig .tc := ⟨.hbm, 68, rfl⟩
abbrev main_cst_5 : Ref sig .tc := ⟨.hbm, 69, rfl⟩
abbrev main_v49 : Ref sig .tc := ⟨.hbm, 70, rfl⟩
abbrev main_v50 : Ref sig .tc := ⟨.hbm, 71, rfl⟩
abbrev main_cst_6 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]
-- ==== Ffn3.lean ====
abbrev S8x4096x1024 : Shape := ⟨3, ![8, 4096, 1024]⟩
abbrev S9x9x1024 : Shape := ⟨3, ![9, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S1x512x1024 : Shape := ⟨3, ![1, 512, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S512x1024 : Shape := ⟨2, ![512, 1024]⟩
abbrev S1024x1024 : Shape := ⟨2, ![1024, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 9
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x4096x1024, .bf16⟩
  | .hbm, ⟨7, _⟩ => ⟨S1x1024x1024, .f32⟩
  | .hbm, ⟨8, _⟩ => ⟨S8x4096x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S1x9x1024, .f32⟩
  | .local _ .vmem, ⟨4, _⟩ => ⟨S3x1024, .f32⟩
  | .local _ .vmem, ⟨5, _⟩ => ⟨S1x1x1024x2816, .f32⟩
  | .local _ .vmem, ⟨6, _⟩ => ⟨S1x1x1024x2816, .f32⟩
  | .local _ .vmem, ⟨7, _⟩ => ⟨S1x1x2816x1024, .f32⟩
  | .local _ .vmem, ⟨8, _⟩ => ⟨S1x512x1024, .bf16⟩
  | .local _ .vmem, ⟨9, _⟩ => ⟨S1x512x1024, .bf16⟩
  | .local _ .vmem, ⟨10, _⟩ => ⟨S1x1024x1024, .f32⟩
  | .local _ .vmem, ⟨11, _⟩ => ⟨S1x512x1024, .f32⟩
  | .local _ .vmem, ⟨12, _⟩ => ⟨S1x512x1024, .f32⟩
  | .local _ .vmem, ⟨13, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_5 (i : grid0.Coords) : Fin 4 → Nat :=
  let arg0 : BitVec 32 := BitVec.ofNat 32 (i 0).val
  let arg1 : BitVec 32 := BitVec.ofNat 32 (i 1).val
  let c1_i32 : BitVec 32 := 1#32
  let c1_i32_0 : BitVec 32 := 1#32
  let c0_i32 : BitVec 32 := 0#32
  let c0_i32_1 : BitVec 32 := 0#32
  let c0_i32_2 : BitVec 32 := 0#32
  ![c1_i32.toNat, c1_i32_0.toNat, c0_i32.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x9x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S1x1024x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Ffn3RefIdeal.lean ====
abbrev S8x4096x1024 : Shape := ⟨3, ![8, 4096, 1024]⟩
abbrev S9x9x1024 : Shape := ⟨3, ![9, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S1x1024x1024 : Shape := ⟨3, ![1, 1024, 1024]⟩
abbrev S8x1x1024 : Shape := ⟨3, ![8, 1, 1024]⟩
abbrev S8x1024 : Shape := ⟨2, ![8, 1024]⟩
abbrev S1024x1024 : Shape := ⟨2, ![1024, 1024]⟩
abbrev S1x1024 : Shape := ⟨2, ![1, 1024]⟩
abbrev S1024 : Shape := ⟨1, ![1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x2816 : Shape := ⟨3, ![8, 4096, 2816]⟩

abbrev nBuf : Space → Nat
  | .hbm => 76
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S9x9x1024, .f32⟩
  | .hbm, ⟨2, _⟩ => ⟨S3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S8x4096x1024, .bf16⟩
  | .hbm, ⟨7, _⟩ => ⟨S1x1024x1024, .f32⟩
  | .hbm, ⟨8, _⟩ => ⟨S8x1x1024, .f32⟩
  | .hbm, ⟨9, _⟩ => ⟨S8x1024, .f32⟩
  | .hbm, ⟨10, _⟩ => ⟨S8x1x1024, .f32⟩
  | .hbm, ⟨11, _⟩ => ⟨S8x4096x1024, .f32⟩
  | .hbm, ⟨12, _⟩ => ⟨S1024x1024, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S8x4096x1024, .f32⟩
  | .hbm, ⟨17, _⟩ => ⟨S1x1024, .f32⟩
  | .hbm, ⟨18, _⟩ => ⟨S1024, .f32⟩
  | .hbm, ⟨19, _⟩ => ⟨S8x1x1024, .f32⟩
  | .hbm, ⟨20, _⟩ => ⟨S8x1024, .f32⟩
  | .hbm, ⟨21, _⟩ => ⟨S8x1x1024, .f32⟩
  | .hbm, ⟨22, _⟩ => ⟨S8x1x1024, .f32⟩
  | .hbm, ⟨23, _⟩ => ⟨S8x1024, .f32⟩
  | .hbm, ⟨24, _⟩ => ⟨S8x1x1024, .f32⟩
  | .hbm, ⟨25, _⟩ => ⟨S8x1x1024, .f32⟩
  | .hbm, ⟨26, _⟩ => ⟨S8x1024, .f32⟩
  | .hbm, ⟨27, _⟩ => ⟨S8x1x1024, .f32⟩
  | .hbm, ⟨28, _⟩ => ⟨S1x1x1024x2816, .f32⟩
  | .hbm, ⟨29, _⟩ => ⟨S1024x2816, .f32⟩
  | .hbm, ⟨30, _⟩ => ⟨S1x1x1024x2816, .f32⟩
  | .hbm, ⟨31, _⟩ => ⟨S1024x2816, .f32⟩
  | .hbm, ⟨32, _⟩ => ⟨S1x1x2816x1024, .f32⟩
  | .hbm, ⟨33, _⟩ => ⟨S2816x1024, .f32⟩
  | .hbm, ⟨34, _⟩ => ⟨S_, .f32⟩
  | .hbm, ⟨35, _⟩ => ⟨S8x1x1024, .f32⟩
  | .hbm, ⟨36, _⟩ => ⟨S8x1x1024, .f32⟩
  | .hbm, ⟨37, _⟩ => ⟨S8x4096x1024, .f32⟩
  | .hbm, ⟨38, _⟩ => ⟨S_, .f32⟩
  | .hbm, ⟨39, _⟩ => ⟨S8x4096, .f32⟩
  | .hbm, ⟨40, _⟩ => ⟨S8x4096x1, .f32⟩
  | .hbm, ⟨41, _⟩ => ⟨S_, .f32⟩
  | .hbm, ⟨42, _⟩ => ⟨S8x4096x1, .f32⟩
  | .hbm, ⟨43, _⟩ => ⟨S8x4096x1, .f32⟩
  | .hbm, ⟨44, _⟩ => ⟨S_, .f32⟩
  | .hbm, ⟨45, _⟩ => ⟨S8x4096x1, .f32⟩
  | .hbm, ⟨46, _⟩ => ⟨S8x4096x1, .f32⟩
  | .hbm, ⟨47, _⟩ => ⟨S8x4096x1, .f32⟩
  | .hbm, ⟨48, _⟩ => ⟨S8x4096x1024, .f32⟩
  | .hbm, ⟨49, _⟩ => ⟨S8x4096x1024, .f32⟩
  | .hbm, ⟨50, _⟩ => ⟨S1x1x1024, .f32⟩
  | .hbm, ⟨51, _⟩ => ⟨S8x4096x1024, .f32⟩
  | .hbm, ⟨52, _⟩ => ⟨S8x4096x1024, .f32⟩
  | .hbm, ⟨53, _⟩ => ⟨S_, .f32⟩
  | .hbm, ⟨54, _⟩ => ⟨S8x1x1024, .f32⟩
  | .hbm, ⟨55, _⟩ => ⟨S8x1x1024, .f32⟩
  | .hbm, ⟨56, _⟩ => ⟨S8x4096x1024, .f32⟩
  | .hbm, ⟨57, _⟩ => ⟨S8x4096x1024, .f32⟩
  | .hbm, ⟨58, _⟩ => ⟨S8x4096x1024, .f32⟩
  | .hbm, ⟨59, _⟩ => ⟨S8x4096x1024, .f32⟩
  | .hbm, ⟨60, _⟩ => ⟨S8x4096x2816, .f32⟩
  | .hbm, ⟨61, _⟩ => ⟨S8x4096x2816, .f32⟩
  | .hbm, ⟨62, _⟩ => ⟨S8x4096x2816, .f32⟩
  | .hbm, ⟨63, _⟩ => ⟨S_, .f32⟩
  | .hbm, ⟨64, _⟩ => ⟨S8x4096x2816, .f32⟩
  | .hbm, ⟨65, _⟩ => ⟨S8x4096x2816, .f32⟩
  | .hbm, ⟨66, _⟩ => ⟨S_, .f32⟩
  | .hbm, ⟨67, _⟩ => ⟨S8x4096x2816, .f32⟩
  | .hbm, ⟨68, _⟩ => ⟨S8x4096x2816, .f32⟩
  | .hbm, ⟨69, _⟩ => ⟨S8x4096x2816, .f32⟩
  | .hbm, ⟨70, _⟩ => ⟨S8x4096x2816, .f32⟩
  | .hbm, ⟨71, _⟩ => ⟨S8x4096x2816, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_0 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_cst_2 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_call0_v0 : Ref sig .tc := ⟨.hbm, 61, rfl⟩
abbrev main_call0_v1 : Ref sig .tc := ⟨.hbm, 62, rfl⟩
abbrev main_call0_cst : Ref sig .tc := ⟨.hbm, 63, rfl⟩
abbrev main_call0_v2 : Ref sig .tc := ⟨.hbm, 64, rfl⟩
abbrev main_call0_v3 : Ref sig .tc := ⟨.hbm, 65, rfl⟩
abbrev main_call0_cst_0 : Ref sig .tc := ⟨.hbm, 66, rfl⟩
abbrev main_call0_v4 : Ref sig .tc := ⟨.hbm, 67, rfl⟩
abbrev main_call0_v5 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== FfnCtx.lean ====
abbrev S1x2048x1024 : Shape := ⟨3, ![1, 2048, 1024]⟩
abbrev S9x9x1024 : Shape := ⟨3, ![9, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S1x512x1024 : Shape := ⟨3, ![1, 512, 1024]⟩
abbrev S1x9x1024 : Shape := ⟨3, ![1, 9, 1024]⟩
abbrev S1x1x1024x2816 : Shape := ⟨4, ![1, 1, 1024, 2816]⟩
abbrev S1x1x2816x1024 : Shape := ⟨4, ![1, 1, 2816, 1024]⟩
abbrev S512x1024 : Shape := ⟨2, ![512, 1024]⟩
abbrev S1x1x1024 : Shape := ⟨3, ![1, 1, 1024]⟩
abbrev S1x1024 : Shape := ⟨2, ![1, 1024]⟩
abbrev S512 : Shape := ⟨1, ![512]⟩
abbrev S512x1 : Shape := ⟨2, ![512, 1]⟩
abbrev S1x1x1024x256 : Shape := ⟨4, ![1, 1, 1024, 256]⟩
abbrev S1024x256 : Shape := ⟨2, ![1024, 256]⟩
abbrev S512x256 : Shape := ⟨2, ![512, 256]⟩
abbrev S1x1x256x1024 : Shape := ⟨4, ![1, 1, 256, 1024]⟩
abbrev S256x1024 : Shape := ⟨2, ![256, 1024]⟩

abbrev nBuf : Space → Nat
  | .hbm => 7
  | .vmem => 10
  | .smem => 0
  | _ => 0

abbrev bufTy : (tb : Table) → Fin (tcTables nBuf tb) → BufTy
  | .hbm, ⟨0, _⟩ => ⟨S1x2048x1024, .f32⟩
  | .hbm, ⟨1, _⟩ => ⟨S9x9x1024, .f32⟩
  | .hbm, ⟨2, _⟩ => ⟨S3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S1x2048x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x9x1024, .f32⟩
  | .local _ .vmem, ⟨3, _⟩ => ⟨S3x1024, .f32⟩
  | .local _ .vmem, ⟨4, _⟩ => ⟨S1x1x1024x2816, .f32⟩
  | .local _ .vmem, ⟨5, _⟩ => ⟨S1x1x1024x2816, .f32⟩
  | .local _ .vmem, ⟨6, _⟩ => ⟨S1x1x2816x1024, .f32⟩
  | .local _ .vmem, ⟨7, _⟩ => ⟨S1x512x1024, .f32⟩
  | .local _ .vmem, ⟨8, _⟩ => ⟨S1x512x1024, .f32⟩
  | .local _ .vmem, ⟨9, _⟩ => ⟨S512x1024, .f32⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let c0_i32 : BitVec 32 := 0#32
  let c0_i32_0 : BitVec 32 := 0#32
  let c0_i32_1 : BitVec 32 := 0#32
  ![c8_i32.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x9x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S3x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1x1024x2816 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024x2816 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x2816x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== FfnCtxRefIdeal.lean ====
abbrev S1x2048x1024 : Shape := ⟨3, ![1, 2048, 1024]⟩
abbrev S9x9x1024 : Shape := ⟨3, ![9, 9, 1024]⟩
abbrev S3x1024 : Shape := ⟨2, ![3, 1024]⟩
abbrev S2x2x1024x2816 : Shape := ⟨4, ![2, 2, 1024, 2816]⟩
abbrev S2x2x2816x1024 : Shape := ⟨4, ![2, 2, 2816, 1024]⟩
abbrev S1x1024 : Shape := ⟨2, ![1, 1024]⟩
abbrev S1024 : Shape := ⟨1, ![1024]⟩
abbrev S1x1x1024 : Shape := ⟨3, ![1, 1, 1024]⟩
abbrev S1x1x1024x2816 : Shape := ⟨4, ![1, 1, 1024, 2816]⟩
abbrev S1024x2816 : Shape := ⟨2, ![1024, 2816]⟩
abbrev S1x1x2816x1024 : Shape := ⟨4, ![1, 1, 2816, 1024]⟩
abbrev S2816x1024 : Shape := ⟨2, ![2816, 1024]⟩
abbrev S_ : Shape := ⟨0, ![]⟩
abbrev S1x2048 : Shape := ⟨2, ![1, 2048]⟩
abbrev S1x2048x1 : Shape := ⟨3, ![1, 2048, 1]⟩
abbrev S1x2048x2816 : Shape := ⟨3, ![1, 2048, 2816]⟩

abbrev nBuf : Space → Nat
  | .hbm => 65
  | .vmem => 0
  | .smem => 0
  | _ => 0

abbrev bufTy : (tb : Table) → Fin (tcTables nBuf tb) → BufTy
  | .hbm, ⟨0, _⟩ => ⟨S1x2048x1024, .f32⟩
  | .hbm, ⟨1, _⟩ => ⟨S9x9x1024, .f32⟩
  | .hbm, ⟨2, _⟩ => ⟨S3x1024, .f32⟩
  | .hbm, ⟨3, _⟩ => ⟨S2x2x1024x2816, .f32⟩
  | .hbm, ⟨4, _⟩ => ⟨S2x2x1024x2816, .f32⟩
  | .hbm, ⟨5, _⟩ => ⟨S2x2x2816x1024, .f32⟩
  | .hbm, ⟨6, _⟩ => ⟨S1x1024, .f32⟩
  | .hbm, ⟨7, _⟩ => ⟨S1024, .f32⟩
  | .hbm, ⟨8, _⟩ => ⟨S1x1x1024, .f32⟩
  | .hbm, ⟨9, _⟩ => ⟨S1x1024, .f32⟩
  | .hbm, ⟨10, _⟩ => ⟨S1x1x1024, .f32⟩
  | .hbm, ⟨11, _⟩ => ⟨S1x1x1024, .f32⟩
  | .hbm, ⟨12, _⟩ => ⟨S1x1024, .f32⟩
  | .hbm, ⟨13, _⟩ => ⟨S1x1x1024, .f32⟩
  | .hbm, ⟨14, _⟩ => ⟨S1x1x1024, .f32⟩
  | .hbm, ⟨15, _⟩ => ⟨S1x1024, .f32⟩
  | .hbm, ⟨16, _⟩ => ⟨S1x1x1024, .f32⟩
  | .hbm, ⟨17, _⟩ => ⟨S1x1x1024x2816, .f32⟩
  | .hbm, ⟨18, _⟩ => ⟨S1024x2816, .f32⟩
  | .hbm, ⟨19, _⟩ => ⟨S1x1x1024x2816, .f32⟩
  | .hbm, ⟨20, _⟩ => ⟨S1024x2816, .f32⟩
  | .hbm, ⟨21, _⟩ => ⟨S1x1x2816x1024, .f32⟩
  | .hbm, ⟨22, _⟩ => ⟨S2816x1024, .f32⟩
  | .hbm, ⟨23, _⟩ => ⟨S_, .f32⟩
  | .hbm, ⟨24, _⟩ => ⟨S1x1x1024, .f32⟩
  | .hbm, ⟨25, _⟩ => ⟨S1x1x1024, .f32⟩
  | .hbm, ⟨26, _⟩ => ⟨S1x2048x1024, .f32⟩
  | .hbm, ⟨27, _⟩ => ⟨S_, .f32⟩
  | .hbm, ⟨28, _⟩ => ⟨S1x2048, .f32⟩
  | .hbm, ⟨29, _⟩ => ⟨S1x2048x1, .f32⟩
  | .hbm, ⟨30, _⟩ => ⟨S_, .f32⟩
  | .hbm, ⟨31, _⟩ => ⟨S1x2048x1, .f32⟩
  | .hbm, ⟨32, _⟩ => ⟨S1x2048x1, .f32⟩
  | .hbm, ⟨33, _⟩ => ⟨S_, .f32⟩
  | .hbm, ⟨34, _⟩ => ⟨S1x2048x1, .f32⟩
  | .hbm, ⟨35, _⟩ => ⟨S1x2048x1, .f32⟩
  | .hbm, ⟨36, _⟩ => ⟨S1x2048x1, .f32⟩
  | .hbm, ⟨37, _⟩ => ⟨S1x2048x1024, .f32⟩
  | .hbm, ⟨38, _⟩ => ⟨S1x2048x1024, .f32⟩
  | .hbm, ⟨39, _⟩ => ⟨S1x1x1024, .f32⟩
  | .hbm, ⟨40, _⟩ => ⟨S1x2048x1024, .f32⟩
  | .hbm, ⟨41, _⟩ => ⟨S1x2048x1024, .f32⟩
  | .hbm, ⟨42, _⟩ => ⟨S_, .f32⟩
  | .hbm, ⟨43, _⟩ => ⟨S1x1x1024, .f32⟩
  | .hbm, ⟨44, _⟩ => ⟨S1x1x1024, .f32⟩
  | .hbm, ⟨45, _⟩ => ⟨S1x2048x1024, .f32⟩
  | .hbm, ⟨46, _⟩ => ⟨S1x2048x1024, .f32⟩
  | .hbm, ⟨47, _⟩ => ⟨S1x2048x1024, .f32⟩
  | .hbm, ⟨48, _⟩ => ⟨S1x2048x1024, .f32⟩
  | .hbm, ⟨49, _⟩ => ⟨S1x2048x2816, .f32⟩
  | .hbm, ⟨50, _⟩ => ⟨S1x2048x2816, .f32⟩
  | .hbm, ⟨51, _⟩ => ⟨S1x2048x2816, .f32⟩
  | .hbm, ⟨52, _⟩ => ⟨S_, .f32⟩
  | .hbm, ⟨53, _⟩ => ⟨S1x2048x2816, .f32⟩
  | .hbm, ⟨54, _⟩ => ⟨S1x2048x2816, .f32⟩
  | .hbm, ⟨55, _⟩ => ⟨S_, .f32⟩
  | .hbm, ⟨56, _⟩ => ⟨S1x2048x2816, .f32⟩
  | .hbm, ⟨57, _⟩ => ⟨S1x2048x2816, .f32⟩
  | .hbm, ⟨58, _⟩ => ⟨S1x2048x2816, .f32⟩
  | .hbm, ⟨59, _⟩ => ⟨S1x2048x2816, .f32⟩
  | .hbm, ⟨60, _⟩ => ⟨S1x2048x2816, .f32⟩
  | .hbm, ⟨61, _⟩ => ⟨S1x2048x1024, .f32⟩
  | .hbm, ⟨62, _⟩ => ⟨S1x2048x1024, .f32⟩
  | .hbm, ⟨63, _⟩ => ⟨S1x2048x1024, .f32⟩
  | .hbm, ⟨64, _⟩ => ⟨S1x2048x1024, .f32⟩
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_0 : Ref sig .tc := ⟨.hbm, 27, rfl⟩
abbrev main_v20 : Ref sig .tc := ⟨.hbm, 28, rfl⟩
abbrev main_v21 : Ref sig .tc := ⟨.hbm, 29, rfl⟩
abbrev main_cst_1 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_3 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩

abbrev nD : Nat := 1
abbrev τ : Topo := Topo.v7x

variable {F : FTy → Type} [FloatOps F]
-- ==== Proof.FfnMath.lean ====
/- The mathematics of one half feed-forward step on one token, over the extended reals: the normalised and modulated
   token, the gated product, and the sum over the 2816 hidden features cut into eleven runs of 256. -/
module

public import Idealize.ShloMosaic.Lib.Pointwise
public import Idealize.ShloMosaic.PureOps.Ideal.Laws

@[expose] public section

noncomputable section

namespace Cert.FfnMath

open Idealize.ShloMosaic

/-- The literal whose float word is `w`, at the ideal instance: the rational the word denotes. -/
abbrev lit (w : BitVec 32) : EReal := Ideal.ofBits .f32 w

/-- `silu a · b`: the gated product of the two hidden projections. -/
def gated (a b : EReal) : EReal := a * Ideal.logistic a * b

/-- The token's inverse root mean square. -/
def rms (x : Fin 1024 → EReal) : EReal :=
  Ideal.rsqrt (Ideal.div (∑ k, x k * x k) (lit 0x44800000#32) + lit 0x358637BD#32)

/-- The token normalised, scaled by the gain and modulated. -/
def normed (x gain scale shift : Fin 1024 → EReal) (k : Fin 1024) : EReal :=
  x k * rms x * (gain k * (1 + scale k)) + shift k

/-- One hidden feature's contribution to one output feature. -/
def feature (h : Fin 1024 → EReal) (w1 w3 : Fin 1024 → Fin 2816 → EReal) (w2 : Fin 2816 → EReal) (j : Fin 2816) : EReal :=
  gated (∑ k, h k * w1 k j) (∑ k, h k * w3 k j) * w2 j

/-- The feed-forward network's output feature: the sum over the hidden features. -/
def ffn (h : Fin 1024 → EReal) (w1 w3 : Fin 1024 → Fin 2816 → EReal) (w2 : Fin 2816 → EReal) : EReal :=
  ∑ j, feature h w1 w3 w2 j

/-- The half step: the token plus half the gate times the network of the normalised token. -/
def half (x gain scale shift gate : Fin 1024 → EReal) (w1 w3 : Fin 1024 → Fin 2816 → EReal)
    (w2 : Fin 2816 → Fin 1024 → EReal) (d : Fin 1024) : EReal :=
  x d + lit 0x3F000000#32 * gate d * ffn (normed x gain scale shift) w1 w3 fun j => w2 j d

/-- Eleven summands, added first to last. -/
theorem sum_eleven (g : Fin 11 → EReal) :
    ∑ j, g j = g 0 + g 1 + g 2 + g 3 + g 4 + g 5 + g 6 + g 7 + g 8 + g 9 + g 10 := by
  simp only [Fin.sum_univ_castSucc, Finset.univ_eq_empty, Finset.sum_empty, zero_add]
  rfl

/-- A sum over 2816 features as eleven sums over 256, added first to last. -/
theorem sum_chunks (f : Fin 2816 → EReal) :
    ∑ j, f j = (∑ t : Fin 256, f ⟨t.val, by omega⟩) + (∑ t : Fin 256, f ⟨256 + t.val, by omega⟩)
      + (∑ t : Fin 256, f ⟨512 + t.val, by omega⟩) + (∑ t : Fin 256, f ⟨768 + t.val, by omega⟩)
      + (∑ t : Fin 256, f ⟨1024 + t.val, by omega⟩) + (∑ t : Fin 256, f ⟨1280 + t.val, by omega⟩)
      + (∑ t : Fin 256, f ⟨1536 + t.val, by omega⟩) + (∑ t : Fin 256, f ⟨1792 + t.val, by omega⟩)
      + (∑ t : Fin 256, f ⟨2048 + t.val, by omega⟩) + (∑ t : Fin 256, f ⟨2304 + t.val, by omega⟩)
      + (∑ t : Fin 256, f ⟨2560 + t.val, by omega⟩) := by
  rw [Fin.sum_univ_tiles 11 256 rfl f, sum_eleven]
  simp only [Fin.val_zero, zero_mul, zero_add]
  rfl

/-- `half` written out, with the normalised token's three factors multiplied left to right and the logistic function as
    a quotient. -/
theorem half_eq (x gain scale shift gate : Fin 1024 → EReal) (w1 w3 : Fin 1024 → Fin 2816 → EReal)
    (w2 : Fin 2816 → Fin 1024 → EReal) (d : Fin 1024) :
    half x gain scale shift gate w1 w3 w2 d
      = x d + lit 0x3F000000#32 * gate d * ∑ j,
          (∑ k, (x k * rms x * gain k * (1 + scale k) + shift k) * w1 k j)
            * Ideal.div 1 (1 + Ideal.exp (-∑ k, (x k * rms x * gain k * (1 + scale k) + shift k) * w1 k j))
            * (∑ k, (x k * rms x * gain k * (1 + scale k) + shift k) * w3 k j) * w2 j d := by
  unfold half ffn feature gated normed Ideal.logistic
  simp only [mul_assoc]

/-- A token with a gated projection of a mixer's output added. -/
def mixed (x gate z : Fin 1024 → EReal) (w : Fin 1024 → Fin 1024 → EReal) (d : Fin 1024) : EReal :=
  x d + gate d * ∑ e, z e * w e d

/-- A token with a gated projection of two mixers' outputs added, each through its own matrix. -/
def mixed2 (x gate : Fin 1024 → EReal) (a s : Fin 512 → EReal) (wa ws : Fin 512 → Fin 1024 → EReal) (d : Fin 1024) : EReal :=
  x d + gate d * ((∑ e, a e * wa e d) + ∑ e, s e * ws e d)

/-- Equal tokens give equal half steps. -/
theorem half_token {x x' gain scale shift gate gain' scale' shift' gate' : Fin 1024 → EReal}
    {w1 w3 w1' w3' : Fin 1024 → Fin 2816 → EReal} {w2 w2' : Fin 2816 → Fin 1024 → EReal} {d d' : Fin 1024}
    (hx : x = x')
    (h : ∀ X : Fin 1024 → EReal, half X gain scale shift gate w1 w3 w2 d = half X gain' scale' shift' gate' w1' w3' w2' d') :
    half x gain scale shift gate w1 w3 w2 d = half x' gain' scale' shift' gate' w1' w3' w2' d' := by
  subst hx
  exact h x

/-- `mixed` of equal tokens, gates, mixers and matrices. -/
theorem mixed_congr {x x' gate gate' z z' : Fin 1024 → EReal} {w w' : Fin 1024 → Fin 1024 → EReal} {d : Fin 1024}
    (hx : x d = x' d) (hg : gate d = gate' d) (hz : ∀ e, z e = z' e) (hw : ∀ e, w e d = w' e d) :
    mixed x gate z w d = mixed x' gate' z' w' d := by
  unfold mixed
  simp only [hx, hg, hz, hw]

/-- `mixed2` of equal tokens, gates, mixers and matrices. -/
theorem mixed2_congr {x x' gate gate' : Fin 1024 → EReal} {a a' s s' : Fin 512 → EReal}
    {wa wa' ws ws' : Fin 512 → Fin 1024 → EReal} {d : Fin 1024} (hx : x d = x' d) (hg : gate d = gate' d)
    (ha : ∀ e, a e = a' e) (hwa : ∀ e, wa e d = wa' e d) (hs : ∀ e, s e = s' e) (hws : ∀ e, ws e d = ws' e d) :
    mixed2 x gate a s wa ws d = mixed2 x' gate' a' s' wa' ws' d := by
  unfold mixed2
  simp only [hx, hg, ha, hs, hwa, hws]

end Cert.FfnMath

end
-- ==== Proof.Ffn0Kernel.lean ====
/- What the kernel computes: the first half step of layer 0. Each grid point writes 512 tokens, and each entry it writes is the half step of
   its token. -/
module

public import proofs.«01_k».proof.Proof.FfnMath
public import proofs.«01_k».proof.Proof.Gen.Ffn0Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn0Ideal.Value

open Cert.Ffn0Ideal Cert.Ffn0Ideal.Gen Cert.FfnMath

/-- The block each window reads or writes at a grid point. -/
theorem idx : ∀ t : Fin cfg0.N, win0_0.index t = ![(grid0.coords t 0).val, (grid0.coords t 1).val, 0]
    ∧ win0_1.index t = ![(grid0.coords t 0).val, 0, 0]
    ∧ win0_2.index t = ![0, 0]
    ∧ win0_3.index t = ![0, 0, 0, 0]
    ∧ win0_4.index t = ![0, 0, 0, 0]
    ∧ win0_5.index t = ![0, 0, 0, 0]
    ∧ win0_6.index t = ![(grid0.coords t 0).val, (grid0.coords t 1).val, 0] :=
  (by decide +kernel : ∀ t : Fin grid0.N, _)

/-- The array of half steps, entry by entry, from the call's arguments. -/
def G (x0 : S8x4096x1024.Idx → EReal) (x1 : S9x9x1024.Idx → EReal) (x2 : S3x1024.Idx → EReal) (x3 x4 : S2x2x1024x2816.Idx → EReal) (x5 : S2x2x2816x1024.Idx → EReal) :
    S8x4096x1024.Idx → EReal := fun i =>
  half (fun k => x0 (ix3 (i 0) (i 1) k))
    (fun k => x2 (ix2 0 k)) (fun k => x1 (ix3 ⟨(i 0).val, Nat.lt_succ_of_lt (i 0).isLt⟩ 1 k)) (fun k => x1 (ix3 ⟨(i 0).val, Nat.lt_succ_of_lt (i 0).isLt⟩ 0 k)) (fun k => x1 (ix3 ⟨(i 0).val, Nat.lt_succ_of_lt (i 0).isLt⟩ 2 k))
    (fun k j => x3 (ix4 0 0 k j)) (fun k j => x4 (ix4 0 0 k j)) (fun j k => x5 (ix4 0 0 j k)) (i 2)

/-- The block's normalised tokens. -/
theorem norm (x : S1x512x1024.Idx → EReal) (sh sc : S1x1x1024.Idx → EReal) (g : S1x1024.Idx → EReal) (r : Fin 512) (k : Fin 1024) :
    k0_pay4 (F := Ideal) x sh sc g (ix2 r k)
      = normed (fun k => x (ix3 0 r k)) (fun k => g (ix2 0 k)) (fun k => sc (ix3 0 0 k)) (fun k => sh (ix3 0 0 k)) k := by
  unfold normed rms lit
  pointwise [k0_pay4]

variable (m : (ℓ : Loc nD τ sig) → Buf (Elt Ideal) ℓ)

/-- The result array is the array of half steps. -/
theorem final (c : Dev nD) : (dats m 0 c).arrAt 6 (cfgs 0).N = G (V m c main_arg0) (V m c main_arg1) (V m c main_arg2) (V m c main_arg3) (V m c main_arg4) (V m c main_arg5) := by
  refine (dats m 0 c).arrAt_eq_of_covers 6 _ (by decide +kernel) fun t _ y => ?_
  blk_simp
  rw [after0_6]
  unfold outsAt0
  frame_out
  idx_vars y
  refine Eq.trans (b := half (fun k => iblk m c 0 t (ix3 0 y1 k))
    (fun k => iblk m c 2 t (ix2 0 k)) (fun k => iblk m c 1 t (ix3 0 1 k)) (fun k => iblk m c 1 t (ix3 0 0 k)) (fun k => iblk m c 1 t (ix3 0 2 k))
    (fun k j => iblk m c 3 t (ix4 0 0 k j)) (fun k j => iblk m c 4 t (ix4 0 0 k j)) (fun j k => iblk m c 5 t (ix4 0 0 j k)) y2) ?_ ?_
  · unfold half ffn
    rw [sum_chunks]
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, norm, feature, gated, lit]
  · unfold G
    obtain ⟨h0, h1, h2, h3, h4, h5, h6⟩ := idx t
    blk_point [iblk, V, h0, h1, h2, h3, h4, h5, h6]

end Cert.Ffn0Ideal.Value

end
-- ==== Proof.Ffn0Reference.lean ====
/- What the reference computes: the first half step of layer 0, entry by entry. -/
module

public import proofs.«01_k».proof.Proof.FfnMath
public import proofs.«01_k».proof.Proof.Gen.Ffn0RefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn0RefIdeal.Read

open Cert.Ffn0RefIdeal Cert.Ffn0RefIdeal.Gen Cert.FfnMath

/-- The reference's result is the half step of its token. -/
theorem entry (x0 : S8x4096x1024.Idx → EReal) (x1 : S9x9x1024.Idx → EReal) (x2 : S3x1024.Idx → EReal) (x3 x4 : S2x2x1024x2816.Idx → EReal) (x5 : S2x2x2816x1024.Idx → EReal)
    (b : Fin 8) (s : Fin 4096) (d : Fin 1024) :
    val_main_v45 (F := Ideal) x0 x1 x2 x3 x4 x5 (ix3 b s d) = half (fun k => x0 (ix3 b s k))
    (fun k => x2 (ix2 0 k)) (fun k => x1 (ix3 ⟨b.val, Nat.lt_succ_of_lt b.isLt⟩ 1 k)) (fun k => x1 (ix3 ⟨b.val, Nat.lt_succ_of_lt b.isLt⟩ 0 k)) (fun k => x1 (ix3 ⟨b.val, Nat.lt_succ_of_lt b.isLt⟩ 2 k))
    (fun k j => x3 (ix4 0 0 k j)) (fun k j => x4 (ix4 0 0 k j)) (fun j k => x5 (ix4 0 0 j k)) d := by
  rw [half_eq]
  unfold rms lit
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_v17, val_main_v18, val_main_v19, val_main_cst_0, val_main_v20, val_main_v21, val_main_cst_1, val_main_v22, val_main_v23, val_main_cst_2, val_main_v24, val_main_v25, val_main_v26, val_main_v27, val_main_v28, val_main_v29, val_main_v30, val_main_v31, val_main_cst_3, val_main_v32, val_main_v33, val_main_v34, val_main_v35, val_main_v36, val_main_v37, val_main_v38, val_main_call0_v0, val_main_call0_v1, val_main_call0_cst, val_main_call0_v2, val_main_call0_v3, val_main_call0_cst_0, val_main_call0_v4, val_main_call0_v5, val_main_v39, val_main_v40, val_main_v41, val_main_v42, val_main_v43, val_main_v44, val_main_v45]

end Cert.Ffn0RefIdeal.Read

end
-- ==== Proof.Ffn0Claim.lean ====
/- The equation of kernel and reference: the first half step of layer 0. -/
module

public import proofs.«01_k».proof.Defs
public import proofs.«01_k».proof.Proof.Ffn0Kernel
public import proofs.«01_k».proof.Proof.Ffn0Reference

@[expose] public section

set_option maxRecDepth 16384

noncomputable section

open Idealize.ShloMosaic Idealize.ShloMosaic.TcCoe Idealize.SL.Sem
open Idealize.ShloMosaic.Pipeline (Dat)

namespace Cert.Ffn0Claim

/-- Kernel and reference end with equal results: both are the array of half steps. -/
theorem algebraic : Cert.algebraic_Ffn0Ideal_Ffn0RefIdeal (hFfn0Ideal := Cert.Ffn0Ideal.Gen.facts) (hFfn0RefIdeal := Cert.Ffn0RefIdeal.Gen.facts) := by
  intro m g m' g' _ hag
  refine ⟨fun c => Cert.Ffn0Ideal.Value.G (m ((c.tc : Thread Cert.Ffn0Ideal.nD Cert.Ffn0Ideal.τ).loc Cert.Ffn0Ideal.main_arg0)) (m ((c.tc : Thread Cert.Ffn0Ideal.nD Cert.Ffn0Ideal.τ).loc Cert.Ffn0Ideal.main_arg1)) (m ((c.tc : Thread Cert.Ffn0Ideal.nD Cert.Ffn0Ideal.τ).loc Cert.Ffn0Ideal.main_arg2)) (m ((c.tc : Thread Cert.Ffn0Ideal.nD Cert.Ffn0Ideal.τ).loc Cert.Ffn0Ideal.main_arg3)) (m ((c.tc : Thread Cert.Ffn0Ideal.nD Cert.Ffn0Ideal.τ).loc Cert.Ffn0Ideal.main_arg4)) (m ((c.tc : Thread Cert.Ffn0Ideal.nD Cert.Ffn0Ideal.τ).loc Cert.Ffn0Ideal.main_arg5)), ?_, ?_⟩
  · exact (θ_run _ _ _).mono (fun r h c => ⟨(h c).1.trans (Cert.Ffn0Ideal.Value.final m c), (h c).2⟩)
      (Cert.Ffn0Ideal.Value.run_blocks m g)
  · exact (θ_run _ _ _).mono (fun r h c => ⟨(h c).1.trans (by
        obtain ⟨a0, a1, a2, a3, a4, a5⟩ := hag c
        refine (Cert.Ffn0RefIdeal.Read.val_main_v45_eq m' c).trans ?_
        rw [a0, a1, a2, a3, a4, a5]
        funext i
        idx_vars i
        exact Cert.Ffn0RefIdeal.Read.entry ..), (h c).2⟩)
      (Cert.Ffn0RefIdeal.Value.run m' g')

end Cert.Ffn0Claim

end
-- ==== Proof.Ffn1Kernel.lean ====
/- What the kernel computes: the mixer's output projection and the second half step of layer 0. Each grid point writes 512 tokens, and each entry it writes is the half step of
   its token. -/
module

public import proofs.«01_k».proof.Proof.FfnMath
public import proofs.«01_k».proof.Proof.Gen.Ffn1Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn1Ideal.Value

open Cert.Ffn1Ideal Cert.Ffn1Ideal.Gen Cert.FfnMath

/-- The block each window reads or writes at a grid point. -/
theorem idx : ∀ t : Fin cfg0.N, win0_0.index t = ![(grid0.coords t 0).val, (grid0.coords t 1).val, 0]
    ∧ win0_1.index t = ![(grid0.coords t 0).val, 0, 0]
    ∧ win0_2.index t = ![0, 0]
    ∧ win0_3.index t = ![0, 1, 0, 0]
    ∧ win0_4.index t = ![0, 1, 0, 0]
    ∧ win0_5.index t = ![0, 1, 0, 0]
    ∧ win0_6.index t = ![(grid0.coords t 0).val, (grid0.coords t 1).val, 0]
    ∧ win0_7.index t = ![0, 0, 0]
    ∧ win0_8.index t = ![(grid0.coords t 0).val, (grid0.coords t 1).val, 0]
    ∧ win0_9.index t = ![0, 1, 0]
    ∧ win0_10.index t = ![(grid0.coords t 0).val, (grid0.coords t 1).val, 0] :=
  (by decide +kernel : ∀ t : Fin grid0.N, _)

/-- The array of half steps, entry by entry, from the call's arguments. -/
def G (x0 : S8x4096x1024.Idx → EReal) (x1 : S9x9x1024.Idx → EReal) (x2 : S3x1024.Idx → EReal) (x3 x4 : S2x2x1024x2816.Idx → EReal) (x5 : S2x2x2816x1024.Idx → EReal) (x6 x7 : S8x4096x512.Idx → EReal) (x8 : S1x1024x1024.Idx → EReal) :
    S8x4096x1024.Idx → EReal := fun i =>
  half (mixed2 (fun k => x0 (ix3 (i 0) (i 1) k)) (fun k => x1 (ix3 ⟨(i 0).val, Nat.lt_succ_of_lt (i 0).isLt⟩ 5 k)) (fun e => x6 (ix3 (i 0) (i 1) e)) (fun e => x7 (ix3 (i 0) (i 1) e)) (fun e k => x8 (ix3 0 ⟨e.val, by omega⟩ k)) (fun e k => x8 (ix3 0 ⟨512 + e.val, by omega⟩ k)))
    (fun k => x2 (ix2 2 k)) (fun k => x1 (ix3 ⟨(i 0).val, Nat.lt_succ_of_lt (i 0).isLt⟩ 7 k)) (fun k => x1 (ix3 ⟨(i 0).val, Nat.lt_succ_of_lt (i 0).isLt⟩ 6 k)) (fun k => x1 (ix3 ⟨(i 0).val, Nat.lt_succ_of_lt (i 0).isLt⟩ 8 k))
    (fun k j => x3 (ix4 0 1 k j)) (fun k j => x4 (ix4 0 1 k j)) (fun j k => x5 (ix4 0 1 j k)) (i 2)

/-- The block's tokens with the two projected mixers added. -/
theorem mix (x : S1x512x1024.Idx → EReal) (a : S1x512x512.Idx → EReal) (wa : S1x512x1024.Idx → EReal) (s : S1x512x512.Idx → EReal)
    (ws : S1x512x1024.Idx → EReal) (g : S1x1x1024.Idx → EReal) (r : Fin 512) (k : Fin 1024) :
    k0_pay3 (F := Ideal) x a wa s ws g (ix2 r k)
      = mixed2 (fun k => x (ix3 0 r k)) (fun k => g (ix3 0 0 k)) (fun e => a (ix3 0 r e)) (fun e => s (ix3 0 r e))
          (fun e k => wa (ix3 0 e k)) (fun e k => ws (ix3 0 e k)) k := by
  unfold mixed2
  pointwise [k0_pay3]

/-- The block's normalised tokens. -/
theorem norm (x : S512x1024.Idx → EReal) (sh sc : S1x1024.Idx → EReal) (g : S1x1024.Idx → EReal) (r : Fin 512) (k : Fin 1024) :
    k0_pay8 (F := Ideal) x sh sc g (ix2 r k)
      = normed (fun k => x (ix2 r k)) (fun k => g (ix2 0 k)) (fun k => sc (ix2 0 k)) (fun k => sh (ix2 0 k)) k := by
  unfold normed rms lit
  pointwise [k0_pay8]

variable (m : (ℓ : Loc nD τ sig) → Buf (Elt Ideal) ℓ)

/-- The result array is the array of half steps. -/
theorem final (c : Dev nD) : (dats m 0 c).arrAt 10 (cfgs 0).N = G (V m c main_arg0) (V m c main_arg1) (V m c main_arg2) (V m c main_arg3) (V m c main_arg4) (V m c main_arg5) (V m c main_arg6) (V m c main_arg7) (V m c main_arg8) := by
  refine (dats m 0 c).arrAt_eq_of_covers 10 _ (by decide +kernel) fun t _ y => ?_
  blk_simp
  rw [after0_10]
  unfold outsAt0
  frame_out
  idx_vars y
  refine Eq.trans (b := half (mixed2 (fun k => iblk m c 0 t (ix3 0 y1 k)) (fun k => iblk m c 1 t (ix3 0 5 k)) (fun e => iblk m c 6 t (ix3 0 y1 e)) (fun e => iblk m c 8 t (ix3 0 y1 e)) (fun e k => iblk m c 7 t (ix3 0 e k)) (fun e k => iblk m c 9 t (ix3 0 e k)))
    (fun k => iblk m c 2 t (ix2 2 k)) (fun k => iblk m c 1 t (ix3 0 7 k)) (fun k => iblk m c 1 t (ix3 0 6 k)) (fun k => iblk m c 1 t (ix3 0 8 k))
    (fun k j => iblk m c 3 t (ix4 0 0 k j)) (fun k j => iblk m c 4 t (ix4 0 0 k j)) (fun j k => iblk m c 5 t (ix4 0 0 j k)) y2) ?_ ?_
  · unfold half ffn
    rw [sum_chunks]
    pointwise [k0_pay1, k0_pay2, k0_pay4, k0_pay5, k0_pay6, k0_pay7, k0_pay9, k0_pay10, k0_pay11, k0_pay12, k0_pay13, k0_pay14, k0_pay15, k0_pay16, k0_pay17, k0_pay18, k0_pay19, k0_pay20, k0_pay21, k0_pay22, k0_pay23, norm, mix, feature, gated, lit]
  · unfold G
    obtain ⟨h0, h1, h2, h3, h4, h5, h6, h7, h8, h9, h10⟩ := idx t
    refine half_token (funext fun d => mixed2_congr ?_ ?_ (fun e => ?_) (fun e => ?_) (fun e => ?_) (fun e => ?_)) fun X => ?_
    · blk_point [iblk, V, h0, h1, h2, h3, h4, h5, h6, h7, h8, h9, h10]
    · blk_point [iblk, V, h0, h1, h2, h3, h4, h5, h6, h7, h8, h9, h10]
    · blk_point [iblk, V, h0, h1, h2, h3, h4, h5, h6, h7, h8, h9, h10]
    · blk_point [iblk, V, h0, h1, h2, h3, h4, h5, h6, h7, h8, h9, h10]
    · blk_point [iblk, V, h0, h1, h2, h3, h4, h5, h6, h7, h8, h9, h10]
    · blk_point [iblk, V, h0, h1, h2, h3, h4, h5, h6, h7, h8, h9, h10]
    · obtain ⟨Y, rfl⟩ : ∃ Y : S512x1024.Idx → EReal, X = fun k => Y (ix2 0 k) := ⟨fun i => X (i 1), rfl⟩
      blk_point [iblk, V, h0, h1, h2, h3, h4, h5, h6, h7, h8, h9, h10]

end Cert.Ffn1Ideal.Value

end
-- ==== Proof.Ffn1Reference.lean ====
/- What the reference computes: the mixer's output projection and the second half step of layer 0, entry by entry. -/
module

public import proofs.«01_k».proof.Proof.FfnMath
public import proofs.«01_k».proof.Proof.Gen.Ffn1RefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn1RefIdeal.Read

open Cert.Ffn1RefIdeal Cert.Ffn1RefIdeal.Gen Cert.FfnMath

-- MIX
/-- The reference's result is the half step of its token. -/
theorem entry (x0 : S8x4096x1024.Idx → EReal) (x1 : S9x9x1024.Idx → EReal) (x2 : S3x1024.Idx → EReal) (x3 x4 : S2x2x1024x2816.Idx → EReal) (x5 : S2x2x2816x1024.Idx → EReal) (x6 x7 : S8x4096x512.Idx → EReal) (x8 : S1x1024x1024.Idx → EReal)
    (b : Fin 8) (s : Fin 4096) (d : Fin 1024) :
    val_main_v56 (F := Ideal) x0 x1 x2 x3 x4 x5 x6 x7 x8 (ix3 b s d) = half (mixed2 (fun k => x0 (ix3 b s k)) (fun k => x1 (ix3 ⟨b.val, Nat.lt_succ_of_lt b.isLt⟩ 5 k)) (fun e => x6 (ix3 b s e)) (fun e => x7 (ix3 b s e)) (fun e k => x8 (ix3 0 ⟨e.val, by omega⟩ k)) (fun e k => x8 (ix3 0 ⟨512 + e.val, by omega⟩ k)))
    (fun k => x2 (ix2 2 k)) (fun k => x1 (ix3 ⟨b.val, Nat.lt_succ_of_lt b.isLt⟩ 7 k)) (fun k => x1 (ix3 ⟨b.val, Nat.lt_succ_of_lt b.isLt⟩ 6 k)) (fun k => x1 (ix3 ⟨b.val, Nat.lt_succ_of_lt b.isLt⟩ 8 k))
    (fun k j => x3 (ix4 0 1 k j)) (fun k j => x4 (ix4 0 1 k j)) (fun j k => x5 (ix4 0 1 j k)) d := by
  rw [half_eq]
  unfold rms lit mixed2
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_cst, val_main_v28, val_main_v29, val_main_v30, val_main_cst_0, val_main_v31, val_main_v32, val_main_cst_1, val_main_v33, val_main_v34, val_main_cst_2, val_main_v35, val_main_v36, val_main_v37, val_main_v38, val_main_v39, val_main_v40, val_main_v41, val_main_v42, val_main_cst_3, val_main_v43, val_main_v44, val_main_v45, val_main_v46, val_main_v47, val_main_v48, val_main_v49, val_main_call0_v0, val_main_call0_v1, val_main_call0_cst, val_main_call0_v2, val_main_call0_v3, val_main_call0_cst_0, val_main_call0_v4, val_main_call0_v5, val_main_v50, val_main_v51, val_main_v52, val_main_v53, val_main_v54, val_main_v55, val_main_v56]

end Cert.Ffn1RefIdeal.Read

end
-- ==== Proof.Ffn1Claim.lean ====
/- The equation of kernel and reference: the mixer's output projection and the second half step of layer 0. -/
module

public import proofs.«01_k».proof.Defs
public import proofs.«01_k».proof.Proof.Ffn1Kernel
public import proofs.«01_k».proof.Proof.Ffn1Reference

@[expose] public section

set_option maxRecDepth 16384

noncomputable section

open Idealize.ShloMosaic Idealize.ShloMosaic.TcCoe Idealize.SL.Sem
open Idealize.ShloMosaic.Pipeline (Dat)

namespace Cert.Ffn1Claim

/-- Kernel and reference end with equal results: both are the array of half steps. -/
theorem algebraic : Cert.algebraic_Ffn1Ideal_Ffn1RefIdeal (hFfn1Ideal := Cert.Ffn1Ideal.Gen.facts) (hFfn1RefIdeal := Cert.Ffn1RefIdeal.Gen.facts) := by
  intro m g m' g' _ hag
  refine ⟨fun c => Cert.Ffn1Ideal.Value.G (m ((c.tc : Thread Cert.Ffn1Ideal.nD Cert.Ffn1Ideal.τ).loc Cert.Ffn1Ideal.main_arg0)) (m ((c.tc : Thread Cert.Ffn1Ideal.nD Cert.Ffn1Ideal.τ).loc Cert.Ffn1Ideal.main_arg1)) (m ((c.tc : Thread Cert.Ffn1Ideal.nD Cert.Ffn1Ideal.τ).loc Cert.Ffn1Ideal.main_arg2)) (m ((c.tc : Thread Cert.Ffn1Ideal.nD Cert.Ffn1Ideal.τ).loc Cert.Ffn1Ideal.main_arg3)) (m ((c.tc : Thread Cert.Ffn1Ideal.nD Cert.Ffn1Ideal.τ).loc Cert.Ffn1Ideal.main_arg4)) (m ((c.tc : Thread Cert.Ffn1Ideal.nD Cert.Ffn1Ideal.τ).loc Cert.Ffn1Ideal.main_arg5)) (m ((c.tc : Thread Cert.Ffn1Ideal.nD Cert.Ffn1Ideal.τ).loc Cert.Ffn1Ideal.main_arg6)) (m ((c.tc : Thread Cert.Ffn1Ideal.nD Cert.Ffn1Ideal.τ).loc Cert.Ffn1Ideal.main_arg7)) (m ((c.tc : Thread Cert.Ffn1Ideal.nD Cert.Ffn1Ideal.τ).loc Cert.Ffn1Ideal.main_arg8)), ?_, ?_⟩
  · exact (θ_run _ _ _).mono (fun r h c => ⟨(h c).1.trans (Cert.Ffn1Ideal.Value.final m c), (h c).2⟩)
      (Cert.Ffn1Ideal.Value.run_blocks m g)
  · exact (θ_run _ _ _).mono (fun r h c => ⟨(h c).1.trans (by
        obtain ⟨a0, a1, a2, a3, a4, a5, a6, a7, a8⟩ := hag c
        refine (Cert.Ffn1RefIdeal.Read.val_main_v56_eq m' c).trans ?_
        rw [a0, a1, a2, a3, a4, a5, a6, a7, a8]
        funext i
        idx_vars i
        exact Cert.Ffn1RefIdeal.Read.entry ..), (h c).2⟩)
      (Cert.Ffn1RefIdeal.Value.run m' g')

end Cert.Ffn1Claim

end
-- ==== Proof.Ffn2Kernel.lean ====
/- What the kernel computes: the first half step of layer 1 and the inverse root mean squares of its tokens. Each grid point writes 512 tokens, and each entry it writes is the half step of
   its token. -/
module

public import proofs.«01_k».proof.Proof.FfnMath
public import proofs.«01_k».proof.Proof.Gen.Ffn2Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn2Ideal.Value

open Cert.Ffn2Ideal Cert.Ffn2Ideal.Gen Cert.FfnMath

/-- The block each window reads or writes at a grid point. -/
theorem idx : ∀ t : Fin cfg0.N, win0_0.index t = ![(grid0.coords t 0).val, (grid0.coords t 1).val, 0]
    ∧ win0_1.index t = ![(grid0.coords t 0).val, 0, 0]
    ∧ win0_2.index t = ![0, 0]
    ∧ win0_3.index t = ![1, 0, 0, 0]
    ∧ win0_4.index t = ![1, 0, 0, 0]
    ∧ win0_5.index t = ![1, 0, 0, 0]
    ∧ win0_6.index t = ![(grid0.coords t 0).val, (grid0.coords t 1).val, 0]
    ∧ win0_7.index t = ![(grid0.coords t 0).val, (grid0.coords t 1).val, 0] :=
  (by decide +kernel : ∀ t : Fin grid0.N, _)

/-- The array of half steps, entry by entry, from the call's arguments. -/
def G (x0 : S8x4096x1024.Idx → EReal) (x1 : S9x9x1024.Idx → EReal) (x2 : S3x1024.Idx → EReal) (x3 x4 : S2x2x1024x2816.Idx → EReal) (x5 : S2x2x2816x1024.Idx → EReal) :
    S8x4096x1024.Idx → EReal := fun i =>
  half (fun k => x0 (ix3 (i 0) (i 1) k))
    (fun k => x2 (ix2 0 k)) (fun k => x1 (ix3 ⟨(i 0).val, Nat.lt_succ_of_lt (i 0).isLt⟩ 1 k)) (fun k => x1 (ix3 ⟨(i 0).val, Nat.lt_succ_of_lt (i 0).isLt⟩ 0 k)) (fun k => x1 (ix3 ⟨(i 0).val, Nat.lt_succ_of_lt (i 0).isLt⟩ 2 k))
    (fun k j => x3 (ix4 1 0 k j)) (fun k j => x4 (ix4 1 0 k j)) (fun j k => x5 (ix4 1 0 j k)) (i 2)

/-- The inverse root mean square of each result token, repeated over 128 lanes. -/
def Grms (x0 : S8x4096x1024.Idx → EReal) (x1 : S9x9x1024.Idx → EReal) (x2 : S3x1024.Idx → EReal) (x3 x4 : S2x2x1024x2816.Idx → EReal) (x5 : S2x2x2816x1024.Idx → EReal) :
    S8x4096x128.Idx → EReal := fun i => rms fun d => G x0 x1 x2 x3 x4 x5 (ix3 (i 0) (i 1) d)

/-- The block's normalised tokens. -/
theorem norm (x : S1x512x1024.Idx → EReal) (sh sc : S1x1x1024.Idx → EReal) (g : S1x1024.Idx → EReal) (r : Fin 512) (k : Fin 1024) :
    k0_pay3 (F := Ideal) x sh sc g (ix2 r k)
      = normed (fun k => x (ix3 0 r k)) (fun k => g (ix2 0 k)) (fun k => sc (ix3 0 0 k)) (fun k => sh (ix3 0 0 k)) k := by
  unfold normed rms lit
  pointwise [k0_pay3]

variable (m : (ℓ : Loc nD τ sig) → Buf (Elt Ideal) ℓ)

/-- The result array is the array of half steps. -/
theorem final (c : Dev nD) : (dats m 0 c).arrAt 6 (cfgs 0).N = G (V m c main_arg0) (V m c main_arg1) (V m c main_arg2) (V m c main_arg3) (V m c main_arg4) (V m c main_arg5) := by
  refine (dats m 0 c).arrAt_eq_of_covers 6 _ (by decide +kernel) fun t _ y => ?_
  blk_simp
  rw [after0_6]
  unfold outsAt0
  frame_out
  idx_vars y
  refine Eq.trans (b := half (fun k => iblk m c 0 t (ix3 0 y1 k))
    (fun k => iblk m c 2 t (ix2 0 k)) (fun k => iblk m c 1 t (ix3 0 1 k)) (fun k => iblk m c 1 t (ix3 0 0 k)) (fun k => iblk m c 1 t (ix3 0 2 k))
    (fun k j => iblk m c 3 t (ix4 0 0 k j)) (fun k j => iblk m c 4 t (ix4 0 0 k j)) (fun j k => iblk m c 5 t (ix4 0 0 j k)) y2) ?_ ?_
  · unfold half ffn
    rw [sum_chunks]
    pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, norm, feature, gated, lit]
  · unfold G
    obtain ⟨h0, h1, h2, h3, h4, h5, h6, h7⟩ := idx t
    blk_point [iblk, V, h0, h1, h2, h3, h4, h5, h6, h7]

/-- The second result array is the array of inverse root mean squares. -/
theorem final_rms (c : Dev nD) : (dats m 0 c).arrAt 7 (cfgs 0).N = Grms (V m c main_arg0) (V m c main_arg1) (V m c main_arg2) (V m c main_arg3) (V m c main_arg4) (V m c main_arg5) := by
  refine (dats m 0 c).arrAt_eq_of_covers 7 _ (by decide +kernel) fun t _ y => ?_
  blk_simp
  rw [after0_7]
  unfold outsAt0
  frame_out
  idx_vars y
  refine Eq.trans (b := rms fun d => half (fun k => iblk m c 0 t (ix3 0 y1 k))
    (fun k => iblk m c 2 t (ix2 0 k)) (fun k => iblk m c 1 t (ix3 0 1 k)) (fun k => iblk m c 1 t (ix3 0 0 k)) (fun k => iblk m c 1 t (ix3 0 2 k))
    (fun k j => iblk m c 3 t (ix4 0 0 k j)) (fun k j => iblk m c 4 t (ix4 0 0 k j)) (fun j k => iblk m c 5 t (ix4 0 0 j k)) d) ?_ ?_
  · unfold rms half ffn
    simp only [sum_chunks]
    pointwise [k0_pay1, k0_pay2, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, norm, feature, gated, lit, rms]
  · unfold Grms G
    obtain ⟨h0, h1, h2, h3, h4, h5, h6, h7⟩ := idx t
    blk_point [iblk, V, h0, h1, h2, h3, h4, h5, h6, h7]

end Cert.Ffn2Ideal.Value

end
-- ==== Proof.Ffn2Reference.lean ====
/- What the reference computes: the first half step of layer 1 and the inverse root mean squares of its tokens, entry by entry. -/
module

public import proofs.«01_k».proof.Proof.FfnMath
public import proofs.«01_k».proof.Proof.Gen.Ffn2RefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn2RefIdeal.Read

open Cert.Ffn2RefIdeal Cert.Ffn2RefIdeal.Gen Cert.FfnMath

/-- The reference's result is the half step of its token. -/
theorem entry (x0 : S8x4096x1024.Idx → EReal) (x1 : S9x9x1024.Idx → EReal) (x2 : S3x1024.Idx → EReal) (x3 x4 : S2x2x1024x2816.Idx → EReal) (x5 : S2x2x2816x1024.Idx → EReal)
    (b : Fin 8) (s : Fin 4096) (d : Fin 1024) :
    val_main_v45 (F := Ideal) x0 x1 x2 x3 x4 x5 (ix3 b s d) = half (fun k => x0 (ix3 b s k))
    (fun k => x2 (ix2 0 k)) (fun k => x1 (ix3 ⟨b.val, Nat.lt_succ_of_lt b.isLt⟩ 1 k)) (fun k => x1 (ix3 ⟨b.val, Nat.lt_succ_of_lt b.isLt⟩ 0 k)) (fun k => x1 (ix3 ⟨b.val, Nat.lt_succ_of_lt b.isLt⟩ 2 k))
    (fun k j => x3 (ix4 1 0 k j)) (fun k j => x4 (ix4 1 0 k j)) (fun j k => x5 (ix4 1 0 j k)) d := by
  rw [half_eq]
  unfold rms lit
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_v17, val_main_v18, val_main_v19, val_main_cst_0, val_main_v20, val_main_v21, val_main_cst_1, val_main_v22, val_main_v23, val_main_cst_2, val_main_v24, val_main_v25, val_main_v26, val_main_v27, val_main_v28, val_main_v29, val_main_v30, val_main_v31, val_main_cst_3, val_main_v32, val_main_v33, val_main_v34, val_main_v35, val_main_v36, val_main_v37, val_main_v38, val_main_call0_v0, val_main_call0_v1, val_main_call0_cst, val_main_call0_v2, val_main_call0_v3, val_main_call0_cst_0, val_main_call0_v4, val_main_call0_v5, val_main_v39, val_main_v40, val_main_v41, val_main_v42, val_main_v43, val_main_v44, val_main_v45]

/-- The reference's second result is the inverse root mean square of its result token. -/
theorem entry_rms (x0 : S8x4096x1024.Idx → EReal) (x1 : S9x9x1024.Idx → EReal) (x2 : S3x1024.Idx → EReal) (x3 x4 : S2x2x1024x2816.Idx → EReal) (x5 : S2x2x2816x1024.Idx → EReal)
    (b : Fin 8) (s : Fin 4096) (e : Fin 128) :
    val_main_v54 (F := Ideal) x0 x1 x2 x3 x4 x5 (ix3 b s e) = rms fun d => val_main_v45 (F := Ideal) x0 x1 x2 x3 x4 x5 (ix3 b s d) := by
  unfold rms lit
  pointwise [val_main_v46, val_main_cst_4, val_main_v47, val_main_v48, val_main_cst_5, val_main_v49, val_main_v50, val_main_cst_6, val_main_v51, val_main_v52, val_main_v53, val_main_v54]

end Cert.Ffn2RefIdeal.Read

end
-- ==== Proof.Ffn2Claim.lean ====
/- The equation of kernel and reference: the first half step of layer 1 and the inverse root mean squares of its tokens. -/
module

public import proofs.«01_k».proof.Defs
public import proofs.«01_k».proof.Proof.Ffn2Kernel
public import proofs.«01_k».proof.Proof.Ffn2Reference

@[expose] public section

set_option maxRecDepth 16384

noncomputable section

open Idealize.ShloMosaic Idealize.ShloMosaic.TcCoe Idealize.SL.Sem
open Idealize.ShloMosaic.Pipeline (Dat)

namespace Cert.Ffn2Claim

/-- Kernel and reference end with equal results: the array of half steps and the inverse root mean squares of its tokens. -/
theorem algebraic : Cert.algebraic_Ffn2Ideal_Ffn2RefIdeal (hFfn2Ideal := Cert.Ffn2Ideal.Gen.facts) (hFfn2RefIdeal := Cert.Ffn2RefIdeal.Gen.facts) := by
  intro m g m' g' _ hag
  refine ⟨fun c => Cert.Ffn2Ideal.Value.G (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5)), fun c => Cert.Ffn2Ideal.Value.Grms (m ((c.tc : Thread Cert.Ffn2Ideal.nD Cert.Ffn2Ideal.τ).loc Cert.Ffn2Ideal.main_arg0)) (m ((c.tc : Thread Cert.Ffn2Ideal.nD Cert.Ffn2Ideal.τ).loc Cert.Ffn2Ideal.main_arg1)) (m ((c.tc : Thread Cert.Ffn2Ideal.nD Cert.Ffn2Ideal.τ).loc Cert.Ffn2Ideal.main_arg2)) (m ((c.tc : Thread Cert.Ffn2Ideal.nD Cert.Ffn2Ideal.τ).loc Cert.Ffn2Ideal.main_arg3)) (m ((c.tc : Thread Cert.Ffn2Ideal.nD Cert.Ffn2Ideal.τ).loc Cert.Ffn2Ideal.main_arg4)) (m ((c.tc : Thread Cert.Ffn2Ideal.nD Cert.Ffn2Ideal.τ).loc Cert.Ffn2Ideal.main_arg5)), ?_, ?_⟩
  · exact (θ_run _ _ _).mono (fun r h c => ⟨(h c).1.trans (Cert.Ffn2Ideal.Value.final m c), (h c).2.1.trans (Cert.Ffn2Ideal.Value.final_rms m c), (h c).2.2⟩)
      (Cert.Ffn2Ideal.Value.run_blocks m g)
  · exact (θ_run _ _ _).mono (fun r h c => ⟨(h c).1.trans (by
        obtain ⟨a0, a1, a2, a3, a4, a5⟩ := hag c
        refine (Cert.Ffn2RefIdeal.Read.val_main_v45_eq m' c).trans ?_
        rw [a0, a1, a2, a3, a4, a5]
        funext i
        idx_vars i
        exact Cert.Ffn2RefIdeal.Read.entry ..),
      (h c).2.1.trans (by
        obtain ⟨a0, a1, a2, a3, a4, a5⟩ := hag c
        refine (Cert.Ffn2RefIdeal.Read.val_main_v54_eq m' c).trans ?_
        rw [a0, a1, a2, a3, a4, a5]
        funext i
        idx_vars i
        exact (Cert.Ffn2RefIdeal.Read.entry_rms ..).trans (congrArg Cert.FfnMath.rms (funext fun d => Cert.Ffn2RefIdeal.Read.entry ..))), (h c).2.2⟩)
      (Cert.Ffn2RefIdeal.Value.run m' g')

end Cert.Ffn2Claim

end
-- ==== Proof.Ffn3Kernel.lean ====
/- What the kernel computes: the mixer's output projection and the second half step of layer 1. Each grid point writes 512 tokens, and each entry it writes is the half step of
   its token. -/
module

public import proofs.«01_k».proof.Proof.FfnMath
public import proofs.«01_k».proof.Proof.Gen.Ffn3Ideal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn3Ideal.Value

open Cert.Ffn3Ideal Cert.Ffn3Ideal.Gen Cert.FfnMath

/-- The block each window reads or writes at a grid point. -/
theorem idx : ∀ t : Fin cfg0.N, win0_0.index t = ![(grid0.coords t 0).val, (grid0.coords t 1).val, 0]
    ∧ win0_1.index t = ![(grid0.coords t 0).val, 0, 0]
    ∧ win0_2.index t = ![0, 0]
    ∧ win0_3.index t = ![1, 1, 0, 0]
    ∧ win0_4.index t = ![1, 1, 0, 0]
    ∧ win0_5.index t = ![1, 1, 0, 0]
    ∧ win0_6.index t = ![(grid0.coords t 0).val, (grid0.coords t 1).val, 0]
    ∧ win0_7.index t = ![0, 0, 0]
    ∧ win0_8.index t = ![(grid0.coords t 0).val, (grid0.coords t 1).val, 0] :=
  (by decide +kernel : ∀ t : Fin grid0.N, _)

/-- The array of half steps, entry by entry, from the call's arguments. -/
def G (x0 : S8x4096x1024.Idx → EReal) (x1 : S9x9x1024.Idx → EReal) (x2 : S3x1024.Idx → EReal) (x3 x4 : S2x2x1024x2816.Idx → EReal) (x5 : S2x2x2816x1024.Idx → EReal) (x6 : S8x4096x1024.Idx → EReal) (x7 : S1x1024x1024.Idx → EReal) :
    S8x4096x1024.Idx → EReal := fun i =>
  half (mixed (fun k => x0 (ix3 (i 0) (i 1) k)) (fun k => x1 (ix3 ⟨(i 0).val, Nat.lt_succ_of_lt (i 0).isLt⟩ 5 k)) (fun e => x6 (ix3 (i 0) (i 1) e)) (fun e k => x7 (ix3 0 e k)))
    (fun k => x2 (ix2 2 k)) (fun k => x1 (ix3 ⟨(i 0).val, Nat.lt_succ_of_lt (i 0).isLt⟩ 7 k)) (fun k => x1 (ix3 ⟨(i 0).val, Nat.lt_succ_of_lt (i 0).isLt⟩ 6 k)) (fun k => x1 (ix3 ⟨(i 0).val, Nat.lt_succ_of_lt (i 0).isLt⟩ 8 k))
    (fun k j => x3 (ix4 1 1 k j)) (fun k j => x4 (ix4 1 1 k j)) (fun j k => x5 (ix4 1 1 j k)) (i 2)

/-- The block's tokens with the projected mixer added. -/
theorem mix (x : S1x512x1024.Idx → EReal) (a : S1x512x1024.Idx → EReal) (wa : S1x1024x1024.Idx → EReal)
    (g : S1x1x1024.Idx → EReal) (r : Fin 512) (k : Fin 1024) :
    k0_pay2 (F := Ideal) x a wa g (ix2 r k)
      = mixed (fun k => x (ix3 0 r k)) (fun k => g (ix3 0 0 k)) (fun e => a (ix3 0 r e)) (fun e k => wa (ix3 0 e k)) k := by
  unfold mixed
  pointwise [k0_pay2]

/-- The block's normalised tokens. -/
theorem norm (x : S1x512x1024.Idx → EReal) (a : S1x512x1024.Idx → EReal) (wa : S1x1024x1024.Idx → EReal)
    (gt : S1x1x1024.Idx → EReal) (sh sc : S1x1024.Idx → EReal) (g : S1x1024.Idx → EReal) (r : Fin 512) (k : Fin 1024) :
    k0_pay8 (F := Ideal) (k0_pay2 (F := Ideal) x a wa gt) sh sc g (k0_pay7 (F := Ideal) x a wa gt) (Ideal.ofBits .f32 0x358637BD#32) (ix2 r k)
      = normed (mixed (fun k => x (ix3 0 r k)) (fun k => gt (ix3 0 0 k)) (fun e => a (ix3 0 r e)) (fun e k => wa (ix3 0 e k)))
          (fun k => g (ix2 0 k)) (fun k => sc (ix2 0 k)) (fun k => sh (ix2 0 k)) k := by
  unfold normed rms lit
  pointwise [k0_pay8, k0_pay7, mix]

variable (m : (ℓ : Loc nD τ sig) → Buf (Elt Ideal) ℓ)

/-- The result array is the array of half steps. -/
theorem final (c : Dev nD) : (dats m 0 c).arrAt 8 (cfgs 0).N = G (V m c main_arg0) (V m c main_arg1) (V m c main_arg2) (V m c main_arg3) (V m c main_arg4) (V m c main_arg5) (V m c main_arg6) (V m c main_arg7) := by
  refine (dats m 0 c).arrAt_eq_of_covers 8 _ (by decide +kernel) fun t _ y => ?_
  blk_simp
  rw [after0_8]
  unfold outsAt0
  frame_out
  idx_vars y
  refine Eq.trans (b := half (mixed (fun k => iblk m c 0 t (ix3 0 y1 k)) (fun k => iblk m c 1 t (ix3 0 5 k)) (fun e => iblk m c 6 t (ix3 0 y1 e)) (fun e k => iblk m c 7 t (ix3 0 e k)))
    (fun k => iblk m c 2 t (ix2 2 k)) (fun k => iblk m c 1 t (ix3 0 7 k)) (fun k => iblk m c 1 t (ix3 0 6 k)) (fun k => iblk m c 1 t (ix3 0 8 k))
    (fun k j => iblk m c 3 t (ix4 0 0 k j)) (fun k j => iblk m c 4 t (ix4 0 0 k j)) (fun j k => iblk m c 5 t (ix4 0 0 j k)) y2) ?_ ?_
  · unfold half ffn
    rw [sum_chunks]
    pointwise [k0_pay1, k0_pay3, k0_pay4, k0_pay5, k0_pay6, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, norm, mix, feature, gated, lit]
  · unfold G
    obtain ⟨h0, h1, h2, h3, h4, h5, h6, h7, h8⟩ := idx t
    refine half_token (funext fun d => mixed_congr ?_ ?_ (fun e => ?_) (fun e => ?_)) fun X => ?_
    · blk_point [iblk, V, h0, h1, h2, h3, h4, h5, h6, h7, h8]
    · blk_point [iblk, V, h0, h1, h2, h3, h4, h5, h6, h7, h8]
    · blk_point [iblk, V, h0, h1, h2, h3, h4, h5, h6, h7, h8]
    · blk_point [iblk, V, h0, h1, h2, h3, h4, h5, h6, h7, h8]
    · obtain ⟨Y, rfl⟩ : ∃ Y : S512x1024.Idx → EReal, X = fun k => Y (ix2 0 k) := ⟨fun i => X (i 1), rfl⟩
      blk_point [iblk, V, h0, h1, h2, h3, h4, h5, h6, h7, h8]

end Cert.Ffn3Ideal.Value

end
-- ==== Proof.Ffn3Reference.lean ====
/- What the reference computes: the mixer's output projection and the second half step of layer 1, entry by entry. -/
module

public import proofs.«01_k».proof.Proof.FfnMath
public import proofs.«01_k».proof.Proof.Gen.Ffn3RefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Ffn3RefIdeal.Read

open Cert.Ffn3RefIdeal Cert.Ffn3RefIdeal.Gen Cert.FfnMath

-- MIX
/-- The reference's result is the half step of its token. -/
theorem entry (x0 : S8x4096x1024.Idx → EReal) (x1 : S9x9x1024.Idx → EReal) (x2 : S3x1024.Idx → EReal) (x3 x4 : S2x2x1024x2816.Idx → EReal) (x5 : S2x2x2816x1024.Idx → EReal) (x6 : S8x4096x1024.Idx → EReal) (x7 : S1x1024x1024.Idx → EReal)
    (b : Fin 8) (s : Fin 4096) (d : Fin 1024) :
    val_main_v54 (F := Ideal) x0 x1 x2 x3 x4 x5 x6 x7 (ix3 b s d) = half (mixed (fun k => x0 (ix3 b s k)) (fun k => x1 (ix3 ⟨b.val, Nat.lt_succ_of_lt b.isLt⟩ 5 k)) (fun e => x6 (ix3 b s e)) (fun e k => x7 (ix3 0 e k)))
    (fun k => x2 (ix2 2 k)) (fun k => x1 (ix3 ⟨b.val, Nat.lt_succ_of_lt b.isLt⟩ 7 k)) (fun k => x1 (ix3 ⟨b.val, Nat.lt_succ_of_lt b.isLt⟩ 6 k)) (fun k => x1 (ix3 ⟨b.val, Nat.lt_succ_of_lt b.isLt⟩ 8 k))
    (fun k j => x3 (ix4 1 1 k j)) (fun k j => x4 (ix4 1 1 k j)) (fun j k => x5 (ix4 1 1 j k)) d := by
  rw [half_eq]
  unfold rms lit mixed
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_cst, val_main_v26, val_main_v27, val_main_v28, val_main_cst_0, val_main_v29, val_main_v30, val_main_cst_1, val_main_v31, val_main_v32, val_main_cst_2, val_main_v33, val_main_v34, val_main_v35, val_main_v36, val_main_v37, val_main_v38, val_main_v39, val_main_v40, val_main_cst_3, val_main_v41, val_main_v42, val_main_v43, val_main_v44, val_main_v45, val_main_v46, val_main_v47, val_main_call0_v0, val_main_call0_v1, val_main_call0_cst, val_main_call0_v2, val_main_call0_v3, val_main_call0_cst_0, val_main_call0_v4, val_main_call0_v5, val_main_v48, val_main_v49, val_main_v50, val_main_v51, val_main_v52, val_main_v53, val_main_v54]

end Cert.Ffn3RefIdeal.Read

end
-- ==== Proof.Ffn3Claim.lean ====
/- The equation of kernel and reference: the mixer's output projection and the second half step of layer 1. -/
module

public import proofs.«01_k».proof.Defs
public import proofs.«01_k».proof.Proof.Ffn3Kernel
public import proofs.«01_k».proof.Proof.Ffn3Reference

@[expose] public section

set_option maxRecDepth 16384

noncomputable section

open Idealize.ShloMosaic Idealize.ShloMosaic.TcCoe Idealize.SL.Sem
open Idealize.ShloMosaic.Pipeline (Dat)

namespace Cert.Ffn3Claim

/-- Kernel and reference end with equal results: both are the array of half steps. -/
theorem algebraic : Cert.algebraic_Ffn3Ideal_Ffn3RefIdeal (hFfn3Ideal := Cert.Ffn3Ideal.Gen.facts) (hFfn3RefIdeal := Cert.Ffn3RefIdeal.Gen.facts) := by
  intro m g m' g' _ hag
  refine ⟨fun c => Cert.Ffn3Ideal.Value.G (m ((c.tc : Thread Cert.Ffn3Ideal.nD Cert.Ffn3Ideal.τ).loc Cert.Ffn3Ideal.main_arg0)) (m ((c.tc : Thread Cert.Ffn3Ideal.nD Cert.Ffn3Ideal.τ).loc Cert.Ffn3Ideal.main_arg1)) (m ((c.tc : Thread Cert.Ffn3Ideal.nD Cert.Ffn3Ideal.τ).loc Cert.Ffn3Ideal.main_arg2)) (m ((c.tc : Thread Cert.Ffn3Ideal.nD Cert.Ffn3Ideal.τ).loc Cert.Ffn3Ideal.main_arg3)) (m ((c.tc : Thread Cert.Ffn3Ideal.nD Cert.Ffn3Ideal.τ).loc Cert.Ffn3Ideal.main_arg4)) (m ((c.tc : Thread Cert.Ffn3Ideal.nD Cert.Ffn3Ideal.τ).loc Cert.Ffn3Ideal.main_arg5)) (m ((c.tc : Thread Cert.Ffn3Ideal.nD Cert.Ffn3Ideal.τ).loc Cert.Ffn3Ideal.main_arg6)) (m ((c.tc : Thread Cert.Ffn3Ideal.nD Cert.Ffn3Ideal.τ).loc Cert.Ffn3Ideal.main_arg7)), ?_, ?_⟩
  · exact (θ_run _ _ _).mono (fun r h c => ⟨(h c).1.trans (Cert.Ffn3Ideal.Value.final m c), (h c).2⟩)
      (Cert.Ffn3Ideal.Value.run_blocks m g)
  · exact (θ_run _ _ _).mono (fun r h c => ⟨(h c).1.trans (by
        obtain ⟨a0, a1, a2, a3, a4, a5, a6, a7⟩ := hag c
        refine (Cert.Ffn3RefIdeal.Read.val_main_v54_eq m' c).trans ?_
        rw [a0, a1, a2, a3, a4, a5, a6, a7]
        funext i
        idx_vars i
        exact Cert.Ffn3RefIdeal.Read.entry ..), (h c).2⟩)
      (Cert.Ffn3RefIdeal.Value.run m' g')

end Cert.Ffn3Claim

end
-- ==== Proof.FfnCtxKernel.lean ====
/- What the kernel computes: the first half step of layer 0 on the context stream. Each grid point writes 512 tokens, and each entry it writes is the half step of
   its token. -/
module

public import proofs.«01_k».proof.Proof.FfnMath
public import proofs.«01_k».proof.Proof.Gen.FfnCtxIdeal.Value
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnCtxIdeal.Value

open Cert.FfnCtxIdeal Cert.FfnCtxIdeal.Gen Cert.FfnMath

/-- The block each window reads or writes at a grid point. -/
theorem idx : ∀ t : Fin cfg0.N, win0_0.index t = ![(grid0.coords t 0).val, (grid0.coords t 1).val, 0]
    ∧ win0_1.index t = ![8, 0, 0]
    ∧ win0_2.index t = ![0, 0]
    ∧ win0_3.index t = ![0, 0, 0, 0]
    ∧ win0_4.index t = ![0, 0, 0, 0]
    ∧ win0_5.index t = ![0, 0, 0, 0]
    ∧ win0_6.index t = ![(grid0.coords t 0).val, (grid0.coords t 1).val, 0] :=
  (by decide +kernel : ∀ t : Fin grid0.N, _)

/-- The array of half steps, entry by entry, from the call's arguments. -/
def G (x0 : S1x2048x1024.Idx → EReal) (x1 : S9x9x1024.Idx → EReal) (x2 : S3x1024.Idx → EReal) (x3 x4 : S2x2x1024x2816.Idx → EReal) (x5 : S2x2x2816x1024.Idx → EReal) :
    S1x2048x1024.Idx → EReal := fun i =>
  half (fun k => x0 (ix3 (i 0) (i 1) k))
    (fun k => x2 (ix2 0 k)) (fun k => x1 (ix3 8 1 k)) (fun k => x1 (ix3 8 0 k)) (fun k => x1 (ix3 8 2 k))
    (fun k j => x3 (ix4 0 0 k j)) (fun k j => x4 (ix4 0 0 k j)) (fun j k => x5 (ix4 0 0 j k)) (i 2)

/-- The block's normalised tokens. -/
theorem norm (x : S1x512x1024.Idx → EReal) (sh sc : S1x1x1024.Idx → EReal) (g : S1x1024.Idx → EReal) (r : Fin 512) (k : Fin 1024) :
    k0_pay4 (F := Ideal) x sh sc g (ix2 r k)
      = normed (fun k => x (ix3 0 r k)) (fun k => g (ix2 0 k)) (fun k => sc (ix3 0 0 k)) (fun k => sh (ix3 0 0 k)) k := by
  unfold normed rms lit
  pointwise [k0_pay4]

variable (m : (ℓ : Loc nD τ sig) → Buf (Elt Ideal) ℓ)

/-- The result array is the array of half steps. -/
theorem final (c : Dev nD) : (dats m 0 c).arrAt 6 (cfgs 0).N = G (V m c main_arg0) (V m c main_arg1) (V m c main_arg2) (V m c main_arg3) (V m c main_arg4) (V m c main_arg5) := by
  refine (dats m 0 c).arrAt_eq_of_covers 6 _ (by decide +kernel) fun t _ y => ?_
  blk_simp
  rw [after0_6]
  unfold outsAt0
  frame_out
  idx_vars y
  refine Eq.trans (b := half (fun k => iblk m c 0 t (ix3 0 y1 k))
    (fun k => iblk m c 2 t (ix2 0 k)) (fun k => iblk m c 1 t (ix3 0 1 k)) (fun k => iblk m c 1 t (ix3 0 0 k)) (fun k => iblk m c 1 t (ix3 0 2 k))
    (fun k j => iblk m c 3 t (ix4 0 0 k j)) (fun k j => iblk m c 4 t (ix4 0 0 k j)) (fun j k => iblk m c 5 t (ix4 0 0 j k)) y2) ?_ ?_
  · unfold half ffn
    rw [sum_chunks]
    pointwise [k0_pay1, k0_pay2, k0_pay3, k0_pay5, k0_pay6, k0_pay7, k0_pay8, k0_pay9, k0_pay10, k0_pay11, k0_pay12, k0_pay13, k0_pay14, k0_pay15, k0_pay16, k0_pay17, k0_pay18, k0_pay19, k0_pay20, norm, feature, gated, lit]
  · unfold G
    obtain ⟨h0, h1, h2, h3, h4, h5, h6⟩ := idx t
    blk_point [iblk, V, h0, h1, h2, h3, h4, h5, h6]

end Cert.FfnCtxIdeal.Value

end
-- ==== Proof.FfnCtxReference.lean ====
/- What the reference computes: the first half step of layer 0 on the context stream, entry by entry. -/
module

public import proofs.«01_k».proof.Proof.FfnMath
public import proofs.«01_k».proof.Proof.Gen.FfnCtxRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.FfnCtxRefIdeal.Read

open Cert.FfnCtxRefIdeal Cert.FfnCtxRefIdeal.Gen Cert.FfnMath

/-- The reference's result is the half step of its token. -/
theorem entry (x0 : S1x2048x1024.Idx → EReal) (x1 : S9x9x1024.Idx → EReal) (x2 : S3x1024.Idx → EReal) (x3 x4 : S2x2x1024x2816.Idx → EReal) (x5 : S2x2x2816x1024.Idx → EReal)
    (b : Fin 1) (s : Fin 2048) (d : Fin 1024) :
    val_main_v45 (F := Ideal) x0 x1 x2 x3 x4 x5 (ix3 b s d) = half (fun k => x0 (ix3 b s k))
    (fun k => x2 (ix2 0 k)) (fun k => x1 (ix3 8 1 k)) (fun k => x1 (ix3 8 0 k)) (fun k => x1 (ix3 8 2 k))
    (fun k j => x3 (ix4 0 0 k j)) (fun k j => x4 (ix4 0 0 k j)) (fun j k => x5 (ix4 0 0 j k)) d := by
  obtain rfl := Subsingleton.elim b 0
  rw [half_eq]
  unfold rms lit
  pointwise [val_main_v0, val_main_v1, val_main_v2, val_main_v3, val_main_v4, val_main_v5, val_main_v6, val_main_v7, val_main_v8, val_main_v9, val_main_v10, val_main_v11, val_main_v12, val_main_v13, val_main_v14, val_main_v15, val_main_v16, val_main_cst, val_main_v17, val_main_v18, val_main_v19, val_main_cst_0, val_main_v20, val_main_v21, val_main_cst_1, val_main_v22, val_main_v23, val_main_cst_2, val_main_v24, val_main_v25, val_main_v26, val_main_v27, val_main_v28, val_main_v29, val_main_v30, val_main_v31, val_main_cst_3, val_main_v32, val_main_v33, val_main_v34, val_main_v35, val_main_v36, val_main_v37, val_main_v38, val_main_call0_v0, val_main_call0_v1, val_main_call0_cst, val_main_call0_v2, val_main_call0_v3, val_main_call0_cst_0, val_main_call0_v4, val_main_call0_v5, val_main_v39, val_main_v40, val_main_v41, val_main_v42, val_main_v43, val_main_v44, val_main_v45]

end Cert.FfnCtxRefIdeal.Read

end
-- ==== Proof.FfnCtxClaim.lean ====
/- The equation of kernel and reference: the first half step of layer 0 on the context stream. -/
module

public import proofs.«01_k».proof.Defs
public import proofs.«01_k».proof.Proof.FfnCtxKernel
public import proofs.«01_k».proof.Proof.FfnCtxReference

@[expose] public section

set_option maxRecDepth 16384

noncomputable section

open Idealize.ShloMosaic Idealize.ShloMosaic.TcCoe Idealize.SL.Sem
open Idealize.ShloMosaic.Pipeline (Dat)

namespace Cert.FfnCtxClaim

/-- Kernel and reference end with equal results: both are the array of half steps. -/
theorem algebraic : Cert.algebraic_FfnCtxIdeal_FfnCtxRefIdeal (hFfnCtxIdeal := Cert.FfnCtxIdeal.Gen.facts) (hFfnCtxRefIdeal := Cert.FfnCtxRefIdeal.Gen.facts) := by
  intro m g m' g' _ hag
  refine ⟨fun c => Cert.FfnCtxIdeal.Value.G (m ((c.tc : Thread Cert.FfnCtxIdeal.nD Cert.FfnCtxIdeal.τ).loc Cert.FfnCtxIdeal.main_arg0)) (m ((c.tc : Thread Cert.FfnCtxIdeal.nD Cert.FfnCtxIdeal.τ).loc Cert.FfnCtxIdeal.main_arg1)) (m ((c.tc : Thread Cert.FfnCtxIdeal.nD Cert.FfnCtxIdeal.τ).loc Cert.FfnCtxIdeal.main_arg2)) (m ((c.tc : Thread Cert.FfnCtxIdeal.nD Cert.FfnCtxIdeal.τ).loc Cert.FfnCtxIdeal.main_arg3)) (m ((c.tc : Thread Cert.FfnCtxIdeal.nD Cert.FfnCtxIdeal.τ).loc Cert.FfnCtxIdeal.main_arg4)) (m ((c.tc : Thread Cert.FfnCtxIdeal.nD Cert.FfnCtxIdeal.τ).loc Cert.FfnCtxIdeal.main_arg5)), ?_, ?_⟩
  · exact (θ_run _ _ _).mono (fun r h c => ⟨(h c).1.trans (Cert.FfnCtxIdeal.Value.final m c), (h c).2⟩)
      (Cert.FfnCtxIdeal.Value.run_blocks m g)
  · exact (θ_run _ _ _).mono (fun r h c => ⟨(h c).1.trans (by
        obtain ⟨a0, a1, a2, a3, a4, a5⟩ := hag c
        refine (Cert.FfnCtxRefIdeal.Read.val_main_v45_eq m' c).trans ?_
        rw [a0, a1, a2, a3, a4, a5]
        funext i
        idx_vars i
        exact Cert.FfnCtxRefIdeal.Read.entry ..), (h c).2⟩)
      (Cert.FfnCtxRefIdeal.Value.run m' g')

end Cert.FfnCtxClaim

end
-- ==== Proof.AttnBlock.lean ====
/- One block of 128 queries of the attention: the kernel's operations on it, as functions of the block's operands. -/
module

public import proofs.«01_k».proof.Proof.Gen.AttnIdeal.Value
public import Idealize.ShloMosaic.Lib.Pipeline.ValueKit

@[expose] public section

set_option maxRecDepth 16384

noncomputable section

open Idealize.ShloMosaic Idealize.ShloMosaic.TcCoe Idealize.SL.Sem

namespace Cert.AttnBlock

open Cert.AttnIdeal Cert.AttnIdeal.Gen

/-- The lanes of the block before that a query may see (`n`: the block's number). -/
def okPrev (n : BitVec 32) : IVec S128x128 1 :=
  cmpi .sge k0_pay4 (broadcast S128x128 (Scalar.select (Scalar.cmpi .sgt n 0#32) 0#32 256#32))

/-- The lanes of the block after that a query may see. -/
def okNext (n : BitVec 32) : IVec S128x128 1 :=
  cmpi .sle k0_pay4 (broadcast S128x128 (Scalar.select (Scalar.cmpi .slt n 31#32) 0#32 4294967040#32))

/-- The scores of four heads' queries (two column tiles, two heads each) against the block's 640 keys. -/
def scores (qa qb : FVec Ideal S128x128 .bf16) (keys : FVec Ideal S640x128 .bf16) : FVec Ideal S512x640 .f32 :=
  matmul dot_S512x128_S640x128_S512x640_1_1_0_0_n_n none
    (concatenate S512x128 0 [⟨S128x128, select k0_pay3 qa k0_pay7⟩, ⟨S128x128, select k0_pay3 k0_pay7 qa⟩,
      ⟨S128x128, select k0_pay3 qb k0_pay7⟩, ⟨S128x128, select k0_pay3 k0_pay7 qb⟩] concatenates_S128x128_S128x128_S128x128_S128x128_S512x128_d0)
    keys (constant S512x640 .f32 0x00000000#32)

/-- One head's scores in five column tiles, the window's mask laid on the first and the third. -/
def tile0 (ok : IVec S128x128 1) (s : FVec Ideal S128x640 .f32) : FVec Ideal S128x128 .f32 :=
  select ok (extractStridedSlice S128x128 ![0, 0] s slices_S128x640_o0_0_S128x128) (broadcast S128x128 (Named.named κ "mask" 0xF149F2CA#32))
def tile1 (s : FVec Ideal S128x640 .f32) : FVec Ideal S128x128 .f32 := extractStridedSlice S128x128 ![0, 128] s slices_S128x640_o0_128_S128x128
def tile2 (ok : IVec S128x128 1) (s : FVec Ideal S128x640 .f32) : FVec Ideal S128x128 .f32 :=
  select ok (extractStridedSlice S128x128 ![0, 256] s slices_S128x640_o0_256_S128x128) (broadcast S128x128 (Named.named κ "mask" 0xF149F2CA#32))
def tile3 (s : FVec Ideal S128x640 .f32) : FVec Ideal S128x128 .f32 := extractStridedSlice S128x128 ![0, 384] s slices_S128x640_o0_384_S128x128
def tile4 (s : FVec Ideal S128x640 .f32) : FVec Ideal S128x128 .f32 := extractStridedSlice S128x128 ![0, 512] s slices_S128x640_o0_512_S128x128

/-- The largest of a query's scores and the sink. -/
def top (okp okn : IVec S128x128 1) (s : FVec Ideal S128x640 .f32) (sink : EReal) : FVec Ideal S128x1 .f32 :=
  maximumf (shapeCast S128x1 (multiReduction .maximumf [1] S128
      (maximumf (maximumf (maximumf (maximumf (tile0 okp s) (tile1 s)) (tile2 okn s)) (tile3 s)) (tile4 s))
      0xFF800000#32 reduces_S128x128_S128 (.inl rfl) rfl) shapeCasts_S128_S128x1)
    (broadcast S128x1 sink)

/-- The exponentials of the scores less the largest. -/
def probs (okp okn : IVec S128x128 1) (s : FVec Ideal S128x640 .f32) (sink : EReal) : FVec Ideal S128x640 .bf16 :=
  exp (truncf .bf16 (concatenate S128x640 1
    [⟨S128x128, subf (tile0 okp s) (broadcastTo S128x128 (top okp okn s sink) broadcasts_S128x1_S128x128)⟩,
      ⟨S128x128, subf (tile1 s) (broadcastTo S128x128 (top okp okn s sink) broadcasts_S128x1_S128x128)⟩,
      ⟨S128x128, subf (tile2 okn s) (broadcastTo S128x128 (top okp okn s sink) broadcasts_S128x1_S128x128)⟩,
      ⟨S128x128, subf (tile3 s) (broadcastTo S128x128 (top okp okn s sink) broadcasts_S128x1_S128x128)⟩,
      ⟨S128x128, subf (tile4 s) (broadcastTo S128x128 (top okp okn s sink) broadcasts_S128x1_S128x128)⟩]
    concatenates_S128x128_S128x128_S128x128_S128x128_S128x128_S128x640_d1) bitsLt_bf16_f32)

/-- The sink's share. -/
def tail (okp okn : IVec S128x128 1) (s : FVec Ideal S128x640 .f32) (sink : EReal) : FVec Ideal S128x1 .f32 :=
  exp (subf (broadcast S128x1 sink) (top okp okn s sink))

/-- Two heads' weights against the values. -/
def mix (pa pb : FVec Ideal S128x640 .bf16) (v : FVec Ideal S640x128 .bf16) : FVec Ideal S256x128 .f32 :=
  matmul dot_S256x640_S640x128_S256x128_1_0_0_1_n_n none
    (concatenate S256x640 0 [⟨S128x640, pa⟩, ⟨S128x640, pb⟩] concatenates_S128x640_S128x640_S256x640_d0) v (constant S256x128 .f32 0x00000000#32)

/-- A head's weighted values times one over its weights' sum. -/
def scaled (o : FVec Ideal S128x128 .f32) (d t : FVec Ideal S128x1 .f32) : FVec Ideal S128x128 .f32 :=
  mulf o (broadcastTo S128x128 (divf (broadcast S128x1 (Scalar.ofBits .f32 0x3F800000#32)) (addf d t)) broadcasts_S128x1_S128x128)

/-- The values with ones in the upper half of the lanes; in the lower half. -/
def onesHigh (v : FVec Ideal S640x128 .bf16) : FVec Ideal S640x128 .bf16 := select k0_pay12 v (broadcast S640x128 (Scalar.ofBits .bf16 0x3F80#16))
def onesLow (v : FVec Ideal S640x128 .bf16) : FVec Ideal S640x128 .bf16 := select k0_pay12 (broadcast S640x128 (Scalar.ofBits .bf16 0x3F80#16)) v

/-- One head's scores. -/
def group0 (s : FVec Ideal S512x640 .f32) : FVec Ideal S128x640 .f32 := extractStridedSlice S128x640 ![0, 0] s slices_S512x640_o0_0_S128x640
def group1 (s : FVec Ideal S512x640 .f32) : FVec Ideal S128x640 .f32 := extractStridedSlice S128x640 ![128, 0] s slices_S512x640_o128_0_S128x640
def group2 (s : FVec Ideal S512x640 .f32) : FVec Ideal S128x640 .f32 := extractStridedSlice S128x640 ![256, 0] s slices_S512x640_o256_0_S128x640
def group3 (s : FVec Ideal S512x640 .f32) : FVec Ideal S128x640 .f32 := extractStridedSlice S128x640 ![384, 0] s slices_S512x640_o384_0_S128x640

/-- The upper rows of two heads' products; the lower rows; the column that holds the weights' sum. -/
def upper (o : FVec Ideal S256x128 .f32) : FVec Ideal S128x128 .f32 := extractStridedSlice S128x128 ![0, 0] o slices_S256x128_o0_0_S128x128
def lower (o : FVec Ideal S256x128 .f32) : FVec Ideal S128x128 .f32 := extractStridedSlice S128x128 ![128, 0] o slices_S256x128_o128_0_S128x128
def col64 (o : FVec Ideal S128x128 .f32) : FVec Ideal S128x1 .f32 := extractStridedSlice S128x1 ![0, 64] o slices_S128x128_o0_64_S128x1
def col0 (o : FVec Ideal S128x128 .f32) : FVec Ideal S128x1 .f32 := extractStridedSlice S128x1 ![0, 0] o slices_S128x128_o0_0_S128x1

/-- The two heads of the first column tile of a key head. -/
def left (okp okn : IVec S128x128 1) (s : FVec Ideal S512x640 .f32) (v : FVec Ideal S640x128 .bf16) (s0 s1 s2 s3 : EReal) : FVec Ideal S128x128 .f32 :=
  select k0_pay3
    (scaled (upper (mix (probs okp okn (group0 s) s0) (probs okp okn (group2 s) s2) (onesHigh v)))
      (col64 (upper (mix (probs okp okn (group0 s) s0) (probs okp okn (group2 s) s2) (onesHigh v)))) (tail okp okn (group0 s) s0))
    (scaled (upper (mix (probs okp okn (group1 s) s1) (probs okp okn (group3 s) s3) (onesLow v)))
      (col0 (upper (mix (probs okp okn (group1 s) s1) (probs okp okn (group3 s) s3) (onesLow v)))) (tail okp okn (group1 s) s1))

/-- The two heads of the second column tile. -/
def right (okp okn : IVec S128x128 1) (s : FVec Ideal S512x640 .f32) (v : FVec Ideal S640x128 .bf16) (s0 s1 s2 s3 : EReal) : FVec Ideal S128x128 .f32 :=
  select k0_pay3
    (scaled (lower (mix (probs okp okn (group0 s) s0) (probs okp okn (group2 s) s2) (onesHigh v)))
      (col64 (lower (mix (probs okp okn (group0 s) s0) (probs okp okn (group2 s) s2) (onesHigh v)))) (tail okp okn (group2 s) s2))
    (scaled (lower (mix (probs okp okn (group1 s) s1) (probs okp okn (group3 s) s3) (onesLow v)))
      (col0 (lower (mix (probs okp okn (group1 s) s1) (probs okp okn (group3 s) s3) (onesLow v)))) (tail okp okn (group3 s) s3))

/-- The column tiles of a block's queries. -/
def qcol0 (q : FVec Ideal S128x512 .bf16) : FVec Ideal S128x128 .bf16 := extractStridedSlice S128x128 ![0, 0] q slices_S128x512_o0_0_S128x128
def qcol1 (q : FVec Ideal S128x512 .bf16) : FVec Ideal S128x128 .bf16 := extractStridedSlice S128x128 ![0, 128] q slices_S128x512_o0_128_S128x128
def qcol2 (q : FVec Ideal S128x512 .bf16) : FVec Ideal S128x128 .bf16 := extractStridedSlice S128x128 ![0, 256] q slices_S128x512_o0_256_S128x128
def qcol3 (q : FVec Ideal S128x512 .bf16) : FVec Ideal S128x128 .bf16 := extractStridedSlice S128x128 ![0, 384] q slices_S128x512_o0_384_S128x128

/-- What the kernel stores for block `n`: from its queries, its 640 keys and values of each key head, and the eight sinks. -/
def block (n : BitVec 32) (q : FVec Ideal S128x512 .bf16) (k0 v0 k1 v1 : FVec Ideal S640x128 .bf16) (s0 s1 s2 s3 s4 s5 s6 s7 : EReal) : FVec Ideal S1x128x512 .bf16 :=
  shapeCast S1x128x512 (truncf .bf16 (concatenate S128x512 1
    [⟨S128x128, left (okPrev n) (okNext n) (scores (qcol0 q) (qcol1 q) k0) v0 s0 s1 s2 s3⟩,
      ⟨S128x128, right (okPrev n) (okNext n) (scores (qcol0 q) (qcol1 q) k0) v0 s0 s1 s2 s3⟩,
      ⟨S128x128, left (okPrev n) (okNext n) (scores (qcol2 q) (qcol3 q) k1) v1 s4 s5 s6 s7⟩,
      ⟨S128x128, right (okPrev n) (okNext n) (scores (qcol2 q) (qcol3 q) k1) v1 s4 s5 s6 s7⟩]
    concatenates_S128x128_S128x128_S128x128_S128x128_S128x512_d1) bitsLt_bf16_f32) shapeCasts_S128x512_S1x128x512

/-- The loads a block is computed from: its queries, a block of keys or values, the context's keys or values, a sink. -/
def ldq (X : S1x1024x512.Idx → Elt Ideal .bf16) (off : Fin 3 → ℕ) (inb : ∀ a, off a + S1x128x512.size a ≤ S1x1024x512.size a) : Vec Ideal S1x128x512 .bf16 :=
  View.ld X (Rect.unit (s := S1x1024x512) off S1x128x512.size inb)
def ldk (X : S1x4096x256.Idx → Elt Ideal .bf16) (off : Fin 3 → ℕ) (inb : ∀ a, off a + S1x128x128.size a ≤ S1x4096x256.size a) : Vec Ideal S1x128x128 .bf16 :=
  View.ld X (Rect.unit (s := S1x4096x256) off S1x128x128.size inb)
def ldc (X : S1x256x256.Idx → Elt Ideal .bf16) (off : Fin 3 → ℕ) (inb : ∀ a, off a + S1x256x128.size a ≤ S1x256x256.size a) : Vec Ideal S1x256x128 .bf16 :=
  View.ld X (Rect.unit (s := S1x256x256) off S1x256x128.size inb)
def lds (X : S8.Idx → Elt Ideal .f32) (off : Fin 1 → ℕ) (inb : ∀ a, off a + S1.size a ≤ S8.size a) : EReal :=
  View.ld X (Rect.unit (s := S8) off S1.size inb) (Shape.Idx.first (by rw [show (Rect.unit (s := S8) off S1.size inb).shape.numel = 1 from numel1_S1]; exact Nat.one_pos))

/-- What the kernel stores for the block whose number the word `w` gives, from the call's staged operands. -/
def stored (i : grid0.Coords) (w : BitVec 32) (sink : S8.Idx → Elt Ideal .f32) (q : Vec Ideal S1x128x512 .bf16)
    (kk vv : S1x4096x256.Idx → Elt Ideal .bf16) (kkc vvc : S1x256x256.Idx → Elt Ideal .bf16)
    (h1 : ∀ a, k0_off1 i w a + S1x128x128.size a ≤ S1x4096x256.size a) (h2 : ∀ a, k0_off2 i w a + S1x128x128.size a ≤ S1x4096x256.size a)
    (h3 : ∀ a, k0_off3 i w a + S1x128x128.size a ≤ S1x4096x256.size a) (h4 : ∀ a, k0_off4 i w a + S1x128x128.size a ≤ S1x4096x256.size a)
    (h5 : ∀ a, k0_off5 i w a + S1x128x128.size a ≤ S1x4096x256.size a) (h6 : ∀ a, k0_off6 i w a + S1x128x128.size a ≤ S1x4096x256.size a) : FVec Ideal S1x128x512 .bf16 :=
  block (Scalar.addi (Scalar.muli (BitVec.ofNat 32 (i 1).val) 8#32) w) (k0_pay2 q)
    (k0_pay10 (ldk kk _ h1) (ldk kk _ h2) (ldk kk _ h3) (ldc kkc ![0, 0, 0] inb_S1x256x256_S1x256x128_0_0_0))
    (k0_pay10 (ldk vv _ h1) (ldk vv _ h2) (ldk vv _ h3) (ldc vvc ![0, 0, 0] inb_S1x256x256_S1x256x128_0_0_0))
    (k0_pay10 (ldk kk _ h4) (ldk kk _ h5) (ldk kk _ h6) (ldc kkc ![0, 0, 128] inb_S1x256x256_S1x256x128_0_0_128))
    (k0_pay10 (ldk vv _ h4) (ldk vv _ h5) (ldk vv _ h6) (ldc vvc ![0, 0, 128] inb_S1x256x256_S1x256x128_0_0_128))
    (lds sink ![0] inb_S8_S1_0) (lds sink ![1] inb_S8_S1_1) (lds sink ![2] inb_S8_S1_2) (lds sink ![3] inb_S8_S1_3)
    (lds sink ![4] inb_S8_S1_4) (lds sink ![5] inb_S8_S1_5) (lds sink ![6] inb_S8_S1_6) (lds sink ![7] inb_S8_S1_7)

end Cert.AttnBlock
-- ==== Proof.AttnMath.lean ====
/- Attention with a sink over the extended reals: the form the kernel computes and the form that divides every weight first. -/
module

public import Idealize.ShloMosaic.Lib.Pipeline.ValueKit

@[expose] public section

noncomputable section

open Idealize.ShloMosaic

namespace Cert.AttnMath

variable {n : ℕ}

/-- The largest of the scores and the sink. -/
def peak (S : Fin n → EReal) (sink : EReal) : EReal := max (Finset.univ.sup S) sink

/-- The sum of all weights, the sink's among them. -/
def total (S : Fin n → EReal) (sink : EReal) : EReal := (∑ x, Ideal.exp (S x - peak S sink)) + Ideal.exp (sink - peak S sink)

/-- Attention of one query: the weighted values' sum times one over the weights' sum. -/
def attend (S V : Fin n → EReal) (sink : EReal) : EReal := (∑ x, Ideal.exp (S x - peak S sink) * V x) * Ideal.div 1 (total S sink)

theorem exp_nonneg (x : EReal) : 0 ≤ Ideal.exp x := by
  induction x using EReal.rec with
  | bot => exact le_rfl
  | coe r => exact EReal.coe_nonneg.2 (Real.exp_pos r).le
  | top => exact le_top

theorem exp_bot_sub (x : EReal) : Ideal.exp (⊥ - x) = 0 := by rw [EReal.bot_sub]; rfl

/-- Values at positions whose score is −∞ do not matter. -/
theorem attend_congr (S V V' : Fin n → EReal) (sink : EReal) (h : ∀ x, S x ≠ ⊥ → V x = V' x) : attend S V sink = attend S V' sink := by
  unfold attend
  congr 1
  refine Finset.sum_congr rfl fun x _ => ?_
  by_cases hx : S x = ⊥
  · rw [hx, exp_bot_sub, zero_mul, zero_mul]
  · rw [h x hx]

/-- A finite sum times a nonnegative number that is not +∞ is the sum of the products. -/
theorem sum_mul {ι : Type} (s : Finset ι) (f : ι → EReal) (c : EReal) (h0 : 0 ≤ c) (ht : c ≠ ⊤) : (∑ x ∈ s, f x) * c = ∑ x ∈ s, f x * c := by
  classical
  induction s using Finset.induction_on with
  | empty => simp
  | insert a s ha ih => rw [Finset.sum_insert ha, Finset.sum_insert ha, EReal.right_distrib_of_nonneg_of_ne_top h0 ht, ih]

theorem inv_ne_top (x : EReal) : x⁻¹ ≠ ⊤ := by
  induction x using EReal.rec with
  | bot => simp
  | coe r => rw [← EReal.coe_inv]; exact EReal.coe_ne_top _
  | top => simp

theorem peak_ne_top (S : Fin n → EReal) (sink : EReal) (hS : ∀ x, S x ≠ ⊤) (hs : sink ≠ ⊤) : peak S sink ≠ ⊤ := by
  refine (max_lt ?_ hs.lt_top).ne
  exact (Finset.sup_lt_iff bot_lt_top).2 fun x _ => (hS x).lt_top

/-- Where no score and no sink is +∞ and the sink is not −∞, the weights' sum is positive. -/
theorem total_pos (S : Fin n → EReal) (sink : EReal) (hS : ∀ x, S x ≠ ⊤) (hs : sink ≠ ⊤) (hb : sink ≠ ⊥) : 0 < total S sink := by
  have h1 := peak_ne_top S sink hS hs
  have h2 : peak S sink ≠ ⊥ := (lt_of_lt_of_le hb.bot_lt (le_max_right _ _)).ne'
  unfold total
  generalize peak S sink = M at h1 h2 ⊢
  lift M to ℝ using ⟨h1, h2⟩
  lift sink to ℝ using ⟨hs, hb⟩
  refine lt_of_lt_of_le ?_ (le_add_of_nonneg_left (Finset.sum_nonneg fun x _ => exp_nonneg _))
  rw [← EReal.coe_sub]
  exact EReal.coe_pos.2 (Real.exp_pos _)

/-- Attention with every weight divided by the weights' sum first. -/
theorem attend_eq (S V : Fin n → EReal) (sink : EReal) (hS : ∀ x, S x ≠ ⊤) (hs : sink ≠ ⊤) (hb : sink ≠ ⊥) :
    attend S V sink = ∑ x, Ideal.div (Ideal.exp (S x - peak S sink)) (total S sink) * V x := by
  have hp := total_pos S sink hS hs hb
  unfold attend
  have hd : ∀ y, Ideal.div y (total S sink) = y * (total S sink)⁻¹ := fun y => by unfold Ideal.div; rw [if_neg hp.ne']
  simp only [hd, one_mul]
  rw [sum_mul _ _ _ (EReal.inv_nonneg_of_nonneg hp.le) (inv_ne_top _)]
  exact Finset.sum_congr rfl fun x _ => mul_right_comm _ _ _

/-- A sum of products times a nonnegative constant, taken into the first factor. -/
theorem dot_scale (q k : Fin n → EReal) (c : EReal) (h0 : 0 ≤ c) (ht : c ≠ ⊤) : (∑ e, k e * q e) * c = ∑ e, (q e * c) * k e := by
  rw [sum_mul _ _ _ h0 ht]
  exact Finset.sum_congr rfl fun e _ => by rw [mul_comm (k e), mul_right_comm]

/-- The sum of real numbers is a real number. -/
theorem coe_sum {ι : Type} (s : Finset ι) (f : ι → ℝ) : ((∑ x ∈ s, f x : ℝ) : EReal) = ∑ x ∈ s, (f x : EReal) := by
  classical
  induction s using Finset.induction_on with
  | empty => simp
  | insert a s ha ih => rw [Finset.sum_insert ha, Finset.sum_insert ha, EReal.coe_add, ih]

/-- A sum of products of finite numbers, scaled by a finite number, is not +∞. -/
theorem dot_ne_top (q k : Fin n → EReal) (c : EReal) (hq : ∀ e, q e ≠ ⊤ ∧ q e ≠ ⊥) (hk : ∀ e, k e ≠ ⊤ ∧ k e ≠ ⊥) (hc : c ≠ ⊤ ∧ c ≠ ⊥) :
    (∑ e, (q e * c) * k e) ≠ ⊤ := by
  lift q to Fin n → ℝ using hq
  lift k to Fin n → ℝ using hk
  lift c to ℝ using hc
  have : (∑ e, ((q e : EReal) * (c : EReal)) * (k e : EReal)) = ((∑ e, (q e * c) * k e : ℝ) : EReal) := by
    rw [coe_sum]; rfl
  rw [this]
  exact EReal.coe_ne_top _

/-- The largest entry by a fold that starts from −∞. -/
theorem fold_max (S : Fin n → EReal) (b : EReal) (hb : b = ⊥) : Finset.univ.fold max b S = Finset.univ.sup S := by
  subst hb; rfl

end Cert.AttnMath
-- ==== Proof.AttnSpec.lean ====
/- The windowed attention, entry by entry, from the call's six arrays. -/
module

public import proofs.«01_k».proof.Proof.AttnMath
public import Idealize.ShloMosaic.Lib.Pipeline.ValueKit

@[expose] public section

set_option maxRecDepth 16384

noncomputable section

open Idealize.ShloMosaic Idealize.ShloMosaic.TcCoe Idealize.SL.Sem

namespace Cert.AttnSpec

open Cert.AttnMath

/-- The positions of its 640 keys (128 of the block before, 128 of its own, 128 of the block after, 256 of the context)
    that query `r` of block `n` sees. -/
def seen (n : Fin 32) (r : Fin 128) (x : Fin 640) : Prop :=
  if x.val < 128 then 0 < n.val ∧ r.val ≤ x.val else if x.val < 256 then True else if x.val < 384 then n.val < 31 ∧ x.val - 256 ≤ r.val else True

instance (n : Fin 32) (r : Fin 128) (x : Fin 640) : Decidable (seen n r x) := by unfold seen; infer_instance

theorem seen_before (n : Fin 32) (r : Fin 128) (x : Fin 640) (h : x.val < 128) : seen n r x ↔ 0 < n.val ∧ r.val ≤ x.val := by
  unfold seen; rw [if_pos h]

theorem seen_own (n : Fin 32) (r : Fin 128) (x : Fin 640) (h : ¬x.val < 128) (h' : x.val < 256) : seen n r x := by
  unfold seen; rw [if_neg h, if_pos h']; trivial

theorem seen_after (n : Fin 32) (r : Fin 128) (x : Fin 640) (h : ¬x.val < 256) (h' : x.val < 384) : seen n r x ↔ n.val < 31 ∧ x.val - 256 ≤ r.val := by
  unfold seen; rw [if_neg (by omega), if_neg h, if_pos h']

theorem seen_context (n : Fin 32) (r : Fin 128) (x : Fin 640) (h : ¬x.val < 384) : seen n r x := by
  unfold seen; rw [if_neg (by omega), if_neg (by omega), if_neg h]; trivial

/-- The token at window position `x` of block `n`, held inside the sequence. -/
def token (n : Fin 32) (x : Fin 640) : Fin 4096 := ⟨min (128 * n.val + x.val - 128) 4095, by omega⟩

/-- Feature `e` of key head `h` at position `x`: from the tokens' array in the window, from the context's after it. -/
def entryAt (t : Fin 8 → Fin 4096 → Fin 2 → Fin 64 → EReal) (c : Fin 8 → Fin 256 → Fin 2 → Fin 64 → EReal)
    (b : Fin 8) (n : Fin 32) (h : Fin 2) (x : Fin 640) (e : Fin 64) : EReal :=
  if hx : x.val < 384 then t b (token n x) h e else c b ⟨x.val - 384, by omega⟩ h e

/-- The score of position `x`: the scaled query times the key, −∞ where the query does not see. -/
def score (q : Fin 8 → Fin 4096 → Fin 8 → Fin 64 → EReal) (t : Fin 8 → Fin 4096 → Fin 2 → Fin 64 → EReal) (c : Fin 8 → Fin 256 → Fin 2 → Fin 64 → EReal)
    (b : Fin 8) (n : Fin 32) (r : Fin 128) (h : Fin 2) (g : Fin 4) (x : Fin 640) : EReal :=
  if seen n r x then ∑ e : Fin 64, q b ⟨128 * n.val + r.val, by omega⟩ ⟨4 * h.val + g.val, by omega⟩ e * Ideal.ofBits .f32 0x3E000000#32 * entryAt t c b n h x e else ⊥

/-- Feature `d` of the attention of query `r` of block `n`, head `4 h + g`. -/
def entry (q : Fin 8 → Fin 4096 → Fin 8 → Fin 64 → EReal) (k v : Fin 8 → Fin 4096 → Fin 2 → Fin 64 → EReal) (kc vc : Fin 8 → Fin 256 → Fin 2 → Fin 64 → EReal)
    (sink : Fin 8 → EReal) (b : Fin 8) (n : Fin 32) (r : Fin 128) (h : Fin 2) (g : Fin 4) (d : Fin 64) : EReal :=
  attend (score q k kc b n r h g) (fun x => entryAt v vc b n h x d) (sink ⟨4 * h.val + g.val, by omega⟩)

end Cert.AttnSpec
-- ==== Proof.AttnRow.lean ====
/- One query's row of one head in the kernel: its masked scores, their peak, the weights, the sink's share. -/
module

public import proofs.«01_k».proof.Proof.AttnBlock
public import proofs.«01_k».proof.Proof.AttnSpec

@[expose] public section

set_option maxRecDepth 16384

noncomputable section

open Idealize.ShloMosaic Idealize.ShloMosaic.TcCoe Idealize.SL.Sem

namespace Cert.AttnRow

open Cert.AttnIdeal Cert.AttnIdeal.Gen Cert.AttnBlock Cert.AttnMath Cert.AttnSpec

theorem ge_bits : ∀ r k : Fin 128, IntOp.cmpi .sge (IntOp.subi (BitVec.ofNat 32 k.val) (BitVec.ofNat 32 r.val)) 0#32 = if r.val ≤ k.val then 1#1 else 0#1 := by decide +kernel
theorem ge_none : ∀ r k : Fin 128, IntOp.cmpi .sge (IntOp.subi (BitVec.ofNat 32 k.val) (BitVec.ofNat 32 r.val)) 256#32 = 0#1 := by decide +kernel
theorem le_bits : ∀ r k : Fin 128, IntOp.cmpi .sle (IntOp.subi (BitVec.ofNat 32 k.val) (BitVec.ofNat 32 r.val)) 0#32 = if k.val ≤ r.val then 1#1 else 0#1 := by decide +kernel
theorem le_none : ∀ r k : Fin 128, IntOp.cmpi .sle (IntOp.subi (BitVec.ofNat 32 k.val) (BitVec.ofNat 32 r.val)) 4294967040#32 = 0#1 := by decide +kernel
theorem prev_word : ∀ n : Fin 32, Scalar.select (Scalar.cmpi .sgt (BitVec.ofNat 32 n.val) 0#32) 0#32 256#32 = if 0 < n.val then 0#32 else 256#32 := by decide +kernel
theorem next_word : ∀ n : Fin 32, Scalar.select (Scalar.cmpi .slt (BitVec.ofNat 32 n.val) 31#32) 0#32 4294967040#32 = if n.val < 31 then 0#32 else 4294967040#32 := by decide +kernel
theorem low_bits : ∀ k : Fin 128, IntOp.cmpi .slt (BitVec.ofNat 32 k.val) 64#32 = if k.val < 64 then 1#1 else 0#1 := by decide +kernel

theorem select_if {α : Type} (p : Prop) [Decidable p] (a b : α) : Scalar.select (if p then 1#1 else 0#1) a b = if p then a else b := by
  split <;> rfl

theorem okPrev_apply (n : Fin 32) (r k : Fin 128) : okPrev (BitVec.ofNat 32 n.val) (ix2 r k) = if 0 < n.val ∧ r.val ≤ k.val then 1#1 else 0#1 := by
  pointwise [okPrev, k0_pay4]
  rw [prev_word]
  by_cases h : 0 < n.val
  · rw [if_pos h, ge_bits]; simp only [h, true_and]
  · rw [if_neg h, ge_none]; simp only [h, false_and, if_false]

theorem okNext_apply (n : Fin 32) (r k : Fin 128) : okNext (BitVec.ofNat 32 n.val) (ix2 r k) = if n.val < 31 ∧ k.val ≤ r.val then 1#1 else 0#1 := by
  pointwise [okNext, k0_pay4]
  rw [next_word]
  by_cases h : n.val < 31
  · rw [if_pos h, le_bits]; simp only [h, true_and]
  · rw [if_neg h, le_none]; simp only [h, false_and, if_false]

/-- One head's scores of query `r` of block `n`, −∞ where it does not see. -/
def masked (n : Fin 32) (s : FVec Ideal S128x640 .f32) (r : Fin 128) (x : Fin 640) : EReal := if seen n r x then s (ix2 r x) else ⊥

theorem mask_bot : (Named.named κ "mask" 4048155338#32 : Ideal .f32) = (⊥ : EReal) := rfl

section
variable (n : Fin 32) (s : FVec Ideal S128x640 .f32) (sink : EReal)

theorem tile0_apply (r k : Fin 128) : tile0 (okPrev (BitVec.ofNat 32 n.val)) s (ix2 r k) = masked n s r ⟨k.val, by omega⟩ := by
  pointwise [tile0]
  rw [okPrev_apply, select_if, mask_bot]
  unfold masked
  simp only [seen_before n r ⟨k.val, by omega⟩ k.isLt]

theorem tile1_apply (r k : Fin 128) : tile1 s (ix2 r k) = masked n s r ⟨128 + k.val, by omega⟩ := by
  pointwise [tile1]
  exact (if_pos (seen_own n r ⟨128 + k.val, by omega⟩ (by show ¬(128 + k.val < 128); omega) (by show 128 + k.val < 256; omega))).symm

theorem tile2_apply (r k : Fin 128) : tile2 (okNext (BitVec.ofNat 32 n.val)) s (ix2 r k) = masked n s r ⟨256 + k.val, by omega⟩ := by
  pointwise [tile2]
  rw [okNext_apply, select_if, mask_bot]
  unfold masked
  simp only [seen_after n r ⟨256 + k.val, by omega⟩ (by show ¬(256 + k.val < 256); omega) (by show 256 + k.val < 384; omega), Nat.add_sub_cancel_left]

theorem tile3_apply (r k : Fin 128) : tile3 s (ix2 r k) = masked n s r ⟨384 + k.val, by omega⟩ := by
  pointwise [tile3]
  exact (if_pos (seen_context n r ⟨384 + k.val, by omega⟩ (by show ¬(384 + k.val < 384); omega))).symm

theorem tile4_apply (r k : Fin 128) : tile4 s (ix2 r k) = masked n s r ⟨512 + k.val, by omega⟩ := by
  pointwise [tile4]
  exact (if_pos (seen_context n r ⟨512 + k.val, by omega⟩ (by show ¬(512 + k.val < 384); omega))).symm

theorem neg_inf : Ideal.ofBits .f32 4286578688#32 = (⊥ : EReal) := by
  rfl

/-- The largest of five tiles' entries, lane by lane, is the largest of the 640. -/
theorem fold_tiles (f : Fin 640 → EReal) :
    Finset.fold max ⊥ (fun x : Fin 128 => max (max (max (max (f ⟨x.val, by omega⟩) (f ⟨128 + x.val, by omega⟩)) (f ⟨256 + x.val, by omega⟩)) (f ⟨384 + x.val, by omega⟩))
      (f ⟨512 + x.val, by omega⟩)) Finset.univ = Finset.univ.sup f := by
  rw [fold_max _ _ rfl]
  refine le_antisymm (Finset.sup_le fun x _ => ?_) (Finset.sup_le fun x _ => ?_)
  · have h := fun y : Fin 640 => Finset.le_sup (f := f) (Finset.mem_univ y)
    exact max_le (max_le (max_le (max_le (h _) (h _)) (h _)) (h _)) (h _)
  · have hx := x.isLt
    refine le_trans ?_ (Finset.le_sup (f := fun x : Fin 128 => max (max (max (max (f ⟨x.val, by omega⟩) (f ⟨128 + x.val, by omega⟩)) (f ⟨256 + x.val, by omega⟩)) (f ⟨384 + x.val, by omega⟩))
      (f ⟨512 + x.val, by omega⟩)) (Finset.mem_univ (⟨x.val % 128, Nat.mod_lt _ (by decide)⟩ : Fin 128)))
    have e : ∀ a, a + x.val % 128 = x.val → ∀ h, f x = f ⟨a + x.val % 128, h⟩ := fun a ha h => congrArg f (Fin.ext ha.symm)
    have h5 : x.val / 128 = 0 ∨ x.val / 128 = 1 ∨ x.val / 128 = 2 ∨ x.val / 128 = 3 ∨ x.val / 128 = 4 := by omega
    rcases h5 with h | h | h | h | h
    · exact le_max_of_le_left (le_max_of_le_left (le_max_of_le_left (le_max_of_le_left (le_of_eq (congrArg f (Fin.ext (by show x.val = x.val % 128; omega)))))))
    · exact le_max_of_le_left (le_max_of_le_left (le_max_of_le_left (le_max_of_le_right (e 128 (by omega) _).le)))
    · exact le_max_of_le_left (le_max_of_le_left (le_max_of_le_right (e 256 (by omega) _).le))
    · exact le_max_of_le_left (le_max_of_le_right (e 384 (by omega) _).le)
    · exact le_max_of_le_right (e 512 (by omega) _).le

/-- The kernel's largest score of a query. -/
theorem top_apply (r : Fin 128) : top (okPrev (BitVec.ofNat 32 n.val)) (okNext (BitVec.ofNat 32 n.val)) s sink (ix2 r 0) = peak (masked n s r) sink := by
  pointwise [top]
  unfold peak
  congr 1
  rw [neg_inf]
  simp only [tile0_apply, tile1_apply n, tile2_apply, tile3_apply n, tile4_apply n]
  exact fold_tiles (masked n s r)

/-- The kernel's weight of a query at a position. -/
theorem probs_apply (r : Fin 128) (x : Fin 640) :
    probs (okPrev (BitVec.ofNat 32 n.val)) (okNext (BitVec.ofNat 32 n.val)) s sink (ix2 r x) = Ideal.exp (masked n s r x - peak (masked n s r) sink) := by
  pointwise [probs]
  rw [top_apply]
  simp only [tile0_apply, tile1_apply n, tile2_apply, tile3_apply n, tile4_apply n]
  congr 1
  have e : ∀ a, a = x.val → ∀ h, masked n s r ⟨a, h⟩ - peak (masked n s r) sink = masked n s r x - peak (masked n s r) sink :=
    fun a ha h => congrArg (fun y => masked n s r y - peak (masked n s r) sink) (Fin.ext ha)
  have hx := x.isLt
  split
  · exact e _ rfl _
  split
  · exact e _ (by omega) _
  split
  · exact e _ (by omega) _
  split
  · exact e _ (by omega) _
  · exact e _ (by omega) _

/-- The kernel's weight of the sink. -/
theorem tail_apply (r : Fin 128) : tail (okPrev (BitVec.ofNat 32 n.val)) (okNext (BitVec.ofNat 32 n.val)) s sink (ix2 r 0) = Ideal.exp (sink - peak (masked n s r) sink) := by
  pointwise [tail]
  rw [top_apply]

end

end Cert.AttnRow
-- ==== Proof.AttnHeads.lean ====
/- The heads of one block in the kernel: four heads' scores, then each head's attention, at an index. -/
module

public import proofs.«01_k».proof.Proof.AttnRow

@[expose] public section

set_option maxRecDepth 16384

noncomputable section

open Idealize.ShloMosaic Idealize.ShloMosaic.TcCoe Idealize.SL.Sem

namespace Cert.AttnHeads

open Cert.AttnIdeal Cert.AttnIdeal.Gen Cert.AttnBlock Cert.AttnMath Cert.AttnSpec Cert.AttnRow

theorem one_lit : Ideal.ofBits .f32 0x3F800000#32 = (1 : EReal) := by
  pointwise []

theorem upper_mix (pa pb : FVec Ideal S128x640 .bf16) (v : FVec Ideal S640x128 .bf16) (r k : Fin 128) :
    upper (mix pa pb v) (ix2 r k) = ∑ x : Fin 640, pa (ix2 r x) * v (ix2 x k) := by
  pointwise [upper, mix]

theorem lower_mix (pa pb : FVec Ideal S128x640 .bf16) (v : FVec Ideal S640x128 .bf16) (r k : Fin 128) :
    lower (mix pa pb v) (ix2 r k) = ∑ x : Fin 640, pb (ix2 r x) * v (ix2 x k) := by
  pointwise [lower, mix]

theorem low_apply (r k : Fin 128) : k0_pay3 (ix2 r k) = if k.val < 64 then 1#1 else 0#1 := by
  pointwise [k0_pay3]
  exact low_bits k

theorem col64_apply (o : FVec Ideal S128x128 .f32) (r : Fin 128) : col64 o (ix2 r 0) = o (ix2 r ⟨64, by decide⟩) := by
  pointwise [col64]

theorem col0_apply (o : FVec Ideal S128x128 .f32) (r : Fin 128) : col0 o (ix2 r 0) = o (ix2 r ⟨0, by decide⟩) := by
  pointwise [col0]

theorem onesHigh_apply (v : FVec Ideal S640x128 .bf16) (x : Fin 640) (k : Fin 128) : onesHigh v (ix2 x k) = if k.val < 64 then v (ix2 x k) else 1 := by
  pointwise [onesHigh, k0_pay12]
  rw [low_bits, select_if]

theorem onesLow_apply (v : FVec Ideal S640x128 .bf16) (x : Fin 640) (k : Fin 128) : onesLow v (ix2 x k) = if k.val < 64 then 1 else v (ix2 x k) := by
  pointwise [onesLow, k0_pay12]
  rw [low_bits, select_if]

/-- A head's attention at a lane, from the products the kernel forms. -/
theorem scaled_attend (S V : Fin 640 → EReal) (sink : EReal) (o : FVec Ideal S128x128 .f32) (d t : FVec Ideal S128x1 .f32) (r k : Fin 128)
    (ho : o (ix2 r k) = ∑ x, Ideal.exp (S x - peak S sink) * V x) (hd : d (ix2 r 0) = ∑ x, Ideal.exp (S x - peak S sink) * 1)
    (ht : t (ix2 r 0) = Ideal.exp (sink - peak S sink)) : scaled o d t (ix2 r k) = attend S V sink := by
  pointwise [scaled]
  rw [ho, hd, ht]
  simp only [mul_one]
  rfl

section
variable (n : Fin 32) (s : FVec Ideal S512x640 .f32) (v : FVec Ideal S640x128 .bf16) (s0 s1 s2 s3 : EReal) (r k : Fin 128)

/-- The first column tile: head 0 in the lower lanes, head 1 in the upper. -/
theorem left_apply : left (okPrev (BitVec.ofNat 32 n.val)) (okNext (BitVec.ofNat 32 n.val)) s v s0 s1 s2 s3 (ix2 r k)
    = if k.val < 64 then attend (masked n (group0 s) r) (fun x => v (ix2 x k)) s0 else attend (masked n (group1 s) r) (fun x => v (ix2 x k)) s1 := by
  unfold left
  show Scalar.select (k0_pay3 (ix2 r k)) _ _ = _
  rw [low_apply, select_if]
  split
  · rename_i h
    refine scaled_attend _ _ _ _ _ _ _ _ ?_ ?_ (tail_apply n _ _ r)
    · rw [upper_mix]; simp only [probs_apply, onesHigh_apply, if_pos h]
    · rw [col64_apply, upper_mix]; simp only [probs_apply, onesHigh_apply, lt_irrefl, if_false]
  · rename_i h
    refine scaled_attend _ _ _ _ _ _ _ _ ?_ ?_ (tail_apply n _ _ r)
    · rw [upper_mix]; simp only [probs_apply, onesLow_apply, if_neg h]
    · rw [col0_apply, upper_mix]; simp only [probs_apply, onesLow_apply, Nat.zero_lt_succ, if_true]

/-- The second column tile: head 2 in the lower lanes, head 3 in the upper. -/
theorem right_apply : right (okPrev (BitVec.ofNat 32 n.val)) (okNext (BitVec.ofNat 32 n.val)) s v s0 s1 s2 s3 (ix2 r k)
    = if k.val < 64 then attend (masked n (group2 s) r) (fun x => v (ix2 x k)) s2 else attend (masked n (group3 s) r) (fun x => v (ix2 x k)) s3 := by
  unfold right
  show Scalar.select (k0_pay3 (ix2 r k)) _ _ = _
  rw [low_apply, select_if]
  split
  · rename_i h
    refine scaled_attend _ _ _ _ _ _ _ _ ?_ ?_ (tail_apply n _ _ r)
    · rw [lower_mix]; simp only [probs_apply, onesHigh_apply, if_pos h]
    · rw [col64_apply, lower_mix]; simp only [probs_apply, onesHigh_apply, lt_irrefl, if_false]
  · rename_i h
    refine scaled_attend _ _ _ _ _ _ _ _ ?_ ?_ (tail_apply n _ _ r)
    · rw [lower_mix]; simp only [probs_apply, onesLow_apply, if_neg h]
    · rw [col0_apply, lower_mix]; simp only [probs_apply, onesLow_apply, Nat.zero_lt_succ, if_true]

end

/-- A sum over 128 lanes that keeps the lower half; the upper half. -/
theorem sum_low (f : Fin 128 → EReal) : (∑ x : Fin 128, if x.val < 64 then f x else 0) = ∑ e : Fin 64, f ⟨e.val, by omega⟩ := by
  rw [Fin.sum_univ_two_halves 64 64 rfl]
  have h1 : ∀ e : Fin 64, (64 + e.val < 64) = False := fun e => by simp
  simp only [Fin.isLt, if_true, h1, if_false, Finset.sum_const_zero, add_zero]

theorem sum_high (f : Fin 128 → EReal) : (∑ x : Fin 128, if x.val < 64 then 0 else f x) = ∑ e : Fin 64, f ⟨64 + e.val, by omega⟩ := by
  rw [Fin.sum_univ_two_halves 64 64 rfl]
  have h1 : ∀ e : Fin 64, (64 + e.val < 64) = False := fun e => by simp
  simp only [Fin.isLt, if_true, h1, if_false, Finset.sum_const_zero, zero_add]

section
variable (qa qb : FVec Ideal S128x128 .bf16) (keys : FVec Ideal S640x128 .bf16) (r : Fin 128) (x : Fin 640)

theorem group0_apply : group0 (scores qa qb keys) (ix2 r x) = ∑ e : Fin 64, qa (ix2 r ⟨e.val, by omega⟩) * keys (ix2 x ⟨e.val, by omega⟩) := by
  pointwise [group0, scores, k0_pay3, k0_pay7]
  simp only [low_bits, select_if]
  exact sum_low fun y => qa (ix2 r y) * keys (ix2 x y)

theorem group1_apply : group1 (scores qa qb keys) (ix2 r x) = ∑ e : Fin 64, qa (ix2 r ⟨64 + e.val, by omega⟩) * keys (ix2 x ⟨64 + e.val, by omega⟩) := by
  pointwise [group1, scores, k0_pay3, k0_pay7]
  simp only [low_bits, select_if]
  exact sum_high fun y => qa (ix2 r y) * keys (ix2 x y)

theorem group2_apply : group2 (scores qa qb keys) (ix2 r x) = ∑ e : Fin 64, qb (ix2 r ⟨e.val, by omega⟩) * keys (ix2 x ⟨e.val, by omega⟩) := by
  pointwise [group2, scores, k0_pay3, k0_pay7]
  simp only [low_bits, select_if]
  refine Eq.trans (Finset.sum_congr rfl fun y _ => ?_) (sum_low fun y => qb (ix2 r y) * keys (ix2 x y))
  have hr : (⟨256 + r.val - 128 - 128, by omega⟩ : Fin 128) = r := Fin.ext (by show 256 + r.val - 128 - 128 = r.val; omega)
  rw [dif_neg (show ¬(256 + r.val < 128) by omega), dif_neg (show ¬(256 + r.val - 128 < 128) by omega), dif_pos (show 256 + r.val - 128 - 128 < 128 by omega), hr]
  split
  · rfl
  · rw [zero_mul]

theorem group3_apply : group3 (scores qa qb keys) (ix2 r x) = ∑ e : Fin 64, qb (ix2 r ⟨64 + e.val, by omega⟩) * keys (ix2 x ⟨64 + e.val, by omega⟩) := by
  pointwise [group3, scores, k0_pay3, k0_pay7]
  simp only [low_bits, select_if]
  refine Eq.trans (Finset.sum_congr rfl fun y _ => ?_) (sum_high fun y => qb (ix2 r y) * keys (ix2 x y))
  have hr : (⟨384 + r.val - 128 - 128 - 128, by omega⟩ : Fin 128) = r := Fin.ext (by show 384 + r.val - 128 - 128 - 128 = r.val; omega)
  rw [dif_neg (show ¬(384 + r.val < 128) by omega), dif_neg (show ¬(384 + r.val - 128 < 128) by omega), dif_neg (show ¬(384 + r.val - 128 - 128 < 128) by omega), hr]
  split
  · rw [zero_mul]
  · rfl

end

section
variable (q : FVec Ideal S128x512 .bf16) (r k : Fin 128)

theorem qcol0_apply : qcol0 q (ix2 r k) = q (ix2 r ⟨k.val, by omega⟩) := by
  pointwise [qcol0]

theorem qcol1_apply : qcol1 q (ix2 r k) = q (ix2 r ⟨128 + k.val, by omega⟩) := by
  pointwise [qcol1]

theorem qcol2_apply : qcol2 q (ix2 r k) = q (ix2 r ⟨256 + k.val, by omega⟩) := by
  pointwise [qcol2]

theorem qcol3_apply : qcol3 q (ix2 r k) = q (ix2 r ⟨384 + k.val, by omega⟩) := by
  pointwise [qcol3]

end

section
variable (n : Fin 32) (q : FVec Ideal S128x512 .bf16) (k0 v0 k1 v1 : FVec Ideal S640x128 .bf16) (s0 s1 s2 s3 s4 s5 s6 s7 : EReal) (r : Fin 128) (d : Fin 64)

/-- The masked scores of one head, from its 64 query lanes and the keys' lower or upper lanes. -/
def headScores (keys : FVec Ideal S640x128 .bf16) (a b : Fin 64 → ℕ) (ha : ∀ e, a e < 512) (hb : ∀ e, b e < 128) (x : Fin 640) : EReal :=
  if seen n r x then ∑ e : Fin 64, q (ix2 r ⟨a e, ha e⟩) * keys (ix2 x ⟨b e, hb e⟩) else ⊥

/-- A block's column tiles. -/
theorem block_tiles (w : BitVec 32) (c : Fin 512) : block w q k0 v0 k1 v1 s0 s1 s2 s3 s4 s5 s6 s7 (ix3 0 r c)
    = if h : c.val < 128 then left (okPrev w) (okNext w) (scores (qcol0 q) (qcol1 q) k0) v0 s0 s1 s2 s3 (ix2 r ⟨c.val, h⟩)
      else if h1 : c.val - 128 < 128 then right (okPrev w) (okNext w) (scores (qcol0 q) (qcol1 q) k0) v0 s0 s1 s2 s3 (ix2 r ⟨c.val - 128, h1⟩)
      else if h2 : c.val - 128 - 128 < 128 then left (okPrev w) (okNext w) (scores (qcol2 q) (qcol3 q) k1) v1 s4 s5 s6 s7 (ix2 r ⟨c.val - 128 - 128, h2⟩)
      else right (okPrev w) (okNext w) (scores (qcol2 q) (qcol3 q) k1) v1 s4 s5 s6 s7 (ix2 r ⟨c.val - 128 - 128 - 128, by omega⟩) := by
  pointwise [block]

theorem block_head0 : block (BitVec.ofNat 32 n.val) q k0 v0 k1 v1 s0 s1 s2 s3 s4 s5 s6 s7 (ix3 0 r ⟨0 + d.val, by omega⟩)
    = attend (headScores n q r k0 (fun e => 0 + e.val) (fun e => e.val) (fun e => by omega) (fun e => by omega)) (fun x => v0 (ix2 x ⟨d.val, by omega⟩)) s0 := by
  rw [block_tiles, dif_pos (show 0 + d.val < 128 by omega)]
  refine (congrArg (fun y => left (okPrev (BitVec.ofNat 32 n.val)) (okNext (BitVec.ofNat 32 n.val)) (scores (qcol0 q) (qcol1 q) k0) v0 s0 s1 s2 s3 (ix2 r y))
    (Fin.ext (by show 0 + d.val = d.val; omega) : _ = (⟨d.val, by omega⟩ : Fin 128))).trans ?_
  refine (left_apply n _ _ _ _ _ _ _ _).trans ?_
  rw [if_pos (show d.val < 64 from d.isLt)]
  congr 1
  funext x
  unfold masked headScores
  rw [group0_apply]
  simp only [qcol0_apply]
  congr 1

theorem block_head1 : block (BitVec.ofNat 32 n.val) q k0 v0 k1 v1 s0 s1 s2 s3 s4 s5 s6 s7 (ix3 0 r ⟨64 + d.val, by omega⟩)
    = attend (headScores n q r k0 (fun e => 64 + e.val) (fun e => 64 + e.val) (fun e => by omega) (fun e => by omega)) (fun x => v0 (ix2 x ⟨64 + d.val, by omega⟩)) s1 := by
  rw [block_tiles, dif_pos (show 64 + d.val < 128 by omega)]
  refine (congrArg (fun y => left (okPrev (BitVec.ofNat 32 n.val)) (okNext (BitVec.ofNat 32 n.val)) (scores (qcol0 q) (qcol1 q) k0) v0 s0 s1 s2 s3 (ix2 r y))
    (Fin.ext (by show 64 + d.val = 64 + d.val; omega) : _ = (⟨64 + d.val, by omega⟩ : Fin 128))).trans ?_
  refine (left_apply n _ _ _ _ _ _ _ _).trans ?_
  rw [if_neg (show ¬(64 + d.val < 64) by omega)]
  congr 1
  funext x
  unfold masked headScores
  rw [group1_apply]
  simp only [qcol0_apply]

theorem block_head2 : block (BitVec.ofNat 32 n.val) q k0 v0 k1 v1 s0 s1 s2 s3 s4 s5 s6 s7 (ix3 0 r ⟨128 + d.val, by omega⟩)
    = attend (headScores n q r k0 (fun e => 128 + e.val) (fun e => e.val) (fun e => by omega) (fun e => by omega)) (fun x => v0 (ix2 x ⟨d.val, by omega⟩)) s2 := by
  rw [block_tiles, dif_neg (show ¬(128 + d.val < 128) by omega), dif_pos (show 128 + d.val - 128 < 128 by omega)]
  refine (congrArg (fun y => right (okPrev (BitVec.ofNat 32 n.val)) (okNext (BitVec.ofNat 32 n.val)) (scores (qcol0 q) (qcol1 q) k0) v0 s0 s1 s2 s3 (ix2 r y))
    (Fin.ext (by show 128 + d.val - 128 = d.val; omega) : _ = (⟨d.val, by omega⟩ : Fin 128))).trans ?_
  refine (right_apply n _ _ _ _ _ _ _ _).trans ?_
  rw [if_pos (show d.val < 64 from d.isLt)]
  congr 1
  funext x
  unfold masked headScores
  rw [group2_apply]
  simp only [qcol1_apply]

theorem block_head3 : block (BitVec.ofNat 32 n.val) q k0 v0 k1 v1 s0 s1 s2 s3 s4 s5 s6 s7 (ix3 0 r ⟨192 + d.val, by omega⟩)
    = attend (headScores n q r k0 (fun e => 192 + e.val) (fun e => 64 + e.val) (fun e => by omega) (fun e => by omega)) (fun x => v0 (ix2 x ⟨64 + d.val, by omega⟩)) s3 := by
  rw [block_tiles, dif_neg (show ¬(192 + d.val < 128) by omega), dif_pos (show 192 + d.val - 128 < 128 by omega)]
  refine (congrArg (fun y => right (okPrev (BitVec.ofNat 32 n.val)) (okNext (BitVec.ofNat 32 n.val)) (scores (qcol0 q) (qcol1 q) k0) v0 s0 s1 s2 s3 (ix2 r y))
    (Fin.ext (by show 192 + d.val - 128 = 64 + d.val; omega) : _ = (⟨64 + d.val, by omega⟩ : Fin 128))).trans ?_
  refine (right_apply n _ _ _ _ _ _ _ _).trans ?_
  rw [if_neg (show ¬(64 + d.val < 64) by omega)]
  congr 1
  funext x
  unfold masked headScores
  rw [group3_apply]
  simp only [qcol1_apply]
  congr 1

theorem block_head4 : block (BitVec.ofNat 32 n.val) q k0 v0 k1 v1 s0 s1 s2 s3 s4 s5 s6 s7 (ix3 0 r ⟨256 + d.val, by omega⟩)
    = attend (headScores n q r k1 (fun e => 256 + e.val) (fun e => e.val) (fun e => by omega) (fun e => by omega)) (fun x => v1 (ix2 x ⟨d.val, by omega⟩)) s4 := by
  rw [block_tiles, dif_neg (show ¬(256 + d.val < 128) by omega), dif_neg (show ¬(256 + d.val - 128 < 128) by omega), dif_pos (show 256 + d.val - 128 - 128 < 128 by omega)]
  refine (congrArg (fun y => left (okPrev (BitVec.ofNat 32 n.val)) (okNext (BitVec.ofNat 32 n.val)) (scores (qcol2 q) (qcol3 q) k1) v1 s4 s5 s6 s7 (ix2 r y))
    (Fin.ext (by show 256 + d.val - 128 - 128 = d.val; omega) : _ = (⟨d.val, by omega⟩ : Fin 128))).trans ?_
  refine (left_apply n _ _ _ _ _ _ _ _).trans ?_
  rw [if_pos (show d.val < 64 from d.isLt)]
  congr 1
  funext x
  unfold masked headScores
  rw [group0_apply]
  simp only [qcol2_apply]

theorem block_head5 : block (BitVec.ofNat 32 n.val) q k0 v0 k1 v1 s0 s1 s2 s3 s4 s5 s6 s7 (ix3 0 r ⟨320 + d.val, by omega⟩)
    = attend (headScores n q r k1 (fun e => 320 + e.val) (fun e => 64 + e.val) (fun e => by omega) (fun e => by omega)) (fun x => v1 (ix2 x ⟨64 + d.val, by omega⟩)) s5 := by
  rw [block_tiles, dif_neg (show ¬(320 + d.val < 128) by omega), dif_neg (show ¬(320 + d.val - 128 < 128) by omega), dif_pos (show 320 + d.val - 128 - 128 < 128 by omega)]
  refine (congrArg (fun y => left (okPrev (BitVec.ofNat 32 n.val)) (okNext (BitVec.ofNat 32 n.val)) (scores (qcol2 q) (qcol3 q) k1) v1 s4 s5 s6 s7 (ix2 r y))
    (Fin.ext (by show 320 + d.val - 128 - 128 = 64 + d.val; omega) : _ = (⟨64 + d.val, by omega⟩ : Fin 128))).trans ?_
  refine (left_apply n _ _ _ _ _ _ _ _).trans ?_
  rw [if_neg (show ¬(64 + d.val < 64) by omega)]
  congr 1
  funext x
  unfold masked headScores
  rw [group1_apply]
  simp only [qcol2_apply]
  congr 1

theorem block_head6 : block (BitVec.ofNat 32 n.val) q k0 v0 k1 v1 s0 s1 s2 s3 s4 s5 s6 s7 (ix3 0 r ⟨384 + d.val, by omega⟩)
    = attend (headScores n q r k1 (fun e => 384 + e.val) (fun e => e.val) (fun e => by omega) (fun e => by omega)) (fun x => v1 (ix2 x ⟨d.val, by omega⟩)) s6 := by
  rw [block_tiles, dif_neg (show ¬(384 + d.val < 128) by omega), dif_neg (show ¬(384 + d.val - 128 < 128) by omega), dif_neg (show ¬(384 + d.val - 128 - 128 < 128) by omega)]
  refine (congrArg (fun y => right (okPrev (BitVec.ofNat 32 n.val)) (okNext (BitVec.ofNat 32 n.val)) (scores (qcol2 q) (qcol3 q) k1) v1 s4 s5 s6 s7 (ix2 r y))
    (Fin.ext (by show 384 + d.val - 128 - 128 - 128 = d.val; omega) : _ = (⟨d.val, by omega⟩ : Fin 128))).trans ?_
  refine (right_apply n _ _ _ _ _ _ _ _).trans ?_
  rw [if_pos (show d.val < 64 from d.isLt)]
  congr 1
  funext x
  unfold masked headScores
  rw [group2_apply]
  simp only [qcol3_apply]

theorem block_head7 : block (BitVec.ofNat 32 n.val) q k0 v0 k1 v1 s0 s1 s2 s3 s4 s5 s6 s7 (ix3 0 r ⟨448 + d.val, by omega⟩)
    = attend (headScores n q r k1 (fun e => 448 + e.val) (fun e => 64 + e.val) (fun e => by omega) (fun e => by omega)) (fun x => v1 (ix2 x ⟨64 + d.val, by omega⟩)) s7 := by
  rw [block_tiles, dif_neg (show ¬(448 + d.val < 128) by omega), dif_neg (show ¬(448 + d.val - 128 < 128) by omega), dif_neg (show ¬(448 + d.val - 128 - 128 < 128) by omega)]
  refine (congrArg (fun y => right (okPrev (BitVec.ofNat 32 n.val)) (okNext (BitVec.ofNat 32 n.val)) (scores (qcol2 q) (qcol3 q) k1) v1 s4 s5 s6 s7 (ix2 r y))
    (Fin.ext (by show 448 + d.val - 128 - 128 - 128 = 64 + d.val; omega) : _ = (⟨64 + d.val, by omega⟩ : Fin 128))).trans ?_
  refine (right_apply n _ _ _ _ _ _ _ _).trans ?_
  rw [if_neg (show ¬(64 + d.val < 64) by omega)]
  congr 1
  funext x
  unfold masked headScores
  rw [group3_apply]
  simp only [qcol3_apply]
  congr 1

end

end Cert.AttnHeads
-- ==== Proof.AttnStored.lean ====
/- The host's operands and the loads at an index, and what the kernel stores for one block of queries. -/
module

public import proofs.«01_k».proof.Proof.AttnHeads

@[expose] public section

set_option maxRecDepth 16384

noncomputable section

open Idealize.ShloMosaic Idealize.ShloMosaic.TcCoe Idealize.SL.Sem

namespace Cert.AttnStored

open Cert.AttnIdeal Cert.AttnIdeal.Gen Cert.AttnBlock Cert.AttnMath Cert.AttnSpec Cert.AttnRow Cert.AttnHeads

section
variable (m : (ℓ : Loc nD τ sig) → Buf (Elt Ideal) ℓ) (c : Dev nD) (b : Fin 8)

/-- The queries the call reads: the argument times one eighth, the heads side by side. -/
theorem q_operand (t : Fin 4096) (l : Fin 512) : V m c main_v3 (ix3 b t l)
    = HMul.hMul (α := EReal) (β := EReal) (γ := EReal) (m ((c.tc : Thread nD τ).loc main_arg0) (ix4 b t ⟨l.val / 64, by omega⟩ ⟨l.val % 64, by omega⟩)) (Ideal.ofBits .f32 0x3E000000#32) := by
  entry_read
  pointwise

theorem k_operand (t : Fin 4096) (l : Fin 256) : V m c main_v6 (ix3 b t l)
    = m ((c.tc : Thread nD τ).loc main_arg1) (ix4 b t ⟨l.val / 128, by omega⟩ ⟨l.val % 64, by omega⟩) := by
  entry_read
  pointwise
  split
  · exact congrArg (fun y => m ((c.tc : Thread nD τ).loc main_arg1) (ix4 b t ⟨l.val / 128, by omega⟩ y)) (Fin.ext (by show l.val % 128 = l.val % 64; omega))
  · exact congrArg (fun y => m ((c.tc : Thread nD τ).loc main_arg1) (ix4 b t ⟨l.val / 128, by omega⟩ y)) (Fin.ext (by show l.val % 128 - 64 = l.val % 64; omega))

theorem v_operand (t : Fin 4096) (l : Fin 256) : V m c main_v9 (ix3 b t l)
    = m ((c.tc : Thread nD τ).loc main_arg2) (ix4 b t ⟨l.val / 128, by omega⟩ ⟨l.val % 64, by omega⟩) := by
  entry_read
  pointwise
  split
  · exact congrArg (fun y => m ((c.tc : Thread nD τ).loc main_arg2) (ix4 b t ⟨l.val / 128, by omega⟩ y)) (Fin.ext (by show l.val % 128 = l.val % 64; omega))
  · exact congrArg (fun y => m ((c.tc : Thread nD τ).loc main_arg2) (ix4 b t ⟨l.val / 128, by omega⟩ y)) (Fin.ext (by show l.val % 128 - 64 = l.val % 64; omega))

theorem kc_operand (t : Fin 256) (l : Fin 256) : V m c main_v12 (ix3 b t l)
    = m ((c.tc : Thread nD τ).loc main_arg3) (ix4 b t ⟨l.val / 128, by omega⟩ ⟨l.val % 64, by omega⟩) := by
  entry_read
  pointwise
  split
  · exact congrArg (fun y => m ((c.tc : Thread nD τ).loc main_arg3) (ix4 b t ⟨l.val / 128, by omega⟩ y)) (Fin.ext (by show l.val % 128 = l.val % 64; omega))
  · exact congrArg (fun y => m ((c.tc : Thread nD τ).loc main_arg3) (ix4 b t ⟨l.val / 128, by omega⟩ y)) (Fin.ext (by show l.val % 128 - 64 = l.val % 64; omega))

theorem vc_operand (t : Fin 256) (l : Fin 256) : V m c main_v15 (ix3 b t l)
    = m ((c.tc : Thread nD τ).loc main_arg4) (ix4 b t ⟨l.val / 128, by omega⟩ ⟨l.val % 64, by omega⟩) := by
  entry_read
  pointwise
  split
  · exact congrArg (fun y => m ((c.tc : Thread nD τ).loc main_arg4) (ix4 b t ⟨l.val / 128, by omega⟩ y)) (Fin.ext (by show l.val % 128 = l.val % 64; omega))
  · exact congrArg (fun y => m ((c.tc : Thread nD τ).loc main_arg4) (ix4 b t ⟨l.val / 128, by omega⟩ y)) (Fin.ext (by show l.val % 128 - 64 = l.val % 64; omega))

end

/-- The number of a block, as the word the kernel computes. -/
theorem block_word (i : grid0.Coords) (w : Fin 8) : Scalar.addi (Scalar.muli (BitVec.ofNat 32 (i 1).val) 8#32) (BitVec.ofNat 32 w.val) = BitVec.ofNat 32 (8 * (i 1).val + w.val) := by
  have h : ∀ (a : Fin 4) (w : Fin 8), Scalar.addi (Scalar.muli (BitVec.ofNat 32 a.val) 8#32) (BitVec.ofNat 32 w.val) = BitVec.ofNat 32 (8 * a.val + w.val) := by decide +kernel
  exact h (i 1) w

theorem off1_eq (i : grid0.Coords) (w : Fin 8) : k0_off1 i (BitVec.ofNat 32 w.val) = ![0, 128 * (8 * (i 1).val + w.val - 1), 0] := by
  have h : ∀ (a : Fin 4) (w : Fin 8), (Scalar.indexCast (Scalar.muli (Scalar.maxsi (Scalar.subi (Scalar.addi (Scalar.muli (BitVec.ofNat 32 a.val) 8#32) (BitVec.ofNat 32 w.val)) 1#32) 0#32) 128#32)).toNat = 128 * (8 * a.val + w.val - 1) := by decide +kernel
  exact congrArg (fun x => ![0, x, 0]) (h (i 1) w)

theorem off4_eq (i : grid0.Coords) (w : Fin 8) : k0_off4 i (BitVec.ofNat 32 w.val) = ![0, 128 * (8 * (i 1).val + w.val - 1), 128] := by
  have h : ∀ (a : Fin 4) (w : Fin 8), (Scalar.indexCast (Scalar.muli (Scalar.maxsi (Scalar.subi (Scalar.addi (Scalar.muli (BitVec.ofNat 32 a.val) 8#32) (BitVec.ofNat 32 w.val)) 1#32) 0#32) 128#32)).toNat = 128 * (8 * a.val + w.val - 1) := by decide +kernel
  exact congrArg (fun x => ![0, x, 128]) (h (i 1) w)

theorem off2_eq (i : grid0.Coords) (w : Fin 8) : k0_off2 i (BitVec.ofNat 32 w.val) = ![0, 128 * (8 * (i 1).val + w.val), 0] := by
  have h : ∀ (a : Fin 4) (w : Fin 8), (Scalar.indexCast (Scalar.muli (Scalar.addi (Scalar.muli (BitVec.ofNat 32 a.val) 8#32) (BitVec.ofNat 32 w.val)) 128#32)).toNat = 128 * (8 * a.val + w.val) := by decide +kernel
  exact congrArg (fun x => ![0, x, 0]) (h (i 1) w)

theorem off5_eq (i : grid0.Coords) (w : Fin 8) : k0_off5 i (BitVec.ofNat 32 w.val) = ![0, 128 * (8 * (i 1).val + w.val), 128] := by
  have h : ∀ (a : Fin 4) (w : Fin 8), (Scalar.indexCast (Scalar.muli (Scalar.addi (Scalar.muli (BitVec.ofNat 32 a.val) 8#32) (BitVec.ofNat 32 w.val)) 128#32)).toNat = 128 * (8 * a.val + w.val) := by decide +kernel
  exact congrArg (fun x => ![0, x, 128]) (h (i 1) w)

theorem off3_eq (i : grid0.Coords) (w : Fin 8) : k0_off3 i (BitVec.ofNat 32 w.val) = ![0, 128 * min (8 * (i 1).val + w.val + 1) 31, 0] := by
  have h : ∀ (a : Fin 4) (w : Fin 8), (Scalar.indexCast (Scalar.muli (Scalar.minsi (Scalar.addi (Scalar.addi (Scalar.muli (BitVec.ofNat 32 a.val) 8#32) (BitVec.ofNat 32 w.val)) 1#32) 31#32) 128#32)).toNat = 128 * min (8 * a.val + w.val + 1) 31 := by decide +kernel
  exact congrArg (fun x => ![0, x, 0]) (h (i 1) w)

theorem off6_eq (i : grid0.Coords) (w : Fin 8) : k0_off6 i (BitVec.ofNat 32 w.val) = ![0, 128 * min (8 * (i 1).val + w.val + 1) 31, 128] := by
  have h : ∀ (a : Fin 4) (w : Fin 8), (Scalar.indexCast (Scalar.muli (Scalar.minsi (Scalar.addi (Scalar.addi (Scalar.muli (BitVec.ofNat 32 a.val) 8#32) (BitVec.ofNat 32 w.val)) 1#32) 31#32) 128#32)).toNat = 128 * min (8 * a.val + w.val + 1) 31 := by decide +kernel
  exact congrArg (fun x => ![0, x, 128]) (h (i 1) w)

theorem ldk_apply (X : S1x4096x256.Idx → Elt Ideal .bf16) (off : Fin 3 → ℕ) (inb : ∀ a, off a + S1x128x128.size a ≤ S1x4096x256.size a) (o p : ℕ) (ho : off = ![0, o, p])
    (r l : Fin 128) (h1 : o + r.val < 4096) (h2 : p + l.val < 256) : ldk X off inb (ix3 0 r l) = X (ix3 0 ⟨o + r.val, h1⟩ ⟨p + l.val, h2⟩) := by
  subst ho
  unfold ldk
  rw [View.ld_apply]
  pointwise

theorem ldc_apply (X : S1x256x256.Idx → Elt Ideal .bf16) (off : Fin 3 → ℕ) (inb : ∀ a, off a + S1x256x128.size a ≤ S1x256x256.size a) (p : ℕ) (ho : off = ![0, 0, p])
    (r : Fin 256) (l : Fin 128) (h2 : p + l.val < 256) : ldc X off inb (ix3 0 r l) = X (ix3 0 r ⟨p + l.val, h2⟩) := by
  subst ho
  unfold ldc
  rw [View.ld_apply]
  pointwise

theorem lds_apply (X : S8.Idx → Elt Ideal .f32) (off : Fin 1 → ℕ) (inb : ∀ a, off a + S1.size a ≤ S8.size a) (j : Fin 8) (ho : off = ![j.val]) : lds X off inb = X (ix1 j) := by
  subst ho
  unfold lds
  rw [View.ld_apply]
  refine congrArg X (funext fun a => Fin.ext ?_)
  obtain rfl : a = 0 := Subsingleton.elim _ _
  rw [Rect.idx_unit_val]
  have h : ∀ y : Fin 1, y.val = 0 := fun y => by omega
  show j.val + _ = j.val
  exact congrArg (j.val + ·) (h _)

theorem queries_apply (a : Vec Ideal S1x128x512 .bf16) (r : Fin 128) (l : Fin 512) : k0_pay2 a (ix2 r l) = a (ix3 0 r l) := by
  pointwise [k0_pay2]

/-- The 640 keys (or values) of a key head at a position that some query of the block sees. -/
theorem keys_apply (T : Fin 8 → Fin 4096 → Fin 2 → Fin 64 → EReal) (C : Fin 8 → Fin 256 → Fin 2 → Fin 64 → EReal) (b : Fin 8) (n : Fin 32) (h : Fin 2)
    (X : S1x4096x256.Idx → Elt Ideal .bf16) (Y : S1x256x256.Idx → Elt Ideal .bf16)
    (hX : ∀ (t : Fin 4096) (l : Fin 256), X (ix3 0 t l) = T b t ⟨l.val / 128, by omega⟩ ⟨l.val % 64, by omega⟩)
    (hY : ∀ (t : Fin 256) (l : Fin 256), Y (ix3 0 t l) = C b t ⟨l.val / 128, by omega⟩ ⟨l.val % 64, by omega⟩)
    (o1 o2 o3 o4 : Fin 3 → ℕ) (i1 : ∀ a, o1 a + S1x128x128.size a ≤ S1x4096x256.size a) (i2 : ∀ a, o2 a + S1x128x128.size a ≤ S1x4096x256.size a)
    (i3 : ∀ a, o3 a + S1x128x128.size a ≤ S1x4096x256.size a) (i4 : ∀ a, o4 a + S1x256x128.size a ≤ S1x256x256.size a)
    (p : ℕ) (hp : p = 128 * h.val) (h1 : o1 = ![0, 128 * (n.val - 1), p]) (h2 : o2 = ![0, 128 * n.val, p]) (h3 : o3 = ![0, 128 * min (n.val + 1) 31, p]) (h4 : o4 = ![0, 0, p])
    (x : Fin 640) (l : Fin 128) (hb : x.val < 128 → 0 < n.val) (ha : ¬x.val < 256 → x.val < 384 → n.val < 31) :
    k0_pay10 (ldk X o1 i1) (ldk X o2 i2) (ldk X o3 i3) (ldc Y o4 i4) (ix2 x l) = entryAt T C b n h x ⟨l.val % 64, by omega⟩ := by
  have hn := n.isLt
  have hh := h.isLt
  have hl := l.isLt
  have hx := x.isLt
  have hT : ∀ (t t' : Fin 4096) (k : Fin 256), t.val = t'.val → k.val = p + l.val → X (ix3 0 t k) = T b t' h ⟨l.val % 64, by omega⟩ := fun t t' k e e' => by
    obtain rfl : t = t' := Fin.ext e
    rw [hX]
    have e1 : (⟨k.val / 128, by omega⟩ : Fin 2) = h := Fin.ext (by show k.val / 128 = h.val; omega)
    have e2 : (⟨k.val % 64, by omega⟩ : Fin 64) = ⟨l.val % 64, by omega⟩ := Fin.ext (by show k.val % 64 = l.val % 64; omega)
    rw [e1, e2]
  have hC : ∀ (t t' : Fin 256) (k : Fin 256), t.val = t'.val → k.val = p + l.val → Y (ix3 0 t k) = C b t' h ⟨l.val % 64, by omega⟩ := fun t t' k e e' => by
    obtain rfl : t = t' := Fin.ext e
    rw [hY]
    have e1 : (⟨k.val / 128, by omega⟩ : Fin 2) = h := Fin.ext (by show k.val / 128 = h.val; omega)
    have e2 : (⟨k.val % 64, by omega⟩ : Fin 64) = ⟨l.val % 64, by omega⟩ := Fin.ext (by show k.val % 64 = l.val % 64; omega)
    rw [e1, e2]
  pointwise [k0_pay10]
  unfold entryAt token
  split
  · rename_i g
    have := hb g
    rw [dif_pos (show x.val < 384 by omega), ldk_apply X o1 i1 _ _ h1 _ _ (by show 128 * (n.val - 1) + x.val < 4096; omega) (by omega)]
    exact hT _ _ _ (by show 128 * (n.val - 1) + x.val = min (128 * n.val + x.val - 128) 4095; omega) rfl
  split
  · rename_i g g'
    rw [dif_pos (show x.val < 384 by omega), ldk_apply X o2 i2 _ _ h2 _ _ (by show 128 * n.val + (x.val - 128) < 4096; omega) (by omega)]
    exact hT _ _ _ (by show 128 * n.val + (x.val - 128) = min (128 * n.val + x.val - 128) 4095; omega) rfl
  split
  · rename_i g g' g''
    have := ha (by omega) (by omega)
    rw [dif_pos (show x.val < 384 by omega), ldk_apply X o3 i3 _ _ h3 _ _ (by show 128 * min (n.val + 1) 31 + (x.val - 128 - 128) < 4096; omega) (by omega)]
    exact hT _ _ _ (by show 128 * min (n.val + 1) 31 + (x.val - 128 - 128) = min (128 * n.val + x.val - 128) 4095; omega) rfl
  · rename_i g g' g''
    rw [dif_neg (show ¬x.val < 384 by omega), ldc_apply Y o4 i4 _ h4 _ _ (by omega)]
    exact hC _ _ _ (by show x.val - 128 - 128 - 128 = x.val - 384; omega) rfl

/-- A seen position lies in the sequence. -/
theorem seen_inside (n : Fin 32) (r : Fin 128) (x : Fin 640) (h : seen n r x) : (x.val < 128 → 0 < n.val) ∧ (¬x.val < 256 → x.val < 384 → n.val < 31) :=
  ⟨fun g => ((seen_before n r x g).1 h).1, fun g g' => ((seen_after n r x g g').1 h).1⟩

end Cert.AttnStored
-- ==== Proof.AttnEntry.lean ====
/- What the kernel stores for one block of queries is the attention of those queries. -/
module

public import proofs.«01_k».proof.Proof.AttnStored

@[expose] public section

set_option maxRecDepth 16384

noncomputable section

open Idealize.ShloMosaic Idealize.ShloMosaic.TcCoe Idealize.SL.Sem

namespace Cert.AttnEntry

open Cert.AttnIdeal Cert.AttnIdeal.Gen Cert.AttnBlock Cert.AttnMath Cert.AttnSpec Cert.AttnRow Cert.AttnHeads Cert.AttnStored

section
variable (Q : Fin 8 → Fin 4096 → Fin 8 → Fin 64 → EReal) (K V : Fin 8 → Fin 4096 → Fin 2 → Fin 64 → EReal) (KC VC : Fin 8 → Fin 256 → Fin 2 → Fin 64 → EReal) (S : Fin 8 → EReal)
  (b : Fin 8)

theorem lane_lt (k : ℕ) (hk : k ≤ 448) (d : Fin 64) : k + d.val < 512 := by omega

/-- One head's attention in the kernel is the entry of the attention, where its queries, keys, values and sink are. -/
theorem head_entry (n : Fin 32) (r : Fin 128) (h : Fin 2) (g : Fin 4) (d : Fin 64) (q : FVec Ideal S128x512 .bf16) (keys vals : FVec Ideal S640x128 .bf16)
    (a a' : Fin 64 → ℕ) (ha : ∀ e, a e < 512) (ha' : ∀ e, a' e < 128) (l : Fin 128) (s : EReal)
    (hq : ∀ e, q (ix2 r ⟨a e, ha e⟩) = Q b ⟨128 * n.val + r.val, by omega⟩ ⟨4 * h.val + g.val, by omega⟩ e * Ideal.ofBits .f32 0x3E000000#32)
    (hk : ∀ x, seen n r x → ∀ e, keys (ix2 x ⟨a' e, ha' e⟩) = entryAt K KC b n h x e)
    (hv : ∀ x, seen n r x → vals (ix2 x l) = entryAt V VC b n h x d)
    (hs : s = S ⟨4 * h.val + g.val, by omega⟩) :
    attend (headScores n q r keys a a' ha ha') (fun x => vals (ix2 x l)) s = entry Q K V KC VC S b n r h g d := by
  have e : headScores n q r keys a a' ha ha' = score Q K KC b n r h g := by
    funext x
    unfold headScores score
    by_cases hx : seen n r x
    · rw [if_pos hx, if_pos hx]
      exact Finset.sum_congr rfl fun y _ => by rw [hq, hk x hx]
    · rw [if_neg hx, if_neg hx]
  unfold entry
  rw [e, hs]
  refine attend_congr _ _ _ _ fun x hx => hv x ?_
  by_contra hn
  exact hx (if_neg hn)

/-- An entry of what the kernel stores for a block. -/
theorem stored_apply (i : grid0.Coords) (w : Fin 8) (n : Fin 32) (hn : n.val = 8 * (i 1).val + w.val) (sink : S8.Idx → Elt Ideal .f32) (q : Vec Ideal S1x128x512 .bf16)
    (kk vv : S1x4096x256.Idx → Elt Ideal .bf16) (kkc vvc : S1x256x256.Idx → Elt Ideal .bf16)
    (h1 : ∀ a, k0_off1 i (BitVec.ofNat 32 w.val) a + S1x128x128.size a ≤ S1x4096x256.size a) (h2 : ∀ a, k0_off2 i (BitVec.ofNat 32 w.val) a + S1x128x128.size a ≤ S1x4096x256.size a)
    (h3 : ∀ a, k0_off3 i (BitVec.ofNat 32 w.val) a + S1x128x128.size a ≤ S1x4096x256.size a) (h4 : ∀ a, k0_off4 i (BitVec.ofNat 32 w.val) a + S1x128x128.size a ≤ S1x4096x256.size a)
    (h5 : ∀ a, k0_off5 i (BitVec.ofNat 32 w.val) a + S1x128x128.size a ≤ S1x4096x256.size a) (h6 : ∀ a, k0_off6 i (BitVec.ofNat 32 w.val) a + S1x128x128.size a ≤ S1x4096x256.size a)
    (hQ : ∀ (r : Fin 128) (l : Fin 512), q (ix3 0 r l) = Q b ⟨128 * n.val + r.val, by omega⟩ ⟨l.val / 64, by omega⟩ ⟨l.val % 64, by omega⟩ * Ideal.ofBits .f32 0x3E000000#32)
    (hK : ∀ (t : Fin 4096) (l : Fin 256), kk (ix3 0 t l) = K b t ⟨l.val / 128, by omega⟩ ⟨l.val % 64, by omega⟩)
    (hV : ∀ (t : Fin 4096) (l : Fin 256), vv (ix3 0 t l) = V b t ⟨l.val / 128, by omega⟩ ⟨l.val % 64, by omega⟩)
    (hKC : ∀ (t : Fin 256) (l : Fin 256), kkc (ix3 0 t l) = KC b t ⟨l.val / 128, by omega⟩ ⟨l.val % 64, by omega⟩)
    (hVC : ∀ (t : Fin 256) (l : Fin 256), vvc (ix3 0 t l) = VC b t ⟨l.val / 128, by omega⟩ ⟨l.val % 64, by omega⟩)
    (hS : ∀ j : Fin 8, sink (ix1 j) = S j) (r : Fin 128) (c : Fin 512) :
    stored i (BitVec.ofNat 32 w.val) sink q kk vv kkc vvc h1 h2 h3 h4 h5 h6 (ix3 0 r c)
      = entry Q K V KC VC S b n r ⟨c.val / 256, by omega⟩ ⟨c.val / 64 % 4, by omega⟩ ⟨c.val % 64, by omega⟩ := by
  have hc := c.isLt
  unfold stored
  rw [block_word, ← hn]
  have c8 : c.val / 64 = 0 ∨ c.val / 64 = 1 ∨ c.val / 64 = 2 ∨ c.val / 64 = 3 ∨ c.val / 64 = 4 ∨ c.val / 64 = 5 ∨ c.val / 64 = 6 ∨ c.val / 64 = 7 := by omega
  have o1 := (off1_eq i w).trans (by rw [← hn] : _ = ![0, 128 * (n.val - 1), 0])
  have o2 := (off2_eq i w).trans (by rw [← hn] : _ = ![0, 128 * n.val, 0])
  have o3 := (off3_eq i w).trans (by rw [← hn] : _ = ![0, 128 * min (n.val + 1) 31, 0])
  have o4 := (off4_eq i w).trans (by rw [← hn] : _ = ![0, 128 * (n.val - 1), 128])
  have o5 := (off5_eq i w).trans (by rw [← hn] : _ = ![0, 128 * n.val, 128])
  have o6 := (off6_eq i w).trans (by rw [← hn] : _ = ![0, 128 * min (n.val + 1) 31, 128])
  have hq : ∀ (a : Fin 64 → ℕ) (ha : ∀ e, a e < 512) (hd : Fin 8), (∀ e, a e = 64 * hd.val + e.val) →
      ∀ e : Fin 64, k0_pay2 q (ix2 r ⟨a e, ha e⟩) = Q b ⟨128 * n.val + r.val, by omega⟩ hd e * Ideal.ofBits .f32 0x3E000000#32 := fun a ha hd he e => by
    have h := he e
    have h' := e.isLt
    rw [queries_apply, hQ]
    have e1 : (⟨a e / 64, by have := ha e; omega⟩ : Fin 8) = hd := Fin.ext (by show a e / 64 = hd.val; omega)
    have e2 : (⟨a e % 64, by omega⟩ : Fin 64) = e := Fin.ext (by show a e % 64 = e.val; omega)
    show Q b _ ⟨a e / 64, _⟩ ⟨a e % 64, _⟩ * _ = _
    rw [e1, e2]
  have lane : ∀ (T : Fin 8 → Fin 4096 → Fin 2 → Fin 64 → EReal) (C : Fin 8 → Fin 256 → Fin 2 → Fin 64 → EReal) (h : Fin 2) (x : Fin 640) (e e' : Fin 64), e.val = e'.val → entryAt T C b n h x e = entryAt T C b n h x e' :=
    fun T C h x e e' he => by rw [Fin.ext he]
  rcases c8 with h | h | h | h | h | h | h | h
  · obtain ⟨d, rfl⟩ : ∃ d : Fin 64, c = ⟨0 + d.val, lane_lt 0 (by decide) d⟩ := ⟨⟨c.val % 64, by omega⟩, Fin.ext (by show c.val = 0 + c.val % 64; omega)⟩
    have hd := d.isLt
    have eh : (⟨(0 + d.val) / 256, by omega⟩ : Fin 2) = 0 := Fin.ext (by show (0 + d.val) / 256 = 0; omega)
    have eg : (⟨(0 + d.val) / 64 % 4, by omega⟩ : Fin 4) = 0 := Fin.ext (by show (0 + d.val) / 64 % 4 = 0; omega)
    have ed : (⟨(0 + d.val) % 64, by omega⟩ : Fin 64) = d := Fin.ext (by show (0 + d.val) % 64 = d.val; omega)
    refine (block_head0 n _ _ _ _ _ _ _ _ _ _ _ _ _ r d).trans ?_
    show _ = entry Q K V KC VC S b n r ⟨(0 + d.val) / 256, _⟩ ⟨(0 + d.val) / 64 % 4, _⟩ ⟨(0 + d.val) % 64, _⟩
    rw [eh, eg, ed]
    refine head_entry Q K V KC VC S b n r 0 0 d _ _ _ _ _ _ _ _ _ (hq _ _ _ fun e => rfl) (fun x hx e => ?_) (fun x hx => ?_) ?_
    · exact (keys_apply K KC b n 0 kk kkc hK hKC _ _ _ _ _ _ _ _ 0 rfl o1 o2 o3 rfl x _ (seen_inside n r x hx).1 (seen_inside n r x hx).2).trans
        (lane K KC 0 x _ _ (by show (e.val) % 64 = e.val; omega))
    · exact (keys_apply V VC b n 0 vv vvc hV hVC _ _ _ _ _ _ _ _ 0 rfl o1 o2 o3 rfl x _ (seen_inside n r x hx).1 (seen_inside n r x hx).2).trans
        (lane V VC 0 x _ _ (by show (d.val) % 64 = d.val; omega))
    · exact (lds_apply sink _ _ 0 rfl).trans (hS 0)
  · obtain ⟨d, rfl⟩ : ∃ d : Fin 64, c = ⟨64 + d.val, lane_lt 64 (by decide) d⟩ := ⟨⟨c.val % 64, by omega⟩, Fin.ext (by show c.val = 64 + c.val % 64; omega)⟩
    have hd := d.isLt
    have eh : (⟨(64 + d.val) / 256, by omega⟩ : Fin 2) = 0 := Fin.ext (by show (64 + d.val) / 256 = 0; omega)
    have eg : (⟨(64 + d.val) / 64 % 4, by omega⟩ : Fin 4) = 1 := Fin.ext (by show (64 + d.val) / 64 % 4 = 1; omega)
    have ed : (⟨(64 + d.val) % 64, by omega⟩ : Fin 64) = d := Fin.ext (by show (64 + d.val) % 64 = d.val; omega)
    refine (block_head1 n _ _ _ _ _ _ _ _ _ _ _ _ _ r d).trans ?_
    show _ = entry Q K V KC VC S b n r ⟨(64 + d.val) / 256, _⟩ ⟨(64 + d.val) / 64 % 4, _⟩ ⟨(64 + d.val) % 64, _⟩
    rw [eh, eg, ed]
    refine head_entry Q K V KC VC S b n r 0 1 d _ _ _ _ _ _ _ _ _ (hq _ _ _ fun e => rfl) (fun x hx e => ?_) (fun x hx => ?_) ?_
    · exact (keys_apply K KC b n 0 kk kkc hK hKC _ _ _ _ _ _ _ _ 0 rfl o1 o2 o3 rfl x _ (seen_inside n r x hx).1 (seen_inside n r x hx).2).trans
        (lane K KC 0 x _ _ (by show (64 + e.val) % 64 = e.val; omega))
    · exact (keys_apply V VC b n 0 vv vvc hV hVC _ _ _ _ _ _ _ _ 0 rfl o1 o2 o3 rfl x _ (seen_inside n r x hx).1 (seen_inside n r x hx).2).trans
        (lane V VC 0 x _ _ (by show (64 + d.val) % 64 = d.val; omega))
    · exact (lds_apply sink _ _ 1 rfl).trans (hS 1)
  · obtain ⟨d, rfl⟩ : ∃ d : Fin 64, c = ⟨128 + d.val, lane_lt 128 (by decide) d⟩ := ⟨⟨c.val % 64, by omega⟩, Fin.ext (by show c.val = 128 + c.val % 64; omega)⟩
    have hd := d.isLt
    have eh : (⟨(128 + d.val) / 256, by omega⟩ : Fin 2) = 0 := Fin.ext (by show (128 + d.val) / 256 = 0; omega)
    have eg : (⟨(128 + d.val) / 64 % 4, by omega⟩ : Fin 4) = 2 := Fin.ext (by show (128 + d.val) / 64 % 4 = 2; omega)
    have ed : (⟨(128 + d.val) % 64, by omega⟩ : Fin 64) = d := Fin.ext (by show (128 + d.val) % 64 = d.val; omega)
    refine (block_head2 n _ _ _ _ _ _ _ _ _ _ _ _ _ r d).trans ?_
    show _ = entry Q K V KC VC S b n r ⟨(128 + d.val) / 256, _⟩ ⟨(128 + d.val) / 64 % 4, _⟩ ⟨(128 + d.val) % 64, _⟩
    rw [eh, eg, ed]
    refine head_entry Q K V KC VC S b n r 0 2 d _ _ _ _ _ _ _ _ _ (hq _ _ _ fun e => rfl) (fun x hx e => ?_) (fun x hx => ?_) ?_
    · exact (keys_apply K KC b n 0 kk kkc hK hKC _ _ _ _ _ _ _ _ 0 rfl o1 o2 o3 rfl x _ (seen_inside n r x hx).1 (seen_inside n r x hx).2).trans
        (lane K KC 0 x _ _ (by show (e.val) % 64 = e.val; omega))
    · exact (keys_apply V VC b n 0 vv vvc hV hVC _ _ _ _ _ _ _ _ 0 rfl o1 o2 o3 rfl x _ (seen_inside n r x hx).1 (seen_inside n r x hx).2).trans
        (lane V VC 0 x _ _ (by show (d.val) % 64 = d.val; omega))
    · exact (lds_apply sink _ _ 2 rfl).trans (hS 2)
  · obtain ⟨d, rfl⟩ : ∃ d : Fin 64, c = ⟨192 + d.val, lane_lt 192 (by decide) d⟩ := ⟨⟨c.val % 64, by omega⟩, Fin.ext (by show c.val = 192 + c.val % 64; omega)⟩
    have hd := d.isLt
    have eh : (⟨(192 + d.val) / 256, by omega⟩ : Fin 2) = 0 := Fin.ext (by show (192 + d.val) / 256 = 0; omega)
    have eg : (⟨(192 + d.val) / 64 % 4, by omega⟩ : Fin 4) = 3 := Fin.ext (by show (192 + d.val) / 64 % 4 = 3; omega)
    have ed : (⟨(192 + d.val) % 64, by omega⟩ : Fin 64) = d := Fin.ext (by show (192 + d.val) % 64 = d.val; omega)
    refine (block_head3 n _ _ _ _ _ _ _ _ _ _ _ _ _ r d).trans ?_
    show _ = entry Q K V KC VC S b n r ⟨(192 + d.val) / 256, _⟩ ⟨(192 + d.val) / 64 % 4, _⟩ ⟨(192 + d.val) % 64, _⟩
    rw [eh, eg, ed]
    refine head_entry Q K V KC VC S b n r 0 3 d _ _ _ _ _ _ _ _ _ (hq _ _ _ fun e => rfl) (fun x hx e => ?_) (fun x hx => ?_) ?_
    · exact (keys_apply K KC b n 0 kk kkc hK hKC _ _ _ _ _ _ _ _ 0 rfl o1 o2 o3 rfl x _ (seen_inside n r x hx).1 (seen_inside n r x hx).2).trans
        (lane K KC 0 x _ _ (by show (64 + e.val) % 64 = e.val; omega))
    · exact (keys_apply V VC b n 0 vv vvc hV hVC _ _ _ _ _ _ _ _ 0 rfl o1 o2 o3 rfl x _ (seen_inside n r x hx).1 (seen_inside n r x hx).2).trans
        (lane V VC 0 x _ _ (by show (64 + d.val) % 64 = d.val; omega))
    · exact (lds_apply sink _ _ 3 rfl).trans (hS 3)
  · obtain ⟨d, rfl⟩ : ∃ d : Fin 64, c = ⟨256 + d.val, lane_lt 256 (by decide) d⟩ := ⟨⟨c.val % 64, by omega⟩, Fin.ext (by show c.val = 256 + c.val % 64; omega)⟩
    have hd := d.isLt
    have eh : (⟨(256 + d.val) / 256, by omega⟩ : Fin 2) = 1 := Fin.ext (by show (256 + d.val) / 256 = 1; omega)
    have eg : (⟨(256 + d.val) / 64 % 4, by omega⟩ : Fin 4) = 0 := Fin.ext (by show (256 + d.val) / 64 % 4 = 0; omega)
    have ed : (⟨(256 + d.val) % 64, by omega⟩ : Fin 64) = d := Fin.ext (by show (256 + d.val) % 64 = d.val; omega)
    refine (block_head4 n _ _ _ _ _ _ _ _ _ _ _ _ _ r d).trans ?_
    show _ = entry Q K V KC VC S b n r ⟨(256 + d.val) / 256, _⟩ ⟨(256 + d.val) / 64 % 4, _⟩ ⟨(256 + d.val) % 64, _⟩
    rw [eh, eg, ed]
    refine head_entry Q K V KC VC S b n r 1 0 d _ _ _ _ _ _ _ _ _ (hq _ _ _ fun e => rfl) (fun x hx e => ?_) (fun x hx => ?_) ?_
    · exact (keys_apply K KC b n 1 kk kkc hK hKC _ _ _ _ _ _ _ _ 128 rfl o4 o5 o6 rfl x _ (seen_inside n r x hx).1 (seen_inside n r x hx).2).trans
        (lane K KC 1 x _ _ (by show (e.val) % 64 = e.val; omega))
    · exact (keys_apply V VC b n 1 vv vvc hV hVC _ _ _ _ _ _ _ _ 128 rfl o4 o5 o6 rfl x _ (seen_inside n r x hx).1 (seen_inside n r x hx).2).trans
        (lane V VC 1 x _ _ (by show (d.val) % 64 = d.val; omega))
    · exact (lds_apply sink _ _ 4 rfl).trans (hS 4)
  · obtain ⟨d, rfl⟩ : ∃ d : Fin 64, c = ⟨320 + d.val, lane_lt 320 (by decide) d⟩ := ⟨⟨c.val % 64, by omega⟩, Fin.ext (by show c.val = 320 + c.val % 64; omega)⟩
    have hd := d.isLt
    have eh : (⟨(320 + d.val) / 256, by omega⟩ : Fin 2) = 1 := Fin.ext (by show (320 + d.val) / 256 = 1; omega)
    have eg : (⟨(320 + d.val) / 64 % 4, by omega⟩ : Fin 4) = 1 := Fin.ext (by show (320 + d.val) / 64 % 4 = 1; omega)
    have ed : (⟨(320 + d.val) % 64, by omega⟩ : Fin 64) = d := Fin.ext (by show (320 + d.val) % 64 = d.val; omega)
    refine (block_head5 n _ _ _ _ _ _ _ _ _ _ _ _ _ r d).trans ?_
    show _ = entry Q K V KC VC S b n r ⟨(320 + d.val) / 256, _⟩ ⟨(320 + d.val) / 64 % 4, _⟩ ⟨(320 + d.val) % 64, _⟩
    rw [eh, eg, ed]
    refine head_entry Q K V KC VC S b n r 1 1 d _ _ _ _ _ _ _ _ _ (hq _ _ _ fun e => rfl) (fun x hx e => ?_) (fun x hx => ?_) ?_
    · exact (keys_apply K KC b n 1 kk kkc hK hKC _ _ _ _ _ _ _ _ 128 rfl o4 o5 o6 rfl x _ (seen_inside n r x hx).1 (seen_inside n r x hx).2).trans
        (lane K KC 1 x _ _ (by show (64 + e.val) % 64 = e.val; omega))
    · exact (keys_apply V VC b n 1 vv vvc hV hVC _ _ _ _ _ _ _ _ 128 rfl o4 o5 o6 rfl x _ (seen_inside n r x hx).1 (seen_inside n r x hx).2).trans
        (lane V VC 1 x _ _ (by show (64 + d.val) % 64 = d.val; omega))
    · exact (lds_apply sink _ _ 5 rfl).trans (hS 5)
  · obtain ⟨d, rfl⟩ : ∃ d : Fin 64, c = ⟨384 + d.val, lane_lt 384 (by decide) d⟩ := ⟨⟨c.val % 64, by omega⟩, Fin.ext (by show c.val = 384 + c.val % 64; omega)⟩
    have hd := d.isLt
    have eh : (⟨(384 + d.val) / 256, by omega⟩ : Fin 2) = 1 := Fin.ext (by show (384 + d.val) / 256 = 1; omega)
    have eg : (⟨(384 + d.val) / 64 % 4, by omega⟩ : Fin 4) = 2 := Fin.ext (by show (384 + d.val) / 64 % 4 = 2; omega)
    have ed : (⟨(384 + d.val) % 64, by omega⟩ : Fin 64) = d := Fin.ext (by show (384 + d.val) % 64 = d.val; omega)
    refine (block_head6 n _ _ _ _ _ _ _ _ _ _ _ _ _ r d).trans ?_
    show _ = entry Q K V KC VC S b n r ⟨(384 + d.val) / 256, _⟩ ⟨(384 + d.val) / 64 % 4, _⟩ ⟨(384 + d.val) % 64, _⟩
    rw [eh, eg, ed]
    refine head_entry Q K V KC VC S b n r 1 2 d _ _ _ _ _ _ _ _ _ (hq _ _ _ fun e => rfl) (fun x hx e => ?_) (fun x hx => ?_) ?_
    · exact (keys_apply K KC b n 1 kk kkc hK hKC _ _ _ _ _ _ _ _ 128 rfl o4 o5 o6 rfl x _ (seen_inside n r x hx).1 (seen_inside n r x hx).2).trans
        (lane K KC 1 x _ _ (by show (e.val) % 64 = e.val; omega))
    · exact (keys_apply V VC b n 1 vv vvc hV hVC _ _ _ _ _ _ _ _ 128 rfl o4 o5 o6 rfl x _ (seen_inside n r x hx).1 (seen_inside n r x hx).2).trans
        (lane V VC 1 x _ _ (by show (d.val) % 64 = d.val; omega))
    · exact (lds_apply sink _ _ 6 rfl).trans (hS 6)
  · obtain ⟨d, rfl⟩ : ∃ d : Fin 64, c = ⟨448 + d.val, lane_lt 448 (by decide) d⟩ := ⟨⟨c.val % 64, by omega⟩, Fin.ext (by show c.val = 448 + c.val % 64; omega)⟩
    have hd := d.isLt
    have eh : (⟨(448 + d.val) / 256, by omega⟩ : Fin 2) = 1 := Fin.ext (by show (448 + d.val) / 256 = 1; omega)
    have eg : (⟨(448 + d.val) / 64 % 4, by omega⟩ : Fin 4) = 3 := Fin.ext (by show (448 + d.val) / 64 % 4 = 3; omega)
    have ed : (⟨(448 + d.val) % 64, by omega⟩ : Fin 64) = d := Fin.ext (by show (448 + d.val) % 64 = d.val; omega)
    refine (block_head7 n _ _ _ _ _ _ _ _ _ _ _ _ _ r d).trans ?_
    show _ = entry Q K V KC VC S b n r ⟨(448 + d.val) / 256, _⟩ ⟨(448 + d.val) / 64 % 4, _⟩ ⟨(448 + d.val) % 64, _⟩
    rw [eh, eg, ed]
    refine head_entry Q K V KC VC S b n r 1 3 d _ _ _ _ _ _ _ _ _ (hq _ _ _ fun e => rfl) (fun x hx e => ?_) (fun x hx => ?_) ?_
    · exact (keys_apply K KC b n 1 kk kkc hK hKC _ _ _ _ _ _ _ _ 128 rfl o4 o5 o6 rfl x _ (seen_inside n r x hx).1 (seen_inside n r x hx).2).trans
        (lane K KC 1 x _ _ (by show (64 + e.val) % 64 = e.val; omega))
    · exact (keys_apply V VC b n 1 vv vvc hV hVC _ _ _ _ _ _ _ _ 128 rfl o4 o5 o6 rfl x _ (seen_inside n r x hx).1 (seen_inside n r x hx).2).trans
        (lane V VC 1 x _ _ (by show (64 + d.val) % 64 = d.val; omega))
    · exact (lds_apply sink _ _ 7 rfl).trans (hS 7)

end

end Cert.AttnEntry
-- ==== Proof.AttnStaged.lean ====
/- What the call stages at each grid point: the blocks of its operands, and the sinks, at an index. -/
module

public import proofs.«01_k».proof.Proof.AttnEntry

@[expose] public section

set_option maxRecDepth 16384

noncomputable section

open Idealize.ShloMosaic Idealize.ShloMosaic.TcCoe Idealize.SL.Sem
open Idealize.ShloMosaic.Pipeline (Dat)

namespace Cert.AttnStaged

open Cert.AttnIdeal Cert.AttnIdeal.Gen Cert.AttnBlock Cert.AttnMath Cert.AttnSpec Cert.AttnStored Cert.AttnEntry

/-- The block each window reads or writes at a grid point. -/
theorem idx : ∀ t : Fin cfg0.N, win0_0.index t = ![0]
    ∧ win0_1.index t = ![(grid0.coords t 0).val, (grid0.coords t 1).val, 0]
    ∧ win0_2.index t = ![(grid0.coords t 0).val, 0, 0]
    ∧ win0_3.index t = ![(grid0.coords t 0).val, 0, 0]
    ∧ win0_4.index t = ![(grid0.coords t 0).val, 0, 0]
    ∧ win0_5.index t = ![(grid0.coords t 0).val, 0, 0]
    ∧ win0_6.index t = ![(grid0.coords t 0).val, (grid0.coords t 1).val, 0] :=
  (by decide +kernel : ∀ t : Fin grid0.N, _)

variable (m : (ℓ : Loc nD τ sig) → Buf (Elt Ideal) ℓ) (c : Dev nD) (t : Fin cfg0.N)

/-- The staged blocks at an index. -/
theorem q_block (r : Fin 1024) (l : Fin 512) (h : 1024 * (grid0.coords t 1).val + r.val < 4096) :
    iblk m c 1 t (ix3 0 r l) = V m c main_v3 (ix3 (grid0.coords t 0) ⟨1024 * (grid0.coords t 1).val + r.val, h⟩ l) := by
  obtain ⟨h0, h1, h2, h3, h4, h5, h6⟩ := idx t
  unfold iblk
  blk_simp
  generalize V m c main_v3 = X
  blk_ext [h1]

theorem k_block (r : Fin 4096) (l : Fin 256) : iblk m c 2 t (ix3 0 r l) = V m c main_v6 (ix3 (grid0.coords t 0) r l) := by
  obtain ⟨h0, h1, h2, h3, h4, h5, h6⟩ := idx t
  unfold iblk
  blk_simp
  generalize V m c main_v6 = X
  blk_ext [h2]

theorem v_block (r : Fin 4096) (l : Fin 256) : iblk m c 3 t (ix3 0 r l) = V m c main_v9 (ix3 (grid0.coords t 0) r l) := by
  obtain ⟨h0, h1, h2, h3, h4, h5, h6⟩ := idx t
  unfold iblk
  blk_simp
  generalize V m c main_v9 = X
  blk_ext [h3]

theorem kc_block (r : Fin 256) (l : Fin 256) : iblk m c 4 t (ix3 0 r l) = V m c main_v12 (ix3 (grid0.coords t 0) r l) := by
  obtain ⟨h0, h1, h2, h3, h4, h5, h6⟩ := idx t
  unfold iblk
  blk_simp
  generalize V m c main_v12 = X
  blk_ext [h4]

theorem vc_block (r : Fin 256) (l : Fin 256) : iblk m c 5 t (ix3 0 r l) = V m c main_v15 (ix3 (grid0.coords t 0) r l) := by
  obtain ⟨h0, h1, h2, h3, h4, h5, h6⟩ := idx t
  unfold iblk
  blk_simp
  generalize V m c main_v15 = X
  blk_ext [h5]

theorem s_block (j : Fin 8) : iblk m c 0 t (ix1 j) = m ((c.tc : Thread nD τ).loc main_arg5) (ix1 j) := by
  obtain ⟨h0, h1, h2, h3, h4, h5, h6⟩ := idx t
  unfold iblk
  blk_simp
  rw [V_main_arg5]
  blk_ext [h0]

end Cert.AttnStaged
-- ==== Proof.AttnKernel.lean ====
/- What the kernel computes: its result array is the attention, entry by entry. -/
module

public import proofs.«01_k».proof.Proof.AttnStaged

@[expose] public section

set_option maxRecDepth 16384

noncomputable section

open Idealize.ShloMosaic Idealize.ShloMosaic.TcCoe Idealize.SL.Sem
open Idealize.ShloMosaic.Pipeline (Dat)

namespace Cert.AttnKernel

open Cert.AttnIdeal Cert.AttnIdeal.Gen Cert.AttnBlock Cert.AttnMath Cert.AttnSpec Cert.AttnStored Cert.AttnEntry Cert.AttnStaged

/-- The attention's array, from the call's six arguments. -/
def G (x0 : S8x4096x8x64.Idx → EReal) (x1 x2 : S8x4096x2x64.Idx → EReal) (x3 x4 : S8x256x2x64.Idx → EReal) (x5 : S8.Idx → EReal) : S8x4096x512.Idx → EReal := fun i =>
  entry (fun b t h e => x0 (ix4 b t h e)) (fun b t h e => x1 (ix4 b t h e)) (fun b t h e => x2 (ix4 b t h e)) (fun b t h e => x3 (ix4 b t h e)) (fun b t h e => x4 (ix4 b t h e))
    (fun j => x5 (ix1 j)) (i 0) ⟨(i 1).val / 128, by have : (i 1).val < 4096 := (i 1).isLt; omega⟩ ⟨(i 1).val % 128, by omega⟩
    ⟨(i 2).val / 256, by have : (i 2).val < 512 := (i 2).isLt; omega⟩ ⟨(i 2).val / 64 % 4, by omega⟩ ⟨(i 2).val % 64, by omega⟩

/-- The attention's array, from the call's memory. -/
def A (m : (ℓ : Loc nD τ sig) → Buf (Elt Ideal) ℓ) (c : Dev nD) : S8x4096x512.Idx → EReal :=
  G (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5))

theorem A_apply (m : (ℓ : Loc nD τ sig) → Buf (Elt Ideal) ℓ) (c : Dev nD) (b : Fin 8) (n : Fin 32) (r : Fin 128) (t : Fin 4096) (l : Fin 512) (ht : t.val = 128 * n.val + r.val) :
    entry (fun b t h e => m ((c.tc : Thread nD τ).loc main_arg0) (ix4 b t h e)) (fun b t h e => m ((c.tc : Thread nD τ).loc main_arg1) (ix4 b t h e))
      (fun b t h e => m ((c.tc : Thread nD τ).loc main_arg2) (ix4 b t h e)) (fun b t h e => m ((c.tc : Thread nD τ).loc main_arg3) (ix4 b t h e))
      (fun b t h e => m ((c.tc : Thread nD τ).loc main_arg4) (ix4 b t h e)) (fun j => m ((c.tc : Thread nD τ).loc main_arg5) (ix1 j)) b n r ⟨l.val / 256, by omega⟩ ⟨l.val / 64 % 4, by omega⟩ ⟨l.val % 64, by omega⟩
      = A m c (ix3 b t l) := by
  have e1 : n = (⟨t.val / 128, by omega⟩ : Fin 32) := Fin.ext (by show n.val = t.val / 128; omega)
  have e2 : r = (⟨t.val % 128, by omega⟩ : Fin 128) := Fin.ext (by show r.val = t.val % 128; omega)
  unfold A G
  exact congrArg₂ (fun n r => entry (fun b t h e => m ((c.tc : Thread nD τ).loc main_arg0) (ix4 b t h e)) (fun b t h e => m ((c.tc : Thread nD τ).loc main_arg1) (ix4 b t h e))
      (fun b t h e => m ((c.tc : Thread nD τ).loc main_arg2) (ix4 b t h e)) (fun b t h e => m ((c.tc : Thread nD τ).loc main_arg3) (ix4 b t h e))
      (fun b t h e => m ((c.tc : Thread nD τ).loc main_arg4) (ix4 b t h e)) (fun j => m ((c.tc : Thread nD τ).loc main_arg5) (ix1 j)) b n r ⟨l.val / 256, by omega⟩ ⟨l.val / 64 % 4, by omega⟩ ⟨l.val % 64, by omega⟩) e1 e2

theorem ldq_apply (X : S1x1024x512.Idx → Elt Ideal .bf16) (o : ℕ) (inb : ∀ a, (![0, o, 0] : Fin 3 → ℕ) a + S1x128x512.size a ≤ S1x1024x512.size a)
    (r : Fin 128) (l : Fin 512) (h : o + r.val < 1024) : ldq X ![0, o, 0] inb (ix3 0 r l) = X (ix3 0 ⟨o + r.val, h⟩ l) := by
  unfold ldq
  rw [View.ld_apply]
  pointwise

/-- What the kernel stores for block `w` of a grid point is the attention of that block's queries. -/
theorem piece (m : (ℓ : Loc nD τ sig) → Buf (Elt Ideal) ℓ) (c : Dev nD) (t : Fin cfg0.N) (w : Fin 8) (o : ℕ) (ho : o = 128 * w.val)
    (inb : ∀ a, (![0, o, 0] : Fin 3 → ℕ) a + S1x128x512.size a ≤ S1x1024x512.size a)
    (h1 : ∀ a, k0_off1 (grid0.coords t) (BitVec.ofNat 32 w.val) a + S1x128x128.size a ≤ S1x4096x256.size a)
    (h2 : ∀ a, k0_off2 (grid0.coords t) (BitVec.ofNat 32 w.val) a + S1x128x128.size a ≤ S1x4096x256.size a)
    (h3 : ∀ a, k0_off3 (grid0.coords t) (BitVec.ofNat 32 w.val) a + S1x128x128.size a ≤ S1x4096x256.size a)
    (h4 : ∀ a, k0_off4 (grid0.coords t) (BitVec.ofNat 32 w.val) a + S1x128x128.size a ≤ S1x4096x256.size a)
    (h5 : ∀ a, k0_off5 (grid0.coords t) (BitVec.ofNat 32 w.val) a + S1x128x128.size a ≤ S1x4096x256.size a)
    (h6 : ∀ a, k0_off6 (grid0.coords t) (BitVec.ofNat 32 w.val) a + S1x128x128.size a ≤ S1x4096x256.size a)
    (r : Fin 128) (l : Fin 512) (hb : 1024 * (grid0.coords t 1).val + o + r.val < 4096) :
    stored (grid0.coords t) (BitVec.ofNat 32 w.val) (iblk m c 0 t) (ldq (iblk m c 1 t) ![0, o, 0] inb) (iblk m c 2 t) (iblk m c 3 t) (iblk m c 4 t) (iblk m c 5 t)
        h1 h2 h3 h4 h5 h6 (ix3 0 r l)
      = A m c (ix3 (grid0.coords t 0) ⟨1024 * (grid0.coords t 1).val + o + r.val, hb⟩ l) := by
  have hi : (grid0.coords t 1).val < 4 := (grid0.coords t 1).isLt
  have hw := w.isLt
  have hr := r.isLt
  refine (stored_apply (fun b t h e => m ((c.tc : Thread nD τ).loc main_arg0) (ix4 b t h e)) (fun b t h e => m ((c.tc : Thread nD τ).loc main_arg1) (ix4 b t h e))
    (fun b t h e => m ((c.tc : Thread nD τ).loc main_arg2) (ix4 b t h e)) (fun b t h e => m ((c.tc : Thread nD τ).loc main_arg3) (ix4 b t h e))
    (fun b t h e => m ((c.tc : Thread nD τ).loc main_arg4) (ix4 b t h e)) (fun j => m ((c.tc : Thread nD τ).loc main_arg5) (ix1 j)) (grid0.coords t 0) (grid0.coords t) w
    ⟨8 * (grid0.coords t 1).val + w.val, by omega⟩ rfl _ _ _ _ _ _ h1 h2 h3 h4 h5 h6 (fun r l => ?_)
    (fun u l => (k_block m c t u l).trans (k_operand m c _ u l)) (fun u l => (v_block m c t u l).trans (v_operand m c _ u l))
    (fun u l => (kc_block m c t u l).trans (kc_operand m c _ u l)) (fun u l => (vc_block m c t u l).trans (vc_operand m c _ u l)) (fun j => s_block m c t j) r l).trans ?_
  · have hr := r.isLt
    refine (ldq_apply _ _ _ _ _ (by omega)).trans ((q_block m c t _ _ (by show _ + (o + r.val) < 4096; omega)).trans ((q_operand m c _ _ _).trans ?_))
    have e : (⟨1024 * (grid0.coords t 1).val + (o + r.val), by omega⟩ : Fin 4096) = ⟨128 * (8 * (grid0.coords t 1).val + w.val) + r.val, by omega⟩ := Fin.ext (by show 1024 * (grid0.coords t 1).val + (o + r.val) = 128 * (8 * (grid0.coords t 1).val + w.val) + r.val; omega)
    exact congrArg (fun u => HMul.hMul (α := EReal) (β := EReal) (γ := EReal) (m ((c.tc : Thread nD τ).loc main_arg0) (ix4 (grid0.coords t 0) u ⟨l.val / 64, by omega⟩ ⟨l.val % 64, by omega⟩)) (Ideal.ofBits .f32 0x3E000000#32)) e
  · exact A_apply m c _ ⟨8 * (grid0.coords t 1).val + w.val, by omega⟩ r _ _ (by show 1024 * (grid0.coords t 1).val + o + r.val = 128 * (8 * (grid0.coords t 1).val + w.val) + r.val; omega)

/-- Where the result's window lies: an index of its block, in the whole array. -/
theorem place (t : Fin cfg0.N) (X : S8x4096x512.Idx → EReal) (y : S1x1024x512.Idx) (u : ℕ) (l : Fin 512) (hu : (y 1).val = u) (h2 : (y 2).val = l.val)
    (hb : 1024 * (grid0.coords t 1).val + u < 4096) :
    X (((View.whole main_v16).slice (win0_6.rect t)).emb y) = X (ix3 (grid0.coords t 0) ⟨1024 * (grid0.coords t 1).val + u, hb⟩ l) := by
  obtain ⟨_, _, _, _, _, _, h6⟩ := idx t
  have h0 : (y 0).val < 1 := (y 0).isLt
  subst hu
  blk_ext [h6, h2]

set_option maxHeartbeats 2000000 in
/-- The result array is the attention's. -/
theorem final (m : (ℓ : Loc nD τ sig) → Buf (Elt Ideal) ℓ) (c : Dev nD) : (dats m 0 c).arrAt 6 (cfgs 0).N = A m c := by
  refine (dats m 0 c).arrAt_eq_of_covers 6 _ (by decide +kernel) fun t _ y => ?_
  blk_simp
  rw [after0_6]
  unfold outsAt0
  frame_out
  have hi : (grid0.coords t 1).val < 4 := (grid0.coords t 1).isLt
  canon_tiles x h
  case piece0 =>
    first | rw [(hs0_0 t).read_unread (iblk m c 0 t)] | skip
    first | rw [(hs0_1 t).read_unread (iblk m c 1 t)] | skip
    first | rw [(hs0_2 t).read_unread (iblk m c 2 t)] | skip
    first | rw [(hs0_3 t).read_unread (iblk m c 3 t)] | skip
    first | rw [(hs0_4 t).read_unread (iblk m c 4 t)] | skip
    first | rw [(hs0_5 t).read_unread (iblk m c 5 t)] | skip
    refine Eq.trans (b := stored (grid0.coords t) 7#32 (iblk m c 0 t) (ldq (iblk m c 1 t) ![0, 896, 0] inb_S1x1024x512_S1x128x512_0_896_0) (iblk m c 2 t) (iblk m c 3 t) (iblk m c 4 t) (iblk m c 5 t)
      (k0_off1_inb _ 7) (k0_off2_inb _ 7) (k0_off3_inb _ 7) (k0_off4_inb _ 7) (k0_off5_inb _ 7) (k0_off6_inb _ 7) x) ?_ ?_
    · exact rfl
    have ex : x = ix3 0 (x 1) (x 2) := by
      funext a
      match a with
      | ⟨0, _⟩ => exact Subsingleton.elim (α := Fin 1) _ _
      | ⟨1, _⟩ => rfl
      | ⟨2, _⟩ => rfl
    obtain ⟨r, l, rfl⟩ : ∃ (r : Fin 128) (l : Fin 512), x = ix3 0 r l := ⟨x 1, x 2, ex⟩
    have hr := r.isLt
    have h1' : (y 1).val = 896 + r.val := h1
    have h2' : (y 2).val = l.val := h2
    refine (piece m c t 7 896 rfl _ _ _ _ _ _ _ r l (by omega)).trans ?_
    refine Eq.trans ?_ (place t (A m c) y (896 + r.val) l h1' h2' (by omega)).symm
    exact congrArg (fun u => A m c (ix3 (grid0.coords t 0) u l)) (Fin.ext (by show 1024 * (grid0.coords t 1).val + 896 + r.val = 1024 * (grid0.coords t 1).val + (896 + r.val); omega))
  case piece1 =>
    first | rw [(hs0_0 t).read_unread (iblk m c 0 t)] | skip
    first | rw [(hs0_1 t).read_unread (iblk m c 1 t)] | skip
    first | rw [(hs0_2 t).read_unread (iblk m c 2 t)] | skip
    first | rw [(hs0_3 t).read_unread (iblk m c 3 t)] | skip
    first | rw [(hs0_4 t).read_unread (iblk m c 4 t)] | skip
    first | rw [(hs0_5 t).read_unread (iblk m c 5 t)] | skip
    refine Eq.trans (b := stored (grid0.coords t) 6#32 (iblk m c 0 t) (ldq (iblk m c 1 t) ![0, 768, 0] inb_S1x1024x512_S1x128x512_0_768_0) (iblk m c 2 t) (iblk m c 3 t) (iblk m c 4 t) (iblk m c 5 t)
      (k0_off1_inb _ 6) (k0_off2_inb _ 6) (k0_off3_inb _ 6) (k0_off4_inb _ 6) (k0_off5_inb _ 6) (k0_off6_inb _ 6) x) ?_ ?_
    · exact rfl
    have ex : x = ix3 0 (x 1) (x 2) := by
      funext a
      match a with
      | ⟨0, _⟩ => exact Subsingleton.elim (α := Fin 1) _ _
      | ⟨1, _⟩ => rfl
      | ⟨2, _⟩ => rfl
    obtain ⟨r, l, rfl⟩ : ∃ (r : Fin 128) (l : Fin 512), x = ix3 0 r l := ⟨x 1, x 2, ex⟩
    have hr := r.isLt
    have h1' : (y 1).val = 768 + r.val := h1
    have h2' : (y 2).val = l.val := h2
    refine (piece m c t 6 768 rfl _ _ _ _ _ _ _ r l (by omega)).trans ?_
    refine Eq.trans ?_ (place t (A m c) y (768 + r.val) l h1' h2' (by omega)).symm
    exact congrArg (fun u => A m c (ix3 (grid0.coords t 0) u l)) (Fin.ext (by show 1024 * (grid0.coords t 1).val + 768 + r.val = 1024 * (grid0.coords t 1).val + (768 + r.val); omega))
  case piece2 =>
    first | rw [(hs0_0 t).read_unread (iblk m c 0 t)] | skip
    first | rw [(hs0_1 t).read_unread (iblk m c 1 t)] | skip
    first | rw [(hs0_2 t).read_unread (iblk m c 2 t)] | skip
    first | rw [(hs0_3 t).read_unread (iblk m c 3 t)] | skip
    first | rw [(hs0_4 t).read_unread (iblk m c 4 t)] | skip
    first | rw [(hs0_5 t).read_unread (iblk m c 5 t)] | skip
    refine Eq.trans (b := stored (grid0.coords t) 5#32 (iblk m c 0 t) (ldq (iblk m c 1 t) ![0, 640, 0] inb_S1x1024x512_S1x128x512_0_640_0) (iblk m c 2 t) (iblk m c 3 t) (iblk m c 4 t) (iblk m c 5 t)
      (k0_off1_inb _ 5) (k0_off2_inb _ 5) (k0_off3_inb _ 5) (k0_off4_inb _ 5) (k0_off5_inb _ 5) (k0_off6_inb _ 5) x) ?_ ?_
    · exact rfl
    have ex : x = ix3 0 (x 1) (x 2) := by
      funext a
      match a with
      | ⟨0, _⟩ => exact Subsingleton.elim (α := Fin 1) _ _
      | ⟨1, _⟩ => rfl
      | ⟨2, _⟩ => rfl
    obtain ⟨r, l, rfl⟩ : ∃ (r : Fin 128) (l : Fin 512), x = ix3 0 r l := ⟨x 1, x 2, ex⟩
    have hr := r.isLt
    have h1' : (y 1).val = 640 + r.val := h1
    have h2' : (y 2).val = l.val := h2
    refine (piece m c t 5 640 rfl _ _ _ _ _ _ _ r l (by omega)).trans ?_
    refine Eq.trans ?_ (place t (A m c) y (640 + r.val) l h1' h2' (by omega)).symm
    exact congrArg (fun u => A m c (ix3 (grid0.coords t 0) u l)) (Fin.ext (by show 1024 * (grid0.coords t 1).val + 640 + r.val = 1024 * (grid0.coords t 1).val + (640 + r.val); omega))
  case piece3 =>
    first | rw [(hs0_0 t).read_unread (iblk m c 0 t)] | skip
    first | rw [(hs0_1 t).read_unread (iblk m c 1 t)] | skip
    first | rw [(hs0_2 t).read_unread (iblk m c 2 t)] | skip
    first | rw [(hs0_3 t).read_unread (iblk m c 3 t)] | skip
    first | rw [(hs0_4 t).read_unread (iblk m c 4 t)] | skip
    first | rw [(hs0_5 t).read_unread (iblk m c 5 t)] | skip
    refine Eq.trans (b := stored (grid0.coords t) 4#32 (iblk m c 0 t) (ldq (iblk m c 1 t) ![0, 512, 0] inb_S1x1024x512_S1x128x512_0_512_0) (iblk m c 2 t) (iblk m c 3 t) (iblk m c 4 t) (iblk m c 5 t)
      (k0_off1_inb _ 4) (k0_off2_inb _ 4) (k0_off3_inb _ 4) (k0_off4_inb _ 4) (k0_off5_inb _ 4) (k0_off6_inb _ 4) x) ?_ ?_
    · exact rfl
    have ex : x = ix3 0 (x 1) (x 2) := by
      funext a
      match a with
      | ⟨0, _⟩ => exact Subsingleton.elim (α := Fin 1) _ _
      | ⟨1, _⟩ => rfl
      | ⟨2, _⟩ => rfl
    obtain ⟨r, l, rfl⟩ : ∃ (r : Fin 128) (l : Fin 512), x = ix3 0 r l := ⟨x 1, x 2, ex⟩
    have hr := r.isLt
    have h1' : (y 1).val = 512 + r.val := h1
    have h2' : (y 2).val = l.val := h2
    refine (piece m c t 4 512 rfl _ _ _ _ _ _ _ r l (by omega)).trans ?_
    refine Eq.trans ?_ (place t (A m c) y (512 + r.val) l h1' h2' (by omega)).symm
    exact congrArg (fun u => A m c (ix3 (grid0.coords t 0) u l)) (Fin.ext (by show 1024 * (grid0.coords t 1).val + 512 + r.val = 1024 * (grid0.coords t 1).val + (512 + r.val); omega))
  case piece4 =>
    first | rw [(hs0_0 t).read_unread (iblk m c 0 t)] | skip
    first | rw [(hs0_1 t).read_unread (iblk m c 1 t)] | skip
    first | rw [(hs0_2 t).read_unread (iblk m c 2 t)] | skip
    first | rw [(hs0_3 t).read_unread (iblk m c 3 t)] | skip
    first | rw [(hs0_4 t).read_unread (iblk m c 4 t)] | skip
    first | rw [(hs0_5 t).read_unread (iblk m c 5 t)] | skip
    refine Eq.trans (b := stored (grid0.coords t) 3#32 (iblk m c 0 t) (ldq (iblk m c 1 t) ![0, 384, 0] inb_S1x1024x512_S1x128x512_0_384_0) (iblk m c 2 t) (iblk m c 3 t) (iblk m c 4 t) (iblk m c 5 t)
      (k0_off1_inb _ 3) (k0_off2_inb _ 3) (k0_off3_inb _ 3) (k0_off4_inb _ 3) (k0_off5_inb _ 3) (k0_off6_inb _ 3) x) ?_ ?_
    · exact rfl
    have ex : x = ix3 0 (x 1) (x 2) := by
      funext a
      match a with
      | ⟨0, _⟩ => exact Subsingleton.elim (α := Fin 1) _ _
      | ⟨1, _⟩ => rfl
      | ⟨2, _⟩ => rfl
    obtain ⟨r, l, rfl⟩ : ∃ (r : Fin 128) (l : Fin 512), x = ix3 0 r l := ⟨x 1, x 2, ex⟩
    have hr := r.isLt
    have h1' : (y 1).val = 384 + r.val := h1
    have h2' : (y 2).val = l.val := h2
    refine (piece m c t 3 384 rfl _ _ _ _ _ _ _ r l (by omega)).trans ?_
    refine Eq.trans ?_ (place t (A m c) y (384 + r.val) l h1' h2' (by omega)).symm
    exact congrArg (fun u => A m c (ix3 (grid0.coords t 0) u l)) (Fin.ext (by show 1024 * (grid0.coords t 1).val + 384 + r.val = 1024 * (grid0.coords t 1).val + (384 + r.val); omega))
  case piece5 =>
    first | rw [(hs0_0 t).read_unread (iblk m c 0 t)] | skip
    first | rw [(hs0_1 t).read_unread (iblk m c 1 t)] | skip
    first | rw [(hs0_2 t).read_unread (iblk m c 2 t)] | skip
    first | rw [(hs0_3 t).read_unread (iblk m c 3 t)] | skip
    first | rw [(hs0_4 t).read_unread (iblk m c 4 t)] | skip
    first | rw [(hs0_5 t).read_unread (iblk m c 5 t)] | skip
    refine Eq.trans (b := stored (grid0.coords t) 2#32 (iblk m c 0 t) (ldq (iblk m c 1 t) ![0, 256, 0] inb_S1x1024x512_S1x128x512_0_256_0) (iblk m c 2 t) (iblk m c 3 t) (iblk m c 4 t) (iblk m c 5 t)
      (k0_off1_inb _ 2) (k0_off2_inb _ 2) (k0_off3_inb _ 2) (k0_off4_inb _ 2) (k0_off5_inb _ 2) (k0_off6_inb _ 2) x) ?_ ?_
    · exact rfl
    have ex : x = ix3 0 (x 1) (x 2) := by
      funext a
      match a with
      | ⟨0, _⟩ => exact Subsingleton.elim (α := Fin 1) _ _
      | ⟨1, _⟩ => rfl
      | ⟨2, _⟩ => rfl
    obtain ⟨r, l, rfl⟩ : ∃ (r : Fin 128) (l : Fin 512), x = ix3 0 r l := ⟨x 1, x 2, ex⟩
    have hr := r.isLt
    have h1' : (y 1).val = 256 + r.val := h1
    have h2' : (y 2).val = l.val := h2
    refine (piece m c t 2 256 rfl _ _ _ _ _ _ _ r l (by omega)).trans ?_
    refine Eq.trans ?_ (place t (A m c) y (256 + r.val) l h1' h2' (by omega)).symm
    exact congrArg (fun u => A m c (ix3 (grid0.coords t 0) u l)) (Fin.ext (by show 1024 * (grid0.coords t 1).val + 256 + r.val = 1024 * (grid0.coords t 1).val + (256 + r.val); omega))
  case piece6 =>
    first | rw [(hs0_0 t).read_unread (iblk m c 0 t)] | skip
    first | rw [(hs0_1 t).read_unread (iblk m c 1 t)] | skip
    first | rw [(hs0_2 t).read_unread (iblk m c 2 t)] | skip
    first | rw [(hs0_3 t).read_unread (iblk m c 3 t)] | skip
    first | rw [(hs0_4 t).read_unread (iblk m c 4 t)] | skip
    first | rw [(hs0_5 t).read_unread (iblk m c 5 t)] | skip
    refine Eq.trans (b := stored (grid0.coords t) 1#32 (iblk m c 0 t) (ldq (iblk m c 1 t) ![0, 128, 0] inb_S1x1024x512_S1x128x512_0_128_0) (iblk m c 2 t) (iblk m c 3 t) (iblk m c 4 t) (iblk m c 5 t)
      (k0_off1_inb _ 1) (k0_off2_inb _ 1) (k0_off3_inb _ 1) (k0_off4_inb _ 1) (k0_off5_inb _ 1) (k0_off6_inb _ 1) x) ?_ ?_
    · exact rfl
    have ex : x = ix3 0 (x 1) (x 2) := by
      funext a
      match a with
      | ⟨0, _⟩ => exact Subsingleton.elim (α := Fin 1) _ _
      | ⟨1, _⟩ => rfl
      | ⟨2, _⟩ => rfl
    obtain ⟨r, l, rfl⟩ : ∃ (r : Fin 128) (l : Fin 512), x = ix3 0 r l := ⟨x 1, x 2, ex⟩
    have hr := r.isLt
    have h1' : (y 1).val = 128 + r.val := h1
    have h2' : (y 2).val = l.val := h2
    refine (piece m c t 1 128 rfl _ _ _ _ _ _ _ r l (by omega)).trans ?_
    refine Eq.trans ?_ (place t (A m c) y (128 + r.val) l h1' h2' (by omega)).symm
    exact congrArg (fun u => A m c (ix3 (grid0.coords t 0) u l)) (Fin.ext (by show 1024 * (grid0.coords t 1).val + 128 + r.val = 1024 * (grid0.coords t 1).val + (128 + r.val); omega))
  case piece7 =>
    first | rw [(hs0_0 t).read_unread (iblk m c 0 t)] | skip
    first | rw [(hs0_1 t).read_unread (iblk m c 1 t)] | skip
    first | rw [(hs0_2 t).read_unread (iblk m c 2 t)] | skip
    first | rw [(hs0_3 t).read_unread (iblk m c 3 t)] | skip
    first | rw [(hs0_4 t).read_unread (iblk m c 4 t)] | skip
    first | rw [(hs0_5 t).read_unread (iblk m c 5 t)] | skip
    refine Eq.trans (b := stored (grid0.coords t) 0#32 (iblk m c 0 t) (ldq (iblk m c 1 t) ![0, 0, 0] inb_S1x1024x512_S1x128x512_0_0_0) (iblk m c 2 t) (iblk m c 3 t) (iblk m c 4 t) (iblk m c 5 t)
      (k0_off1_inb _ 0) (k0_off2_inb _ 0) (k0_off3_inb _ 0) (k0_off4_inb _ 0) (k0_off5_inb _ 0) (k0_off6_inb _ 0) x) ?_ ?_
    · exact rfl
    have ex : x = ix3 0 (x 1) (x 2) := by
      funext a
      match a with
      | ⟨0, _⟩ => exact Subsingleton.elim (α := Fin 1) _ _
      | ⟨1, _⟩ => rfl
      | ⟨2, _⟩ => rfl
    obtain ⟨r, l, rfl⟩ : ∃ (r : Fin 128) (l : Fin 512), x = ix3 0 r l := ⟨x 1, x 2, ex⟩
    have hr := r.isLt
    have h1' : (y 1).val = 0 + r.val := h1.trans (Nat.zero_add _).symm
    have h2' : (y 2).val = l.val := h2
    refine (piece m c t 0 0 rfl _ _ _ _ _ _ _ r l (by omega)).trans ?_
    refine Eq.trans ?_ (place t (A m c) y (0 + r.val) l h1' h2' (by omega)).symm
    exact congrArg (fun u => A m c (ix3 (grid0.coords t 0) u l)) (Fin.ext (by show 1024 * (grid0.coords t 1).val + 0 + r.val = 1024 * (grid0.coords t 1).val + (0 + r.val); omega))

end Cert.AttnKernel

end
-- ==== Proof.AttnSums.lean ====
/- Facts about sums, largest entries and finite numbers that the attention's reference needs. -/
module

public import proofs.«01_k».proof.Proof.AttnMath

@[expose] public section

noncomputable section

open Idealize.ShloMosaic

namespace Cert.AttnMath

/-- The largest of 640 scores and a last one, by a fold over all 641. -/
theorem fold_peak (L : Fin 641 → EReal) (S : Fin 640 → EReal) (s : EReal) (h : ∀ x : Fin 640, L x.castSucc = S x) (hl : L (Fin.last 640) = s) :
    (Finset.univ : Finset (Fin 641)).fold max ⊥ L = peak S s := by
  rw [fold_max L ⊥ rfl]
  unfold peak
  refine le_antisymm (Finset.sup_le fun x _ => ?_) (max_le (Finset.sup_le fun x _ => ?_) ?_)
  · refine Fin.lastCases ?_ (fun y => ?_) x
    · rw [hl]; exact le_max_right _ _
    · rw [h]; exact le_max_of_le_left (Finset.le_sup (f := S) (Finset.mem_univ y))
  · rw [← h]; exact Finset.le_sup (f := L) (Finset.mem_univ _)
  · rw [← hl]; exact Finset.le_sup (f := L) (Finset.mem_univ _)

/-- The sum of all 641 weights. -/
theorem sum_total (L : Fin 641 → EReal) (S : Fin 640 → EReal) (s : EReal) (h : ∀ x : Fin 640, L x.castSucc = S x) (hl : L (Fin.last 640) = s) :
    (∑ x : Fin 641, Ideal.exp (L x - peak S s)) = total S s := by
  rw [Fin.sum_univ_castSucc, hl]
  unfold total
  simp only [h]

/-- A sum over 640 positions, in its two parts. -/
theorem sum_parts (f : Fin 640 → EReal) : (∑ x : Fin 640, f x) = (∑ j : Fin 384, f ⟨j.val, by omega⟩) + ∑ j : Fin 256, f ⟨384 + j.val, by omega⟩ :=
  Fin.sum_univ_add (a := 384) (b := 256) f

/-- The attention's scale is one eighth. -/
theorem scale_eq : Ideal.ofBits .f32 0x3E000000#32 = ((1 / 8 : ℝ) : EReal) := by
  simp [Ideal.ofBits, Ideal.ieee, -EReal.coe_mul]
  norm_num

theorem scale_nonneg : 0 ≤ Ideal.ofBits .f32 0x3E000000#32 := by
  rw [scale_eq]
  exact EReal.coe_nonneg.2 (by norm_num)

theorem scale_finite : Ideal.ofBits .f32 0x3E000000#32 ≠ ⊤ ∧ Ideal.ofBits .f32 0x3E000000#32 ≠ ⊥ := by
  rw [scale_eq]
  exact ⟨EReal.coe_ne_top _, EReal.coe_ne_bot _⟩

/-- A number whose magnitude compares below +∞ is finite. -/
theorem finite_of_bit (x : EReal) (h : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at h
  unfold Ideal.cmp at h
  constructor
  · rintro rfl
    simp at h
  · rintro rfl
    simp at h

/-- A number that compares below +∞ is not +∞. -/
theorem below_of_bit (x : EReal) (h : Ideal.cmp .olt x (Ideal.ofBits .f32 0x7F800000#32) = 1#1) : x ≠ ⊤ := by
  have htop : Ideal.ofBits .f32 0x7F800000#32 = ⊤ := by simp [Ideal.ofBits, Ideal.ieee]
  rw [htop] at h
  unfold Ideal.cmp at h
  rintro rfl
  simp at h

variable {n : ℕ}

/-- A sum of products of finite numbers, scaled by a finite number, is not −∞. -/
theorem dot_ne_bot (q k : Fin n → EReal) (c : EReal) (hq : ∀ e, q e ≠ ⊤ ∧ q e ≠ ⊥) (hk : ∀ e, k e ≠ ⊤ ∧ k e ≠ ⊥) (hc : c ≠ ⊤ ∧ c ≠ ⊥) :
    (∑ e, (q e * c) * k e) ≠ ⊥ := by
  lift q to Fin n → ℝ using hq
  lift k to Fin n → ℝ using hk
  lift c to ℝ using hc
  have : (∑ e, ((q e : EReal) * (c : EReal)) * (k e : EReal)) = ((∑ e, (q e * c) * k e : ℝ) : EReal) := by
    rw [coe_sum]; rfl
  rw [this]
  exact EReal.coe_ne_bot _

/-- Where nothing is +∞ and one score is not −∞, the weights' sum is positive. -/
theorem total_pos_of_score (S : Fin n → EReal) (sink : EReal) (hS : ∀ x, S x ≠ ⊤) (hs : sink ≠ ⊤) (x : Fin n) (hx : S x ≠ ⊥) : 0 < total S sink := by
  have h1 := peak_ne_top S sink hS hs
  have h2 : peak S sink ≠ ⊥ := (lt_of_lt_of_le hx.bot_lt ((Finset.le_sup (f := S) (Finset.mem_univ x)).trans (le_max_left _ _))).ne'
  unfold total
  generalize peak S sink = M at h1 h2 ⊢
  lift M to ℝ using ⟨h1, h2⟩
  have hp : 0 < Ideal.exp (S x - M) := by
    have ht := hS x
    generalize S x = y at hx ht ⊢
    lift y to ℝ using ⟨ht, hx⟩
    rw [← EReal.coe_sub]
    exact EReal.coe_pos.2 (Real.exp_pos _)
  exact lt_of_lt_of_le hp ((Finset.single_le_sum (f := fun x => Ideal.exp (S x - M)) (fun y _ => exp_nonneg _) (Finset.mem_univ x)).trans (le_add_of_nonneg_right (exp_nonneg _)))

/-- Attention with every weight divided by the weights' sum first, where that sum is positive. -/
theorem attend_div (S V : Fin n → EReal) (sink : EReal) (hp : 0 < total S sink) :
    attend S V sink = ∑ x, Ideal.div (Ideal.exp (S x - peak S sink)) (total S sink) * V x := by
  unfold attend
  have hd : ∀ y, Ideal.div y (total S sink) = y * (total S sink)⁻¹ := fun y => by unfold Ideal.div; rw [if_neg hp.ne']
  simp only [hd, one_mul]
  rw [sum_mul _ _ _ (EReal.inv_nonneg_of_nonneg hp.le) (inv_ne_top _)]
  exact Finset.sum_congr rfl fun x _ => mul_right_comm _ _ _

end Cert.AttnMath

end
-- ==== Proof.AttnWindow.lean ====
/- The reference's words: which padded row a window position takes, and which positions the mask lets a query see. -/
module

public import proofs.«01_k».proof.Proof.AttnSpec
public import proofs.«01_k».proof.Proof.Gen.AttnRefIdeal.Read

@[expose] public section

set_option maxRecDepth 16384

noncomputable section

open Idealize.ShloMosaic Idealize.ShloMosaic.TcCoe Idealize.SL.Sem

namespace Cert.AttnWindow

open Cert.AttnRefIdeal Cert.AttnRefIdeal.Gen Cert.AttnRefIdeal.Read Cert.AttnMath Cert.AttnSpec

/-- The signed value of a small word. -/
theorem small (a : ℕ) (h : a < 8192) : (BitVec.ofNat 32 a).toInt = a := by
  rw [BitVec.toInt_eq_toNat_of_lt (by rw [BitVec.toNat_ofNat]; omega), BitVec.toNat_ofNat]
  omega

/-- The signed value of a small difference. -/
theorem small_sub (a b : BitVec 32) (x y : ℤ) (ha : a.toInt = x) (hb : b.toInt = y) (h1 : -8192 < x - y) (h2 : x - y < 8192) : (a - b).toInt = x - y := by
  rw [BitVec.toInt_sub, ha, hb]
  exact Int.bmod_eq_of_le (by norm_num; omega) (by norm_num; omega)

/-- A small word's magnitude against 128. -/
theorem near (d : BitVec 32) (x : ℤ) (hd : d.toInt = x) (h1 : -8192 < x) (h2 : x < 8192) : IntOp.cmpi .sle (IntOp.absi d) 128#32 = 1#1 ↔ -128 ≤ x ∧ x ≤ 128 := by
  rw [IntOp.cmpi_sle]
  have e : (IntOp.absi d).toInt = |x| := by
    unfold IntOp.absi
    rw [BitVec.msb_eq_toInt, hd]
    by_cases hx : x < 0
    · rw [decide_eq_true hx, if_pos rfl, BitVec.toInt_neg, hd, Int.bmod_eq_of_le (by norm_num; omega) (by norm_num; omega), abs_of_neg hx]
    · rw [decide_eq_false hx, if_neg (by simp), hd, abs_of_nonneg (by omega)]
  rw [e, show (128#32 : BitVec 32).toInt = 128 from rfl]
  exact abs_le

/-- The padded row of window position `j` of block `n`. -/
theorem row_word (n : Fin 32) (j : Fin 384) : val_main_v9 (F := Ideal) (ix2 n j) = BitVec.ofNat 32 (128 * n.val + j.val) := by
  have : val_main_v9 (F := Ideal) (ix2 n j) = BitVec.ofNat 32 n.val * 128#32 + BitVec.ofNat 32 j.val := rfl
  rw [this]
  apply BitVec.eq_of_toNat_eq
  simp [BitVec.toNat_ofNat]
  omega

theorem query_word (n : Fin 32) (r : Fin 128) : val_main_v29 (F := Ideal) (ix2 n r) = BitVec.ofNat 32 (128 * n.val + r.val) := by
  have : val_main_v29 (F := Ideal) (ix2 n r) = BitVec.ofNat 32 n.val * 128#32 + BitVec.ofNat 32 r.val := rfl
  rw [this]
  apply BitVec.eq_of_toNat_eq
  simp [BitVec.toNat_ofNat]
  omega

theorem taken_word (n : Fin 32) (j : Fin 384) : val_main_call1_v5 (F := Ideal) (ix3 n j 0) = BitVec.ofNat 32 (128 * n.val + j.val) := by
  have : val_main_call1_v5 (F := Ideal) (ix3 n j 0) = Scalar.select (IntOp.cmpi .slt (val_main_v9 (F := Ideal) (ix2 n j)) 0#32) (Scalar.addi (val_main_v9 (F := Ideal) (ix2 n j)) 4352#32) (val_main_v9 (F := Ideal) (ix2 n j)) := rfl
  rw [this, row_word]
  have hn : ¬IntOp.cmpi .slt (BitVec.ofNat 32 (128 * n.val + j.val)) 0#32 = 1#1 := by
    rw [IntOp.cmpi_slt, small _ (by omega), show (0#32 : BitVec 32).toInt = 0 from rfl]
    omega
  exact if_neg hn

theorem inside_word (n : Fin 32) (j : Fin 384) : val_main_call1_v11 (F := Ideal) (ix3 n j 0) = 1#1 := by
  have : val_main_call1_v11 (F := Ideal) (ix3 n j 0) = IntOp.andi (IntOp.cmpi .sge (val_main_call1_v5 (F := Ideal) (ix3 n j 0)) 0#32) (IntOp.cmpi .sle (val_main_call1_v5 (F := Ideal) (ix3 n j 0)) 4351#32) := rfl
  have h1 : IntOp.cmpi .sge (BitVec.ofNat 32 (128 * n.val + j.val)) 0#32 = 1#1 := by
    rw [IntOp.cmpi_sge, small (128 * n.val + j.val) (by omega)]
    show (0 : ℤ) ≤ _
    omega
  have h2 : IntOp.cmpi .sle (BitVec.ofNat 32 (128 * n.val + j.val)) 4351#32 = 1#1 := by
    rw [IntOp.cmpi_sle, small _ (by omega), show (4351#32 : BitVec 32).toInt = 4351 from rfl]
    omega
  rw [this, taken_word, h1, h2]
  rfl

theorem and_one (a b : BitVec 1) : IntOp.andi a b = 1#1 ↔ a = 1#1 ∧ b = 1#1 := by
  revert a b; decide

/-- The mask's bit is set just where the query sees the window position. -/
theorem mask_word (n : Fin 32) (r : Fin 128) (j : Fin 384) : val_main_v47 (F := Ideal) (ix3 n r j) = 1#1 ↔ seen n r ⟨j.val, by omega⟩ := by
  have : val_main_v47 (F := Ideal) (ix3 n r j) = IntOp.andi (IntOp.andi (IntOp.cmpi .sle (IntOp.absi ((val_main_v9 (F := Ideal) (ix2 n j) - 128#32) - val_main_v29 (F := Ideal) (ix2 n r))) 128#32)
      (IntOp.cmpi .sge (val_main_v9 (F := Ideal) (ix2 n j) - 128#32) 0#32)) (IntOp.cmpi .slt (val_main_v9 (F := Ideal) (ix2 n j) - 128#32) 4096#32) := rfl
  have hk : (val_main_v9 (F := Ideal) (ix2 n j) - 128#32).toInt = (128 * n.val + j.val : ℕ) - 128 := by
    rw [row_word]
    exact small_sub _ _ _ _ (small _ (by omega)) rfl (by omega) (by omega)
  have hd : ((val_main_v9 (F := Ideal) (ix2 n j) - 128#32) - val_main_v29 (F := Ideal) (ix2 n r)).toInt = ((128 * n.val + j.val : ℕ) - 128 : ℤ) - (128 * n.val + r.val : ℕ) :=
    small_sub _ _ _ _ hk (by rw [query_word]; exact small _ (by omega)) (by omega) (by omega)
  rw [this, and_one, and_one, near _ _ hd (by omega) (by omega), IntOp.cmpi_sge, IntOp.cmpi_slt, hk, show (0#32 : BitVec 32).toInt = 0 from rfl,
    show (4096#32 : BitVec 32).toInt = 4096 from rfl]
  have hn := n.isLt
  have hr := r.isLt
  have hj := j.isLt
  by_cases a : j.val < 128
  · rw [seen_before n r ⟨j.val, by omega⟩ a]
    show _ ↔ 0 < n.val ∧ r.val ≤ j.val
    push_cast
    omega
  by_cases a' : j.val < 256
  · refine iff_of_true ?_ (seen_own n r ⟨j.val, by omega⟩ a a')
    push_cast
    omega
  · rw [seen_after n r ⟨j.val, by omega⟩ a' (by show j.val < 384; omega)]
    show _ ↔ n.val < 31 ∧ j.val - 256 ≤ r.val
    push_cast
    omega

end Cert.AttnWindow

end
-- ==== Proof.AttnLogits.lean ====
/- The reference's keys, values and logits, entry by entry. -/
module

public import proofs.«01_k».proof.Proof.AttnWindow
public import Idealize.ShloMosaic.Lib.ReduceAll

@[expose] public section

set_option maxRecDepth 16384

noncomputable section

open Idealize.ShloMosaic Idealize.ShloMosaic.TcCoe Idealize.SL.Sem

namespace Cert.AttnLogits

open Cert.AttnRefIdeal Cert.AttnRefIdeal.Gen Cert.AttnRefIdeal.Read Cert.AttnMath Cert.AttnSpec Cert.AttnWindow

/-- The queries, by block and head. -/
theorem q_apply (x0 : S8x4096x8x64.Idx → EReal) (b : Fin 8) (n : Fin 32) (r : Fin 128) (h : Fin 2) (g : Fin 4) (e : Fin 64) :
    val_main_v0 (F := Ideal) x0 (ix6 b n r h g e) = x0 (ix4 b ⟨128 * n.val + r.val, by omega⟩ ⟨4 * h.val + g.val, by omega⟩ e) := by
  pointwise [val_main_v0]
  exact congrArg₂ (fun t k => x0 (ix4 b t k e)) (Fin.ext (by show n.val * 128 + r.val = 128 * n.val + r.val; omega)) (Fin.ext (by show h.val * 4 + g.val = 4 * h.val + g.val; omega))

/-- The padded keys: zero outside the sequence. -/
theorem pad_apply (x : S8x4096x2x64.Idx → EReal) (b : Fin 8) (t : Fin 4352) (h : Fin 2) (e : Fin 64) :
    val_main_v10 (F := Ideal) x (ix4 b t h e) = if ht : 128 ≤ t.val ∧ t.val < 4224 then x (ix4 b ⟨t.val - 128, by omega⟩ h e) else 0 := by
  have z : val_main_call0_v0 (F := Ideal) (Shape.Idx.first h_S_) = 0 := by
    show (((0#32 : BitVec 32).toInt : ℝ) : EReal) = 0
    norm_num
  pointwise [val_main_v10]
  rw [z]
  by_cases ht : 128 ≤ t.val ∧ t.val < 4224
  · rw [dif_pos ht, dif_pos ⟨ht.1, by omega⟩]
  · rw [dif_neg ht, dif_neg (by omega)]

theorem same (x : S8x4096x2x64.Idx → EReal) : val_main_v13 (F := Ideal) x = val_main_v11 (F := Ideal) x := rfl

/-- All taken rows lie in the padded array. -/
theorem inside_apply (n : Fin 32) (j : Fin 384) : val_main_call1_v12 (F := Ideal) (ix2 n j) = 1#1 := by
  unfold val_main_call1_v12
  refine Host.reduce_andi_one _ _ _ _ _ rfl fun i => ?_
  idx_vars i
  obtain rfl := Subsingleton.elim i2 0
  exact inside_word i0 i1

/-- What the gather takes: the row its index names. -/
theorem gather_apply (X : S8x4352x2x64.Idx → EReal) (b : Fin 8) (n : Fin 32) (j : Fin 384) (h : Fin 2) (e : Fin 64) :
    Host.gather gather_S8x4352x2x64_S32x384x1_S8x32x384x2x64_034_1_n_n_1_2_81264 X (val_main_call1_v5 (F := Ideal)) (ix5 b n j h e)
      = X (ix4 b ⟨128 * n.val + j.val, by omega⟩ h e) := by
  unfold Host.gather
  refine congrArg X (funext fun a => Fin.ext ?_)
  show GatherDims.start _ _ _ a + GatherDims.batchCoord _ _ a + GatherDims.offCoord _ _ a = _
  rw [GatherDims.batchCoord_eq_zero _ _ _ List.not_mem_nil]
  have s0 : ∀ idx : IVec S32x384x1 32, GatherDims.start gather_S8x4352x2x64_S32x384x1_S8x32x384x2x64_034_1_n_n_1_2_81264 (ix5 b n j h e) idx 0 = 0 := fun idx => by
    unfold GatherDims.start
    rw [dif_neg (by decide)]
  have o0 : GatherDims.offCoord gather_S8x4352x2x64_S32x384x1_S8x32x384x2x64_034_1_n_n_1_2_81264 (ix5 b n j h e) 0 = b.val := by
    unfold GatherDims.offCoord
    rw [dif_pos (by decide)]
    rfl
  have s2 : ∀ idx : IVec S32x384x1 32, GatherDims.start gather_S8x4352x2x64_S32x384x1_S8x32x384x2x64_034_1_n_n_1_2_81264 (ix5 b n j h e) idx 2 = 0 := fun idx => by
    unfold GatherDims.start
    rw [dif_neg (by decide)]
  have o2 : GatherDims.offCoord gather_S8x4352x2x64_S32x384x1_S8x32x384x2x64_034_1_n_n_1_2_81264 (ix5 b n j h e) 2 = h.val := by
    unfold GatherDims.offCoord
    rw [dif_pos (by decide)]
    rfl
  have s3 : ∀ idx : IVec S32x384x1 32, GatherDims.start gather_S8x4352x2x64_S32x384x1_S8x32x384x2x64_034_1_n_n_1_2_81264 (ix5 b n j h e) idx 3 = 0 := fun idx => by
    unfold GatherDims.start
    rw [dif_neg (by decide)]
  have o3 : GatherDims.offCoord gather_S8x4352x2x64_S32x384x1_S8x32x384x2x64_034_1_n_n_1_2_81264 (ix5 b n j h e) 3 = e.val := by
    unfold GatherDims.offCoord
    rw [dif_pos (by decide)]
    rfl
  have s1 : ∀ idx : IVec S32x384x1 32, GatherDims.start gather_S8x4352x2x64_S32x384x1_S8x32x384x2x64_034_1_n_n_1_2_81264 (ix5 b n j h e) idx 1 = min (idx (ix3 n j 0)).toInt.toNat 4351 := fun idx => by
    unfold GatherDims.start
    rw [dif_pos (by decide)]
    refine congrArg (fun w : BitVec 32 => min w.toInt.toNat 4351) (congrArg idx (funext fun b => Fin.ext ?_))
    match b with
    | ⟨0, _⟩ => rfl
    | ⟨1, _⟩ => rfl
    | ⟨2, _⟩ => rfl
  have o1 : GatherDims.offCoord gather_S8x4352x2x64_S32x384x1_S8x32x384x2x64_034_1_n_n_1_2_81264 (ix5 b n j h e) 1 = 0 := GatherDims.offCoord_eq_zero _ _ _ (by decide)
  match a with
  | ⟨0, _⟩ => exact (congrArg₂ (· + ·) (congrArg (· + 0) (s0 _)) o0).trans (by show 0 + 0 + b.val = b.val; omega)
  | ⟨1, _⟩ =>
    refine (congrArg₂ (· + ·) (congrArg (· + 0) (s1 _)) o1).trans ?_
    rw [taken_word, small _ (by omega)]
    show min (128 * n.val + j.val) 4351 + 0 + 0 = 128 * n.val + j.val
    omega
  | ⟨2, _⟩ => exact (congrArg₂ (· + ·) (congrArg (· + 0) (s2 _)) o2).trans (by show 0 + 0 + h.val = h.val; omega)
  | ⟨3, _⟩ => exact (congrArg₂ (· + ·) (congrArg (· + 0) (s3 _)) o3).trans (by show 0 + 0 + e.val = e.val; omega)

/-- The gathered window: the token at its position, zero outside the sequence. -/
theorem window_apply (x : S8x4096x2x64.Idx → EReal) (b : Fin 8) (n : Fin 32) (j : Fin 384) (h : Fin 2) (e : Fin 64) :
    val_main_v11 (F := Ideal) x (ix5 b n j h e)
      = if ht : 128 ≤ 128 * n.val + j.val ∧ 128 * n.val + j.val < 4224 then x (ix4 b ⟨128 * n.val + j.val - 128, by omega⟩ h e) else 0 := by
  have : val_main_v11 (F := Ideal) x (ix5 b n j h e) = Scalar.select (val_main_call1_v12 (F := Ideal) (ix2 n j)) (val_main_call1_v13 (F := Ideal) x (ix5 b n j h e)) (val_main_call1_cst (F := Ideal) ix0) := by
    pointwise [val_main_v11, val_main_call1_v14, val_main_call1_v15]
  rw [this, inside_apply]
  refine (if_pos rfl).trans ?_
  unfold val_main_call1_v13
  rw [gather_apply, pad_apply]

theorem sink_apply (x5 : S8.Idx → EReal) (h : Fin 2) (g : Fin 4) :
    val_main_v50 (F := Ideal) x5 (ix6 0 0 h g 0 0) = x5 (ix1 ⟨4 * h.val + g.val, by omega⟩) := by
  pointwise [val_main_v50]
  exact congrArg (fun k => x5 (ix1 k)) (Fin.ext (by show h.val * 4 + g.val = 4 * h.val + g.val; omega))

theorem concat_apply (x0 : S8x4096x8x64.Idx → EReal) (x1 : S8x4096x2x64.Idx → EReal) (x3 : S8x256x2x64.Idx → EReal) (x5 : S8.Idx → EReal)
    (b : Fin 8) (n : Fin 32) (h : Fin 2) (g : Fin 4) (r : Fin 128) (x : Fin 641) :
    val_main_v52 (F := Ideal) x0 x1 x3 x5 (ix6 b n h g r x) = if h0 : x.val < 384 then val_main_v49 (F := Ideal) x0 x1 (ix6 b n h g r ⟨x.val, h0⟩)
      else if h1 : x.val < 640 then val_main_v21 (F := Ideal) x0 x3 (ix6 b n h g r ⟨x.val - 384, by omega⟩)
      else x5 (ix1 ⟨4 * h.val + g.val, by omega⟩) := by
  have e : val_main_v51 (F := Ideal) x5 (ix6 b n h g r 0) = x5 (ix1 ⟨4 * h.val + g.val, by omega⟩) := by
    rw [← sink_apply x5 h g]
    pointwise [val_main_v51]
  rw [← e]
  pointwise [val_main_v52]
  have hx := x.isLt
  split
  · rfl
  split
  · rw [dif_pos (by omega)]
  · rw [dif_neg (by omega)]
    exact congrArg (fun k => val_main_v51 (F := Ideal) x5 (ix6 b n h g r k)) (Subsingleton.elim _ _)

/-- The window's logits: the scaled product where the query sees, −∞ elsewhere. -/
theorem near_apply (x0 : S8x4096x8x64.Idx → EReal) (x1 : S8x4096x2x64.Idx → EReal) (b : Fin 8) (n : Fin 32) (h : Fin 2) (g : Fin 4) (r : Fin 128) (j : Fin 384) :
    val_main_v49 (F := Ideal) x0 x1 (ix6 b n h g r j) = Scalar.select (val_main_v47 (F := Ideal) (ix3 n r j))
      ((∑ e : Fin 64, val_main_v11 (F := Ideal) x1 (ix5 b n j h e) * val_main_v0 (F := Ideal) x0 (ix6 b n r h g e)) * Ideal.ofBits .f32 0x3E000000#32) ⊥ := by
  pointwise [val_main_v49, val_main_v48, val_main_call4_v1, val_main_call4_v2, val_main_v17, val_main_v16, val_main_v15, val_main_v14]
  rfl

/-- The context's logits. -/
theorem far_apply (x0 : S8x4096x8x64.Idx → EReal) (x3 : S8x256x2x64.Idx → EReal) (b : Fin 8) (n : Fin 32) (h : Fin 2) (g : Fin 4) (r : Fin 128) (j : Fin 256) :
    val_main_v21 (F := Ideal) x0 x3 (ix6 b n h g r j)
      = (∑ e : Fin 64, x3 (ix4 b j h e) * val_main_v0 (F := Ideal) x0 (ix6 b n r h g e)) * Ideal.ofBits .f32 0x3E000000#32 := by
  pointwise [val_main_v21, val_main_v20, val_main_v19, val_main_v18]
  rfl

end Cert.AttnLogits

end
-- ==== Proof.AttnSoftmax.lean ====
/- The reference's softmax, entry by entry, and its result as two sums over the window and over the context. -/
module

public import proofs.«01_k».proof.Proof.AttnLogits

@[expose] public section

set_option maxRecDepth 16384

noncomputable section

open Idealize.ShloMosaic Idealize.ShloMosaic.TcCoe Idealize.SL.Sem

namespace Cert.AttnSoftmax

open Cert.AttnRefIdeal Cert.AttnRefIdeal.Gen Cert.AttnRefIdeal.Read Cert.AttnMath Cert.AttnSpec Cert.AttnWindow Cert.AttnLogits

variable (x0 : S8x4096x8x64.Idx → EReal) (x1 x2 : S8x4096x2x64.Idx → EReal) (x3 x4 : S8x256x2x64.Idx → EReal) (x5 : S8.Idx → EReal)
  (b : Fin 8) (n : Fin 32) (h : Fin 2) (g : Fin 4) (r : Fin 128)

/-- A query's largest logit, and its sum of exponentials. -/
def peakOf (L : Fin 641 → EReal) : EReal := (Finset.univ : Finset (Fin 641)).fold max ⊥ L
def totalOf (L : Fin 641 → EReal) : EReal := ∑ x : Fin 641, Ideal.exp (L x - peakOf L)

/-- A query's logits: 384 of the window, 256 of the context, one of the sink. -/
def logits : Fin 641 → EReal := fun x => val_main_v52 (F := Ideal) x0 x1 x3 x5 (ix6 b n h g r x)

theorem max_apply : val_main_v53 (F := Ideal) x0 x1 x3 x5 (ix5 b n h g r) = peakOf (logits x0 x1 x3 x5 b n h g r) := by
  unfold val_main_v53 peakOf logits
  generalize val_main_v52 (F := Ideal) x0 x1 x3 x5 = y
  rw [Host.reduce_eq_fold_single _ _ _ _ (by decide : S8x32x2x4x128x641.Reduces [5] S8x32x2x4x128)]
  refine congrArg₂ (Finset.fold max · · _) rfl (funext fun x => ?_)
  exact congrArg y (funext fun a => Fin.ext (match a with
    | ⟨0, _⟩ => rfl
    | ⟨1, _⟩ => rfl
    | ⟨2, _⟩ => rfl
    | ⟨3, _⟩ => rfl
    | ⟨4, _⟩ => rfl
    | ⟨5, _⟩ => rfl))

theorem exp_apply (x : Fin 641) : val_main_v59 (F := Ideal) x0 x1 x3 x5 (ix6 b n h g r x)
    = Ideal.exp (logits x0 x1 x3 x5 b n h g r x - peakOf (logits x0 x1 x3 x5 b n h g r)) := by
  have e : val_main_v55 (F := Ideal) x0 x1 x3 x5 (ix5 b n h g r) = peakOf (logits x0 x1 x3 x5 b n h g r) := by
    rw [← max_apply]
    rw [val_main_v55_apply]
    generalize val_main_v53 (F := Ideal) x0 x1 x3 x5 (ix5 b n h g r) = y
    exact max_bot_left y
  rw [← e]
  unfold logits
  pointwise [val_main_v59, val_main_v58, val_main_v57, val_main_v56]

theorem sum_apply : val_main_v60 (F := Ideal) x0 x1 x3 x5 (ix5 b n h g r) = totalOf (logits x0 x1 x3 x5 b n h g r) := by
  rw [val_main_v60_apply]
  have z : val_main_cst_10 (F := Ideal) (Shape.Idx.first h_S_) = 0 := Ideal.ofBits_zero_f32
  rw [z, zero_add]
  unfold totalOf
  refine Finset.sum_congr rfl fun x _ => ?_
  rw [← exp_apply]
  exact congrArg (val_main_v59 (F := Ideal) x0 x1 x3 x5) (funext fun a => match a with
    | ⟨0, _⟩ => rfl
    | ⟨1, _⟩ => rfl
    | ⟨2, _⟩ => rfl
    | ⟨3, _⟩ => rfl
    | ⟨4, _⟩ => rfl
    | ⟨5, _⟩ => rfl)

theorem prob_apply (x : Fin 641) : val_main_v63 (F := Ideal) x0 x1 x3 x5 (ix6 b n h g r x)
    = Ideal.div (Ideal.exp (logits x0 x1 x3 x5 b n h g r x - peakOf (logits x0 x1 x3 x5 b n h g r))) (totalOf (logits x0 x1 x3 x5 b n h g r)) := by
  rw [← sum_apply, ← exp_apply]
  pointwise [val_main_v63, val_main_v62, val_main_v61]

/-- The reference's result: the window's values and the context's, each weighed by its probability. -/
theorem result_apply (t : Fin 4096) (l : Fin 512) : val_main_v72 (F := Ideal) x0 x1 x2 x3 x4 x5 (ix3 b t l)
    = (∑ j : Fin 384, val_main_v13 (F := Ideal) x2 (ix5 b ⟨t.val / 128, by omega⟩ j ⟨l.val / 256, by omega⟩ ⟨l.val % 64, by omega⟩)
        * val_main_v63 (F := Ideal) x0 x1 x3 x5 (ix6 b ⟨t.val / 128, by omega⟩ ⟨l.val / 256, by omega⟩ ⟨l.val / 64 % 4, by omega⟩ ⟨t.val % 128, by omega⟩ ⟨j.val, by omega⟩))
      + ∑ j : Fin 256, x4 (ix4 b j ⟨l.val / 256, by omega⟩ ⟨l.val % 64, by omega⟩)
        * val_main_v63 (F := Ideal) x0 x1 x3 x5 (ix6 b ⟨t.val / 128, by omega⟩ ⟨l.val / 256, by omega⟩ ⟨l.val / 64 % 4, by omega⟩ ⟨t.val % 128, by omega⟩ ⟨384 + j.val, by omega⟩) := by
  have e : val_main_v72 (F := Ideal) x0 x1 x2 x3 x4 x5 (ix3 b t l)
      = val_main_v70 (F := Ideal) x0 x1 x2 x3 x4 x5 (ix6 b ⟨t.val / 128, by omega⟩ ⟨t.val % 128, by omega⟩ ⟨l.val / 256, by omega⟩ ⟨l.val / 64 % 4, by omega⟩ ⟨l.val % 64, by omega⟩) := by
    pointwise [val_main_v72, val_main_v71]
  rw [e]
  pointwise [val_main_v70, val_main_v69, val_main_v68, val_main_v67, val_main_v66, val_main_v65, val_main_v64]

end Cert.AttnSoftmax

end
-- ==== Proof.AttnReference.lean ====
/- What the reference computes: its result, entry by entry, is the attention. -/
module

public import proofs.«01_k».proof.Proof.AttnSums
public import proofs.«01_k».proof.Proof.AttnSoftmax

@[expose] public section

set_option maxRecDepth 16384

noncomputable section

open Idealize.ShloMosaic Idealize.ShloMosaic.TcCoe Idealize.SL.Sem

namespace Cert.AttnReference

open Cert.AttnRefIdeal Cert.AttnRefIdeal.Gen Cert.AttnRefIdeal.Read Cert.AttnMath Cert.AttnSpec Cert.AttnWindow Cert.AttnLogits Cert.AttnSoftmax

variable (x0 : S8x4096x8x64.Idx → EReal) (x1 x2 : S8x4096x2x64.Idx → EReal) (x3 x4 : S8x256x2x64.Idx → EReal) (x5 : S8.Idx → EReal)
  (b : Fin 8) (n : Fin 32) (h : Fin 2) (g : Fin 4) (r : Fin 128)

/-- The window's row at a position the query sees is the token there. -/
theorem window_seen (x : S8x4096x2x64.Idx → EReal) (c : Fin 8 → Fin 256 → Fin 2 → Fin 64 → EReal) (j : Fin 384) (e : Fin 64) (hs : seen n r ⟨j.val, by omega⟩) :
    val_main_v11 (F := Ideal) x (ix5 b n j h e) = entryAt (fun b t h e => x (ix4 b t h e)) c b n h ⟨j.val, by omega⟩ e := by
  have hn := n.isLt
  have hj := j.isLt
  have h1 : j.val < 128 → 0 < n.val := fun a => ((seen_before n r ⟨j.val, by omega⟩ a).1 hs).1
  have h2 : ¬j.val < 256 → n.val < 31 := fun a => ((seen_after n r ⟨j.val, by omega⟩ a hj).1 hs).1
  have hin : 128 ≤ 128 * n.val + j.val ∧ 128 * n.val + j.val < 4224 := by omega
  rw [window_apply, dif_pos hin]
  unfold entryAt
  rw [dif_pos hj]
  exact congrArg (fun t => x (ix4 b t h e)) (Fin.ext (by show 128 * n.val + j.val - 128 = min (128 * n.val + j.val - 128) 4095; omega))

/-- The logits of the keys are the scores. -/
theorem logit_apply (x : Fin 640) : logits x0 x1 x3 x5 b n h g r x.castSucc
    = score (fun b t h e => x0 (ix4 b t h e)) (fun b t h e => x1 (ix4 b t h e)) (fun b t h e => x3 (ix4 b t h e)) b n r h g x := by
  have hx := x.isLt
  unfold logits score
  rw [concat_apply]
  by_cases a : x.val < 384
  · rw [dif_pos (show x.castSucc.val < 384 from a), near_apply]
    by_cases hs : seen n r x
    · rw [if_pos hs]
      refine (if_pos ((mask_word n r ⟨x.val, a⟩).2 hs)).trans ?_
      rw [dot_scale _ _ _ scale_nonneg scale_finite.1]
      refine Finset.sum_congr rfl fun e _ => ?_
      exact congrArg₂ (fun p q : EReal => p * Ideal.ofBits .f32 0x3E000000#32 * q) (q_apply x0 b n r h g e) (window_seen b n h r x1 (fun b t h e => x3 (ix4 b t h e)) ⟨x.val, a⟩ e hs)
    · rw [if_neg hs]
      exact if_neg fun hm => hs ((mask_word n r ⟨x.val, a⟩).1 hm)
  · rw [dif_neg (show ¬x.castSucc.val < 384 from a), dif_pos (show x.castSucc.val < 640 from hx), far_apply, if_pos (seen_context n r x a), dot_scale _ _ _ scale_nonneg scale_finite.1]
    refine Finset.sum_congr rfl fun e _ => ?_
    refine congrArg₂ (fun p q : EReal => p * Ideal.ofBits .f32 0x3E000000#32 * q) (q_apply x0 b n r h g e) ?_
    unfold entryAt
    rw [dif_neg a]
    rfl

theorem logit_sink : logits x0 x1 x3 x5 b n h g r (Fin.last 640) = x5 (ix1 ⟨4 * h.val + g.val, by omega⟩) := by
  unfold logits
  rw [concat_apply, dif_neg (by decide), dif_neg (by decide)]

/-- With finite queries and keys and no sink of +∞, the reference's entry is the attention's. -/
theorem result_eq (h0 : ∀ i, x0 i ≠ ⊤ ∧ x0 i ≠ ⊥) (h1 : ∀ i, x1 i ≠ ⊤ ∧ x1 i ≠ ⊥) (h3 : ∀ i, x3 i ≠ ⊤ ∧ x3 i ≠ ⊥) (h5 : ∀ i, x5 i ≠ ⊤)
    (t : Fin 4096) (l : Fin 512) :
    val_main_v72 (F := Ideal) x0 x1 x2 x3 x4 x5 (ix3 b t l)
      = entry (fun b t h e => x0 (ix4 b t h e)) (fun b t h e => x1 (ix4 b t h e)) (fun b t h e => x2 (ix4 b t h e)) (fun b t h e => x3 (ix4 b t h e)) (fun b t h e => x4 (ix4 b t h e))
          (fun j => x5 (ix1 j)) b ⟨t.val / 128, by omega⟩ ⟨t.val % 128, by omega⟩ ⟨l.val / 256, by omega⟩ ⟨l.val / 64 % 4, by omega⟩ ⟨l.val % 64, by omega⟩ := by
  rw [result_apply, same]
  generalize (⟨t.val / 128, by omega⟩ : Fin 32) = n
  generalize (⟨t.val % 128, by omega⟩ : Fin 128) = r
  generalize (⟨l.val / 256, by omega⟩ : Fin 2) = h
  generalize (⟨l.val / 64 % 4, by omega⟩ : Fin 4) = g
  generalize (⟨l.val % 64, by omega⟩ : Fin 64) = d
  simp only [prob_apply]
  have hL := logit_apply x0 x1 x3 x5 b n h g r
  have hl := logit_sink x0 x1 x3 x5 b n h g r
  generalize logits x0 x1 x3 x5 b n h g r = L at hL hl ⊢
  have hM : peakOf L = peak (score (fun b t h e => x0 (ix4 b t h e)) (fun b t h e => x1 (ix4 b t h e)) (fun b t h e => x3 (ix4 b t h e)) b n r h g) (x5 (ix1 ⟨4 * h.val + g.val, by omega⟩)) :=
    fold_peak L _ _ hL hl
  have hT : totalOf L = total (score (fun b t h e => x0 (ix4 b t h e)) (fun b t h e => x1 (ix4 b t h e)) (fun b t h e => x3 (ix4 b t h e)) b n r h g) (x5 (ix1 ⟨4 * h.val + g.val, by omega⟩)) := by
    unfold totalOf
    rw [hM]
    exact sum_total L _ _ hL hl
  have hS : ∀ x, score (fun b t h e => x0 (ix4 b t h e)) (fun b t h e => x1 (ix4 b t h e)) (fun b t h e => x3 (ix4 b t h e)) b n r h g x ≠ ⊤ := fun x => by
    unfold score
    by_cases hs : seen n r x
    · rw [if_pos hs]
      refine dot_ne_top _ _ _ (fun e => h0 _) (fun e => ?_) scale_finite
      unfold entryAt
      split
      · exact h1 _
      · exact h3 _
    · rw [if_neg hs]
      exact bot_ne_top
  have hB : score (fun b t h e => x0 (ix4 b t h e)) (fun b t h e => x1 (ix4 b t h e)) (fun b t h e => x3 (ix4 b t h e)) b n r h g ⟨128, by omega⟩ ≠ ⊥ := by
    unfold score
    rw [if_pos (seen_own n r ⟨128, by omega⟩ (by decide) (by decide))]
    refine dot_ne_bot _ _ _ (fun e => h0 _) (fun e => ?_) scale_finite
    unfold entryAt
    split
    · exact h1 _
    · exact h3 _
  unfold entry
  rw [attend_congr _ _ (fun x : Fin 640 => if hx : x.val < 384 then val_main_v11 (F := Ideal) x2 (ix5 b n ⟨x.val, hx⟩ h d) else x4 (ix4 b ⟨x.val - 384, by omega⟩ h d)) _ (fun x hx => ?_),
    attend_div _ _ _ (total_pos_of_score _ _ hS (h5 _) ⟨128, by omega⟩ hB), sum_parts]
  · rw [hM, hT]
    refine congrArg₂ (· + ·) (Finset.sum_congr rfl fun j _ => ?_) (Finset.sum_congr rfl fun j _ => ?_)
    · rw [dif_pos j.isLt, mul_comm]
      exact congrArg (fun y : EReal => Ideal.div (Ideal.exp (y - _)) _ * _) (hL ⟨j.val, by omega⟩)
    · rw [dif_neg (show ¬384 + j.val < 384 by omega), mul_comm]
      have e : (⟨384 + j.val - 384, by omega⟩ : Fin 256) = j := Fin.ext (by show 384 + j.val - 384 = j.val; omega)
      exact congrArg₂ (fun (y : EReal) (k : Fin 256) => Ideal.div (Ideal.exp (y - _)) _ * x4 (ix4 b k h d)) (hL ⟨384 + j.val, by omega⟩) e.symm
  · by_cases a : x.val < 384
    · rw [dif_pos a]
      have hs : seen n r x := by
        by_contra hn
        exact hx (if_neg hn)
      exact (window_seen b n h r x2 (fun b t h e => x4 (ix4 b t h e)) ⟨x.val, a⟩ d hs).symm
    · rw [dif_neg a]
      unfold entryAt
      rw [dif_neg a]

end Cert.AttnReference

end
-- ==== Proof.AttnClaim.lean ====
/- The equation of kernel and reference: the windowed attention. -/
module

public import proofs.«01_k».proof.Defs
public import proofs.«01_k».proof.Proof.Gen.Pre_finite
public import proofs.«01_k».proof.Proof.AttnKernel
public import proofs.«01_k».proof.Proof.AttnReference

@[expose] public section

set_option maxRecDepth 16384

noncomputable section

open Idealize.ShloMosaic Idealize.ShloMosaic.TcCoe Idealize.SL.Sem

namespace Cert.AttnClaim

/-- With finite queries and keys and no sink of +∞, kernel and reference end with equal results: both are the attention's array. -/
theorem algebraic : Cert.algebraic_AttnIdeal_AttnRefIdeal_pre_finite (hAttnIdeal := Cert.AttnIdeal.Gen.facts) (hAttnRefIdeal := Cert.AttnRefIdeal.Gen.facts)
    (hPre_finite := Cert.Pre_finite.Gen.facts) := by
  intro m g m' g' hpre hag
  refine ⟨fun c => Cert.AttnKernel.A m c, ?_, ?_⟩
  · exact (θ_run _ _ _).mono (fun r h c => ⟨(h c).1.trans (Cert.AttnKernel.final m c), (h c).2⟩)
      (Cert.AttnIdeal.Value.run_blocks m g)
  · exact (θ_run _ _ _).mono (fun r h c => ⟨(h c).1.trans (by
        obtain ⟨a0, a1, a2, a3, a4, a5⟩ := hag c
        obtain ⟨p0, p1, p3, p5⟩ := hpre c
        refine (Cert.AttnRefIdeal.Read.val_main_v72_eq m' c).trans ?_
        rw [a0, a1, a2, a3, a4, a5]
        funext i
        idx_vars i
        exact Cert.AttnReference.result_eq _ _ _ _ _ _ _
          (fun i => Cert.AttnMath.finite_of_bit _ (congrFun p0 i)) (fun i => Cert.AttnMath.finite_of_bit _ (congrFun p1 i))
          (fun i => Cert.AttnMath.finite_of_bit _ (congrFun p3 i)) (fun i => Cert.AttnMath.below_of_bit _ (congrFun p5 i)) _ _), (h c).2⟩)
      (Cert.AttnRefIdeal.Value.run m' g')

end Cert.AttnClaim

end
-- ==== Proof.lean ====
module

public import proofs.«01_k».proof.Defs
public import proofs.«01_k».proof.Proof.Gen.AttnIdeal.Value
public import proofs.«01_k».proof.Proof.Gen.AttnRefIdeal.Run
public import proofs.«01_k».proof.Proof.Gen.AttnRefIdeal.Read
public import proofs.«01_k».proof.Proof.Gen.Ffn0Ideal.Value
public import proofs.«01_k».proof.Proof.Gen.Ffn0RefIdeal.Run
public import proofs.«01_k».proof.Proof.Gen.Ffn0RefIdeal.Read
public import proofs.«01_k».proof.Proof.Gen.Ffn1Ideal.Value
public import proofs.«01_k».proof.Proof.Gen.Ffn1RefIdeal.Run
public import proofs.«01_k».proof.Proof.Gen.Ffn1RefIdeal.Read
public import proofs.«01_k».proof.Proof.Gen.Ffn2Ideal.Value
public import proofs.«01_k».proof.Proof.Gen.Ffn2RefIdeal.Run
public import proofs.«01_k».proof.Proof.Gen.Ffn2RefIdeal.Read
public import proofs.«01_k».proof.Proof.Gen.Ffn3Ideal.Value
public import proofs.«01_k».proof.Proof.Gen.Ffn3RefIdeal.Run
public import proofs.«01_k».proof.Proof.Gen.Ffn3RefIdeal.Read
public import proofs.«01_k».proof.Proof.Gen.FfnCtxIdeal.Value
public import proofs.«01_k».proof.Proof.Gen.FfnCtxRefIdeal.Run
public import proofs.«01_k».proof.Proof.Gen.FfnCtxRefIdeal.Read
public import proofs.«01_k».proof.Proof.Gen.Attn
public import proofs.«01_k».proof.Proof.Gen.Attn.Skeleton
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal
public import proofs.«01_k».proof.Proof.Gen.Ffn0
public import proofs.«01_k».proof.Proof.Gen.Ffn0.Skeleton
public import proofs.«01_k».proof.Proof.Gen.Ffn0.Launch
public import proofs.«01_k».proof.Proof.Gen.Ffn0.Points
public import proofs.«01_k».proof.Proof.Gen.Ffn0.Frame
public import proofs.«01_k».proof.Proof.Gen.Ffn0Ideal
public import proofs.«01_k».proof.Proof.Gen.Ffn0Ideal.Skeleton
public import proofs.«01_k».proof.Proof.Gen.Ffn0Ideal.Launch
public import proofs.«01_k».proof.Proof.Gen.Ffn0Ideal.Points
public import proofs.«01_k».proof.Proof.Gen.Ffn0Ideal.Frame
public import proofs.«01_k».proof.Proof.Gen.Ffn0RefIdeal
public import proofs.«01_k».proof.Proof.Gen.Ffn1
public import proofs.«01_k».proof.Proof.Gen.Ffn1.Skeleton
public import proofs.«01_k».proof.Proof.Gen.Ffn1.Launch
public import proofs.«01_k».proof.Proof.Gen.Ffn1.Points
public import proofs.«01_k».proof.Proof.Gen.Ffn1.Frame
public import proofs.«01_k».proof.Proof.Gen.Ffn1Ideal
public import proofs.«01_k».proof.Proof.Gen.Ffn1Ideal.Skeleton
public import proofs.«01_k».proof.Proof.Gen.Ffn1Ideal.Launch
public import proofs.«01_k».proof.Proof.Gen.Ffn1Ideal.Points
public import proofs.«01_k».proof.Proof.Gen.Ffn1Ideal.Frame
public import proofs.«01_k».proof.Proof.Gen.Ffn1RefIdeal
public import proofs.«01_k».proof.Proof.Gen.Ffn2
public import proofs.«01_k».proof.Proof.Gen.Ffn2.Skeleton
public import proofs.«01_k».proof.Proof.Gen.Ffn2.Launch
public import proofs.«01_k».proof.Proof.Gen.Ffn2.Points
public import proofs.«01_k».proof.Proof.Gen.Ffn2.Frame
public import proofs.«01_k».proof.Proof.Gen.Ffn2Ideal
public import proofs.«01_k».proof.Proof.Gen.Ffn2Ideal.Skeleton
public import proofs.«01_k».proof.Proof.Gen.Ffn2Ideal.Launch
public import proofs.«01_k».proof.Proof.Gen.Ffn2Ideal.Points
public import proofs.«01_k».proof.Proof.Gen.Ffn2Ideal.Frame
public import proofs.«01_k».proof.Proof.Gen.Ffn2RefIdeal
public import proofs.«01_k».proof.Proof.Gen.Ffn3
public import proofs.«01_k».proof.Proof.Gen.Ffn3.Skeleton
public import proofs.«01_k».proof.Proof.Gen.Ffn3.Launch
public import proofs.«01_k».proof.Proof.Gen.Ffn3.Points
public import proofs.«01_k».proof.Proof.Gen.Ffn3.Frame
public import proofs.«01_k».proof.Proof.Gen.Ffn3Ideal
public import proofs.«01_k».proof.Proof.Gen.Ffn3Ideal.Skeleton
public import proofs.«01_k».proof.Proof.Gen.Ffn3Ideal.Launch
public import proofs.«01_k».proof.Proof.Gen.Ffn3Ideal.Points
public import proofs.«01_k».proof.Proof.Gen.Ffn3Ideal.Frame
public import proofs.«01_k».proof.Proof.Gen.Ffn3RefIdeal
public import proofs.«01_k».proof.Proof.Gen.FfnCtx
public import proofs.«01_k».proof.Proof.Gen.FfnCtx.Skeleton
public import proofs.«01_k».proof.Proof.Gen.FfnCtx.Launch
public import proofs.«01_k».proof.Proof.Gen.FfnCtx.Points
public import proofs.«01_k».proof.Proof.Gen.FfnCtx.Frame
public import proofs.«01_k».proof.Proof.Gen.FfnCtxIdeal
public import proofs.«01_k».proof.Proof.Gen.FfnCtxIdeal.Skeleton
public import proofs.«01_k».proof.Proof.Gen.FfnCtxIdeal.Launch
public import proofs.«01_k».proof.Proof.Gen.FfnCtxIdeal.Points
public import proofs.«01_k».proof.Proof.Gen.FfnCtxIdeal.Frame
public import proofs.«01_k».proof.Proof.Gen.FfnCtxRefIdeal
public import proofs.«01_k».proof.Proof.Gen.Pre_finite
public import proofs.«01_k».proof.Proof.Ffn0Claim
public import proofs.«01_k».proof.Proof.Ffn1Claim
public import proofs.«01_k».proof.Proof.Ffn2Claim
public import proofs.«01_k».proof.Proof.Ffn3Claim
public import proofs.«01_k».proof.Proof.FfnCtxClaim
public import proofs.«01_k».proof.Proof.AttnClaim
public import Idealize.ShloMosaic.Adequacy
public import Idealize.ShloMosaic.Init

@[expose] public section

noncomputable section

-- Each program's counters at zero are part of its `frame`; a program of host operations alone has no counters.

namespace Cert.Proof

open Idealize.ShloMosaic Idealize.SL.Sem Cert.Attn

/-- `Attn`'s reference terminates with its arguments unchanged. -/
theorem frame_AttnRef : Cert.quiescent_AttnRefIdeal (hAttnRefIdeal := Cert.AttnRefIdeal.Gen.facts) := fun m ρ _ =>
  (θ_run Cert.AttnRefIdeal.defs _ _).mono (fun r h => ⟨fun c => (h c).2, sem_eq_zero_of_no_sems (by decide) r.2⟩)
    (Cert.AttnRefIdeal.Value.run (F := Ideal) m ρ)

/-- `Ffn0`'s reference terminates with its arguments unchanged. -/
theorem frame_Ffn0Ref : Cert.quiescent_Ffn0RefIdeal (hFfn0RefIdeal := Cert.Ffn0RefIdeal.Gen.facts) := fun m ρ _ =>
  (θ_run Cert.Ffn0RefIdeal.defs _ _).mono (fun r h => ⟨fun c => (h c).2, sem_eq_zero_of_no_sems (by decide) r.2⟩)
    (Cert.Ffn0RefIdeal.Value.run (F := Ideal) m ρ)

/-- `Ffn1`'s reference terminates with its arguments unchanged. -/
theorem frame_Ffn1Ref : Cert.quiescent_Ffn1RefIdeal (hFfn1RefIdeal := Cert.Ffn1RefIdeal.Gen.facts) := fun m ρ _ =>
  (θ_run Cert.Ffn1RefIdeal.defs _ _).mono (fun r h => ⟨fun c => (h c).2, sem_eq_zero_of_no_sems (by decide) r.2⟩)
    (Cert.Ffn1RefIdeal.Value.run (F := Ideal) m ρ)

/-- `Ffn2`'s reference terminates with its arguments unchanged. -/
theorem frame_Ffn2Ref : Cert.quiescent_Ffn2RefIdeal (hFfn2RefIdeal := Cert.Ffn2RefIdeal.Gen.facts) := fun m ρ _ =>
  (θ_run Cert.Ffn2RefIdeal.defs _ _).mono (fun r h => ⟨fun c => (h c).2.2, sem_eq_zero_of_no_sems (by decide) r.2⟩)
    (Cert.Ffn2RefIdeal.Value.run (F := Ideal) m ρ)

/-- `Ffn3`'s reference terminates with its arguments unchanged. -/
theorem frame_Ffn3Ref : Cert.quiescent_Ffn3RefIdeal (hFfn3RefIdeal := Cert.Ffn3RefIdeal.Gen.facts) := fun m ρ _ =>
  (θ_run Cert.Ffn3RefIdeal.defs _ _).mono (fun r h => ⟨fun c => (h c).2, sem_eq_zero_of_no_sems (by decide) r.2⟩)
    (Cert.Ffn3RefIdeal.Value.run (F := Ideal) m ρ)

/-- `FfnCtx`'s reference terminates with its arguments unchanged. -/
theorem frame_FfnCtxRef : Cert.quiescent_FfnCtxRefIdeal (hFfnCtxRefIdeal := Cert.FfnCtxRefIdeal.Gen.facts) := fun m ρ _ =>
  (θ_run Cert.FfnCtxRefIdeal.defs _ _).mono (fun r h => ⟨fun c => (h c).2, sem_eq_zero_of_no_sems (by decide) r.2⟩)
    (Cert.FfnCtxRefIdeal.Value.run (F := Ideal) m ρ)

/-- The attention's ideal program is the kernel with its mask's constant read as −∞. -/
theorem preserves_mask : Cert.preserves_Attn_AttnIdeal :=
  IdealRules.named_const.statement Cert.AttnIdeal.κ "mask" .f32 0xF149F2CA#32 (⊥ : EReal) rfl

/-- Everything claimed: the frames of all programs, that each ideal program is its kernel, and the equations of kernel and
    reference. -/
theorem claim : Cert.Claim :=
  ⟨Cert.Attn.Gen.facts, Cert.AttnIdeal.Gen.facts, Cert.AttnRefIdeal.Gen.facts, Cert.Ffn0.Gen.facts, Cert.Ffn0Ideal.Gen.facts, Cert.Ffn0RefIdeal.Gen.facts, Cert.Ffn1.Gen.facts, Cert.Ffn1Ideal.Gen.facts, Cert.Ffn1RefIdeal.Gen.facts, Cert.Ffn2.Gen.facts, Cert.Ffn2Ideal.Gen.facts, Cert.Ffn2RefIdeal.Gen.facts, Cert.Ffn3.Gen.facts, Cert.Ffn3Ideal.Gen.facts, Cert.Ffn3RefIdeal.Gen.facts, Cert.FfnCtx.Gen.facts, Cert.FfnCtxIdeal.Gen.facts, Cert.FfnCtxRefIdeal.Gen.facts, Cert.Pre_finite.Gen.facts,
    fun m ρ _ => Cert.Attn.Gen.frame m ρ,
    fun m ρ _ => Cert.AttnIdeal.Gen.frame m ρ,
    fun m ρ _ => Cert.AttnIdeal.Gen.frame m ρ,
    frame_AttnRef,
    fun m ρ _ => frame_AttnRef m ρ trivial,
    fun m ρ _ => Cert.Ffn0.Gen.frame m ρ,
    fun m ρ _ => Cert.Ffn0Ideal.Gen.frame m ρ,
    frame_Ffn0Ref,
    fun m ρ _ => Cert.Ffn1.Gen.frame m ρ,
    fun m ρ _ => Cert.Ffn1Ideal.Gen.frame m ρ,
    frame_Ffn1Ref,
    fun m ρ _ => Cert.Ffn2.Gen.frame m ρ,
    fun m ρ _ => Cert.Ffn2Ideal.Gen.frame m ρ,
    frame_Ffn2Ref,
    fun m ρ _ => Cert.Ffn3.Gen.frame m ρ,
    fun m ρ _ => Cert.Ffn3Ideal.Gen.frame m ρ,
    frame_Ffn3Ref,
    fun m ρ _ => Cert.FfnCtx.Gen.frame m ρ,
    fun m ρ _ => Cert.FfnCtxIdeal.Gen.frame m ρ,
    frame_FfnCtxRef,
    preserves_mask,
    Cert.AttnClaim.algebraic,
    trivial,
    Cert.Ffn0Claim.algebraic,
    trivial,
    Cert.Ffn1Claim.algebraic,
    trivial,
    Cert.Ffn2Claim.algebraic,
    trivial,
    Cert.Ffn3Claim.algebraic,
    trivial,
    Cert.FfnCtxClaim.algebraic⟩

end Cert.Proof

end
